-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 [hPre_schedule6 : Cert.Pre_schedule6.Facts] (m : (ℓ : Loc Cert.Kernel6.nD Cert.Kernel6.τ Cert.Kernel6.sig) → Buf (Elt Bits) ℓ) : Prop :=
  ∀ c : Dev Cert.Kernel6.nD,
    (Cert.Pre_schedule6.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5)) (m ((c.tc : Thread Cert.Kernel6.nD Cert.Kernel6.τ).loc Cert.Kernel6.main_arg6)) (m ((c.tc : Thread Cert.Kernel6.nD Cert.Kernel6.τ).loc Cert.Kernel6.main_arg7))) = (fun _ => 1#1)

def Pre_Kernel6Ideal [hPre_schedule6 : Cert.Pre_schedule6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_schedule6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_schedule6 [hPre_schedule6 : Cert.Pre_schedule6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_schedule6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))) = (fun _ => 1#1)

def Pre_Kernel7 [hPre_schedule7 : Cert.Pre_schedule7.Facts] (m : (ℓ : Loc Cert.Kernel7.nD Cert.Kernel7.τ Cert.Kernel7.sig) → Buf (Elt Bits) ℓ) : Prop :=
  ∀ c : Dev Cert.Kernel7.nD,
    (Cert.Pre_schedule7.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4)) (m ((c.tc : Thread Cert.Kernel7.nD Cert.Kernel7.τ).loc Cert.Kernel7.main_arg5)) (m ((c.tc : Thread Cert.Kernel7.nD Cert.Kernel7.τ).loc Cert.Kernel7.main_arg6)) (m ((c.tc : Thread Cert.Kernel7.nD Cert.Kernel7.τ).loc Cert.Kernel7.main_arg7))) = (fun _ => 1#1)

def Pre_Kernel7Ideal [hPre_schedule7 : Cert.Pre_schedule7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_schedule7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_schedule7 [hPre_schedule7 : Cert.Pre_schedule7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_schedule7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] [hPre_schedule6 : Cert.Pre_schedule6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] [hPre_schedule6 : Cert.Pre_schedule6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_schedule6 [hReference6Ideal : Cert.Reference6Ideal.Facts] [hPre_schedule6 : Cert.Pre_schedule6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_schedule6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] [hPre_schedule7 : Cert.Pre_schedule7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] [hPre_schedule7 : Cert.Pre_schedule7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Reference7Ideal_pre_schedule7 [hReference7Ideal : Cert.Reference7Ideal.Facts] [hPre_schedule7 : Cert.Pre_schedule7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_schedule7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1)) (v1 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_v2) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_v51) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_v13) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_on_visited6 [hKernel6Ideal : Cert.Kernel6Ideal.Facts] [hReference6Ideal : Cert.Reference6Ideal.Facts] [hPre_schedule6 : Cert.Pre_schedule6.Facts] [hOn_visited6 : Cert.On_visited6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          (∀ i : (⟨2, ![57344, 2048]⟩ : Shape).Idx, (Cert.On_visited6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) i = 1#1 → r.2.mem ((c.tc : Thread Cert.Kernel6Ideal.nD Cert.Kernel6Ideal.τ).loc Cert.Kernel6Ideal.main_v0) i = v0 c i)
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          (∀ i : (⟨2, ![57344, 2048]⟩ : Shape).Idx, (Cert.On_visited6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) i = 1#1 → r.2.mem ((c.tc : Thread Cert.Reference6Ideal.nD Cert.Reference6Ideal.τ).loc Cert.Reference6Ideal.main_v50) i = v0 c i)
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal_on_visited7 [hKernel7Ideal : Cert.Kernel7Ideal.Facts] [hReference7Ideal : Cert.Reference7Ideal.Facts] [hPre_schedule7 : Cert.Pre_schedule7.Facts] [hOn_visited7 : Cert.On_visited7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          (∀ i : (⟨2, ![57344, 4096]⟩ : Shape).Idx, (Cert.On_visited7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))) i = 1#1 → r.2.mem ((c.tc : Thread Cert.Kernel7Ideal.nD Cert.Kernel7Ideal.τ).loc Cert.Kernel7Ideal.main_v0) i = v0 c i)
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          (∀ i : (⟨2, ![57344, 4096]⟩ : Shape).Idx, (Cert.On_visited7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))) i = 1#1 → r.2.mem ((c.tc : Thread Cert.Reference7Ideal.nD Cert.Reference7Ideal.τ).loc Cert.Reference7Ideal.main_v32) i = v0 c i)
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v83) = v0 c
          ∧ r.2.mem ((c.tc : Thread Cert.Reference8Ideal.nD Cert.Reference8Ideal.τ).loc Cert.Reference8Ideal.main_v112) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v46) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_schedule6 : Cert.Pre_schedule6.Facts) (hPre_schedule7 : Cert.Pre_schedule7.Facts) (hOn_visited6 : Cert.On_visited6.Facts) (hOn_visited7 : Cert.On_visited7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6) (hPre_schedule6 := hPre_schedule6)
    ∧ quiescent_Kernel6Ideal (hKernel6Ideal := hKernel6Ideal) (hPre_schedule6 := hPre_schedule6)
    ∧ quiescent_Reference6Ideal (hReference6Ideal := hReference6Ideal)
    ∧ quiescent_Reference6Ideal_pre_schedule6 (hReference6Ideal := hReference6Ideal) (hPre_schedule6 := hPre_schedule6)
    ∧ quiescent_Kernel7 (hKernel7 := hKernel7) (hPre_schedule7 := hPre_schedule7)
    ∧ quiescent_Kernel7Ideal (hKernel7Ideal := hKernel7Ideal) (hPre_schedule7 := hPre_schedule7)
    ∧ quiescent_Reference7Ideal (hReference7Ideal := hReference7Ideal)
    ∧ quiescent_Reference7Ideal_pre_schedule7 (hReference7Ideal := hReference7Ideal) (hPre_schedule7 := hPre_schedule7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_on_visited6 (hKernel6Ideal := hKernel6Ideal) (hReference6Ideal := hReference6Ideal) (hPre_schedule6 := hPre_schedule6) (hOn_visited6 := hOn_visited6)
    ∧ preserves_Kernel7_Kernel7Ideal
    ∧ algebraic_Kernel7Ideal_Reference7Ideal_on_visited7 (hKernel7Ideal := hKernel7Ideal) (hReference7Ideal := hReference7Ideal) (hPre_schedule7 := hPre_schedule7) (hOn_visited7 := hOn_visited7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== On_visited6.lean ====
abbrev S896 : Shape := ⟨1, ![896]⟩
abbrev S57344x4096 : Shape := ⟨2, ![57344, 4096]⟩
abbrev S2x32x4096x4096 : Shape := ⟨4, ![2, 32, 4096, 4096]⟩
abbrev S2x32x1x4096 : Shape := ⟨4, ![2, 32, 1, 4096]⟩
abbrev S1x896 : Shape := ⟨2, ![1, 896]⟩
abbrev S224 : Shape := ⟨1, ![224]⟩
abbrev S224x1 : Shape := ⟨2, ![224, 1]⟩
abbrev S224x896 : Shape := ⟨2, ![224, 896]⟩
abbrev S4 : Shape := ⟨1, ![4]⟩
abbrev S4x1 : Shape := ⟨2, ![4, 1]⟩
abbrev S4x896 : Shape := ⟨2, ![4, 896]⟩
abbrev S224x1x896 : Shape := ⟨3, ![224, 1, 896]⟩
abbrev S1x4x896 : Shape := ⟨3, ![1, 4, 896]⟩
abbrev S224x4x896 : Shape := ⟨3, ![224, 4, 896]⟩
abbrev S_ : Shape := ⟨0, ![]⟩
abbrev S224x4 : Shape := ⟨2, ![224, 4]⟩
abbrev S224x1x4x1 : Shape := ⟨4, ![224, 1, 4, 1]⟩
abbrev S224x256x4x512 : Shape := ⟨4, ![224, 256, 4, 512]⟩
abbrev S57344x2048 : Shape := ⟨2, ![57344, 2048]⟩

class Facts : Prop where
  bcast_S896_S1x896_1 : S896.BroadcastsInDim S1x896 (![1] : Fin 1 → Fin S1x896.rank)
  bcast_S224_S224x1_0 : S224.BroadcastsInDim S224x1 (![0] : Fin 1 → Fin S224x1.rank)
  bcast_S1x896_S224x896_0_1 : S1x896.BroadcastsInDim S224x896 (![0, 1] : Fin 2 → Fin S224x896.rank)
  bcast_S224x1_S224x896_0_1 : S224x1.BroadcastsInDim S224x896 (![0, 1] : Fin 2 → Fin S224x896.rank)
  bcast_S4_S4x1_0 : S4.BroadcastsInDim S4x1 (![0] : Fin 1 → Fin S4x1.rank)
  bcast_S1x896_S4x896_0_1 : S1x896.BroadcastsInDim S4x896 (![0, 1] : Fin 2 → Fin S4x896.rank)
  bcast_S4x1_S4x896_0_1 : S4x1.BroadcastsInDim S4x896 (![0, 1] : Fin 2 → Fin S4x896.rank)
  bcast_S224x896_S224x1x896_0_2 : S224x896.BroadcastsInDim S224x1x896 (![0, 2] : Fin 2 → Fin S224x1x896.rank)
  bcast_S4x896_S1x4x896_1_2 : S4x896.BroadcastsInDim S1x4x896 (![1, 2] : Fin 2 → Fin S1x4x896.rank)
  bcast_S224x1x896_S224x4x896_0_1_2 : S224x1x896.BroadcastsInDim S224x4x896 (![0, 1, 2] : Fin 3 → Fin S224x4x896.rank)
  bcast_S1x4x896_S224x4x896_0_1_2 : S1x4x896.BroadcastsInDim S224x4x896 (![0, 1, 2] : Fin 3 → Fin S224x4x896.rank)
  reducesTo_S224x4x896_S224x4_d2 : S224x4x896.ReducesTo [2] S224x4
  h_S_ : 0 < S_.numel
  bcast_S224x4_S224x1x4x1_0_2 : S224x4.BroadcastsInDim S224x1x4x1 (![0, 2] : Fin 2 → Fin S224x1x4x1.rank)
  bcast_S224x1x4x1_S224x256x4x512_0_1_2_3 : S224x1x4x1.BroadcastsInDim S224x256x4x512 (![0, 1, 2, 3] : Fin 4 → Fin S224x256x4x512.rank)
  shapeCasts_S224x256x4x512_S57344x2048 : S224x256x4x512.ShapeCasts S57344x2048

variable [Facts]

def fn {F : FTy → Type} [FloatOps F] (main_arg0 : IVec S896 32) (main_arg1 : IVec S896 32) (main_arg2 : IVec S896 32) (main_arg3 : IVec S896 32) (main_arg4 : IVec S896 32) (main_arg5 : FVec F S57344x4096 .bf16) (main_arg6 : FVec F S2x32x4096x4096 .f32) (main_arg7 : FVec F S2x32x1x4096 .f32) : IVec S57344x2048 1 :=
  let main_v0 : IVec S1x896 32 := broadcastInDim S1x896 ![1] bcast_S896_S1x896_1 main_arg2
  let main_v1 : IVec S224 32 := iotaInDim S224 32 0
  let main_v2 : IVec S224x1 32 := broadcastInDim S224x1 ![0] bcast_S224_S224x1_0 main_v1
  let main_v3 : IVec S224x896 32 := broadcastInDim S224x896 ![0, 1] bcast_S1x896_S224x896_0_1 main_v0
  let main_v4 : IVec S224x896 32 := broadcastInDim S224x896 ![0, 1] bcast_S224x1_S224x896_0_1 main_v2
  let main_v5 : IVec S224x896 1 := cmpi .eq main_v3 main_v4
  let main_v6 : IVec S1x896 32 := broadcastInDim S1x896 ![1] bcast_S896_S1x896_1 main_arg1
  let main_v7 : IVec S4 32 := iotaInDim S4 32 0
  let main_v8 : IVec S4x1 32 := broadcastInDim S4x1 ![0] bcast_S4_S4x1_0 main_v7
  let main_v9 : IVec S4x896 32 := broadcastInDim S4x896 ![0, 1] bcast_S1x896_S4x896_0_1 main_v6
  let main_v10 : IVec S4x896 32 := broadcastInDim S4x896 ![0, 1] bcast_S4x1_S4x896_0_1 main_v8
  let main_v11 : IVec S4x896 1 := cmpi .eq main_v9 main_v10
  let main_v12 : IVec S224x1x896 1 := broadcastInDim S224x1x896 ![0, 2] bcast_S224x896_S224x1x896_0_2 main_v5
  let main_v13 : IVec S1x4x896 1 := broadcastInDim S1x4x896 ![1, 2] bcast_S4x896_S1x4x896_1_2 main_v11
  let main_v14 : IVec S224x4x896 1 := broadcastInDim S224x4x896 ![0, 1, 2] bcast_S224x1x896_S224x4x896_0_1_2 main_v12
  let main_v15 : IVec S224x4x896 1 := broadcastInDim S224x4x896 ![0, 1, 2] bcast_S1x4x896_S224x4x896_0_1_2 main_v13
  let main_v16 : IVec S224x4x896 1 := andi main_v14 main_v15
  let main_c : IVec S_ 1 := constantI S_ 1 0#1
  let main_v17 : IVec S224x4 1 := (fun x v => Host.reduce IntOp.ori x v reducesTo_S224x4x896_S224x4_d2 h_S_) main_v16 main_c
  let main_v18 : IVec S224x1x4x1 1 := broadcastInDim S224x1x4x1 ![0, 2] bcast_S224x4_S224x1x4x1_0_2 main_v17
  let main_v19 : IVec S224x256x4x512 1 := broadcastInDim S224x256x4x512 ![0, 1, 2, 3] bcast_S224x1x4x1_S224x256x4x512_0_1_2_3 main_v18
  let main_v20 : IVec S57344x2048 1 := shapeCast S57344x2048 main_v19 shapeCasts_S224x256x4x512_S57344x2048
  main_v20
-- ==== On_visited7.lean ====
abbrev S896 : Shape := ⟨1, ![896]⟩
abbrev S57344x2048 : Shape := ⟨2, ![57344, 2048]⟩
abbrev S2x32x2048x4096 : Shape := ⟨4, ![2, 32, 2048, 4096]⟩
abbrev S2x32x1x4096 : Shape := ⟨4, ![2, 32, 1, 4096]⟩
abbrev S1x896 : Shape := ⟨2, ![1, 896]⟩
abbrev S224 : Shape := ⟨1, ![224]⟩
abbrev S224x1 : Shape := ⟨2, ![224, 1]⟩
abbrev S224x896 : Shape := ⟨2, ![224, 896]⟩
abbrev S4 : Shape := ⟨1, ![4]⟩
abbrev S4x1 : Shape := ⟨2, ![4, 1]⟩
abbrev S4x896 : Shape := ⟨2, ![4, 896]⟩
abbrev S224x1x896 : Shape := ⟨3, ![224, 1, 896]⟩
abbrev S1x4x896 : Shape := ⟨3, ![1, 4, 896]⟩
abbrev S224x4x896 : Shape := ⟨3, ![224, 4, 896]⟩
abbrev S_ : Shape := ⟨0, ![]⟩
abbrev S224x4 : Shape := ⟨2, ![224, 4]⟩
abbrev S224x1x4x1 : Shape := ⟨4, ![224, 1, 4, 1]⟩
abbrev S224x256x4x1024 : Shape := ⟨4, ![224, 256, 4, 1024]⟩
abbrev S57344x4096 : Shape := ⟨2, ![57344, 4096]⟩

class Facts : Prop where
  bcast_S896_S1x896_1 : S896.BroadcastsInDim S1x896 (![1] : Fin 1 → Fin S1x896.rank)
  bcast_S224_S224x1_0 : S224.BroadcastsInDim S224x1 (![0] : Fin 1 → Fin S224x1.rank)
  bcast_S1x896_S224x896_0_1 : S1x896.BroadcastsInDim S224x896 (![0, 1] : Fin 2 → Fin S224x896.rank)
  bcast_S224x1_S224x896_0_1 : S224x1.BroadcastsInDim S224x896 (![0, 1] : Fin 2 → Fin S224x896.rank)
  bcast_S4_S4x1_0 : S4.BroadcastsInDim S4x1 (![0] : Fin 1 → Fin S4x1.rank)
  bcast_S1x896_S4x896_0_1 : S1x896.BroadcastsInDim S4x896 (![0, 1] : Fin 2 → Fin S4x896.rank)
  bcast_S4x1_S4x896_0_1 : S4x1.BroadcastsInDim S4x896 (![0, 1] : Fin 2 → Fin S4x896.rank)
  bcast_S224x896_S224x1x896_0_2 : S224x896.BroadcastsInDim S224x1x896 (![0, 2] : Fin 2 → Fin S224x1x896.rank)
  bcast_S4x896_S1x4x896_1_2 : S4x896.BroadcastsInDim S1x4x896 (![1, 2] : Fin 2 → Fin S1x4x896.rank)
  bcast_S224x1x896_S224x4x896_0_1_2 : S224x1x896.BroadcastsInDim S224x4x896 (![0, 1, 2] : Fin 3 → Fin S224x4x896.rank)
  bcast_S1x4x896_S224x4x896_0_1_2 : S1x4x896.BroadcastsInDim S224x4x896 (![0, 1, 2] : Fin 3 → Fin S224x4x896.rank)
  reducesTo_S224x4x896_S224x4_d2 : S224x4x896.ReducesTo [2] S224x4
  h_S_ : 0 < S_.numel
  bcast_S224x4_S224x1x4x1_0_2 : S224x4.BroadcastsInDim S224x1x4x1 (![0, 2] : Fin 2 → Fin S224x1x4x1.rank)
  bcast_S224x1x4x1_S224x256x4x1024_0_1_2_3 : S224x1x4x1.BroadcastsInDim S224x256x4x1024 (![0, 1, 2, 3] : Fin 4 → Fin S224x256x4x1024.rank)
  shapeCasts_S224x256x4x1024_S57344x4096 : S224x256x4x1024.ShapeCasts S57344x4096

variable [Facts]

def fn {F : FTy → Type} [FloatOps F] (main_arg0 : IVec S896 32) (main_arg1 : IVec S896 32) (main_arg2 : IVec S896 32) (main_arg3 : IVec S896 32) (main_arg4 : IVec S896 32) (main_arg5 : FVec F S57344x2048 .bf16) (main_arg6 : FVec F S2x32x2048x4096 .f32) (main_arg7 : FVec F S2x32x1x4096 .f32) : IVec S57344x4096 1 :=
  let main_v0 : IVec S1x896 32 := broadcastInDim S1x896 ![1] bcast_S896_S1x896_1 main_arg2
  let main_v1 : IVec S224 32 := iotaInDim S224 32 0
  let main_v2 : IVec S224x1 32 := broadcastInDim S224x1 ![0] bcast_S224_S224x1_0 main_v1
  let main_v3 : IVec S224x896 32 := broadcastInDim S224x896 ![0, 1] bcast_S1x896_S224x896_0_1 main_v0
  let main_v4 : IVec S224x896 32 := broadcastInDim S224x896 ![0, 1] bcast_S224x1_S224x896_0_1 main_v2
  let main_v5 : IVec S224x896 1 := cmpi .eq main_v3 main_v4
  let main_v6 : IVec S1x896 32 := broadcastInDim S1x896 ![1] bcast_S896_S1x896_1 main_arg1
  let main_v7 : IVec S4 32 := iotaInDim S4 32 0
  let main_v8 : IVec S4x1 32 := broadcastInDim S4x1 ![0] bcast_S4_S4x1_0 main_v7
  let main_v9 : IVec S4x896 32 := broadcastInDim S4x896 ![0, 1] bcast_S1x896_S4x896_0_1 main_v6
  let main_v10 : IVec S4x896 32 := broadcastInDim S4x896 ![0, 1] bcast_S4x1_S4x896_0_1 main_v8
  let main_v11 : IVec S4x896 1 := cmpi .eq main_v9 main_v10
  let main_v12 : IVec S224x1x896 1 := broadcastInDim S224x1x896 ![0, 2] bcast_S224x896_S224x1x896_0_2 main_v5
  let main_v13 : IVec S1x4x896 1 := broadcastInDim S1x4x896 ![1, 2] bcast_S4x896_S1x4x896_1_2 main_v11
  let main_v14 : IVec S224x4x896 1 := broadcastInDim S224x4x896 ![0, 1, 2] bcast_S224x1x896_S224x4x896_0_1_2 main_v12
  let main_v15 : IVec S224x4x896 1 := broadcastInDim S224x4x896 ![0, 1, 2] bcast_S1x4x896_S224x4x896_0_1_2 main_v13
  let main_v16 : IVec S224x4x896 1 := andi main_v14 main_v15
  let main_c : IVec S_ 1 := constantI S_ 1 0#1
  let main_v17 : IVec S224x4 1 := (fun x v => Host.reduce IntOp.ori x v reducesTo_S224x4x896_S224x4_d2 h_S_) main_v16 main_c
  let main_v18 : IVec S224x1x4x1 1 := broadcastInDim S224x1x4x1 ![0, 2] bcast_S224x4_S224x1x4x1_0_2 main_v17
  let main_v19 : IVec S224x256x4x1024 1 := broadcastInDim S224x256x4x1024 ![0, 1, 2, 3] bcast_S224x1x4x1_S224x256x4x1024_0_1_2_3 main_v18
  let main_v20 : IVec S57344x4096 1 := shapeCast S57344x4096 main_v19 shapeCasts_S224x256x4x1024_S57344x4096
  main_v20
-- ==== Pre_finite.lean ====
abbrev S12288x11776 : Shape := ⟨2, ![12288, 11776]⟩
abbrev S_ : Shape := ⟨0, ![]⟩

class Facts : Prop where
  bcast_S_S12288x11776 : S_.BroadcastsInDim S12288x11776 (![] : Fin 0 → Fin S12288x11776.rank)

variable [Facts]

def fn {F : FTy → Type} [FloatOps F] (main_arg0 : FVec F S12288x11776 .f32) : IVec S12288x11776 1 :=
  let main_v0 : FVec F S12288x11776 .f32 := Host.absf main_arg0
  let main_cst : FVec F S_ .f32 := constant S_ .f32 0x7F800000#32
  let main_v1 : FVec F S12288x11776 .f32 := broadcastInDim S12288x11776 ![] bcast_S_S12288x11776 main_cst
  let main_v2 : IVec S12288x11776 1 := cmpf .olt main_v0 main_v1
  main_v2
-- ==== Pre_schedule6.lean ====
abbrev S896 : Shape := ⟨1, ![896]⟩
abbrev S57344x4096 : Shape := ⟨2, ![57344, 4096]⟩
abbrev S2x32x4096x4096 : Shape := ⟨4, ![2, 32, 4096, 4096]⟩
abbrev S2x32x1x4096 : Shape := ⟨4, ![2, 32, 1, 4096]⟩
abbrev S_ : Shape := ⟨0, ![]⟩
abbrev S1 : Shape := ⟨1, ![1]⟩
abbrev S895 : Shape := ⟨1, ![895]⟩
abbrev S896x1 : Shape := ⟨2, ![896, 1]⟩
abbrev S1x896 : Shape := ⟨2, ![1, 896]⟩
abbrev S896x896 : Shape := ⟨2, ![896, 896]⟩

class Facts : Prop where
  bcast_S_S896 : S_.BroadcastsInDim S896 (![] : Fin 0 → Fin S896.rank)
  slices_S896_S1_0 : S896.Slices ![0] S1
  slices_S896_S895_0 : S896.Slices ![0] S895
  concatenates_S1_S895_S896_d0 : Shape.Concatenates [S1, S895] S896 0
  bcast_S896_S896x1_0 : S896.BroadcastsInDim S896x1 (![0] : Fin 1 → Fin S896x1.rank)
  bcast_S896_S1x896_1 : S896.BroadcastsInDim S1x896 (![1] : Fin 1 → Fin S1x896.rank)
  bcast_S896x1_S896x896_0_1 : S896x1.BroadcastsInDim S896x896 (![0, 1] : Fin 2 → Fin S896x896.rank)
  bcast_S1x896_S896x896_0_1 : S1x896.BroadcastsInDim S896x896 (![0, 1] : Fin 2 → Fin S896x896.rank)

variable [Facts]

def fn_where {F : FTy → Type} [FloatOps F] (arg0 : IVec S896 1) (arg1 : IVec S896 1) (arg2 : IVec S896 1) : IVec S896 1 :=
  let v0 : IVec S896 1 := select arg0 arg1 arg2
  v0

def fn_part2 {F : FTy → Type} [FloatOps F] (main_arg0 : IVec S896 32) (main_arg2 : IVec S896 32) (main_v19 : IVec S896 1) (main_v24 : IVec S896 1) (main_v26 : IVec S896 1) (main_v34 : IVec S896 1) (main_v38 : IVec S896 1) : IVec S896x896 1 :=
  let main_v39 : IVec S896 1 := andi main_v24 main_v38
  let main_v40 : IVec S896 1 := fn_where (F := F) main_v26 main_v34 main_v39
  let main_v41 : IVec S896x1 32 := broadcastInDim S896x1 ![0] bcast_S896_S896x1_0 main_arg2
  let main_v42 : IVec S1x896 32 := broadcastInDim S1x896 ![1] bcast_S896_S1x896_1 main_arg2
  let main_v43 : IVec S896x896 32 := broadcastInDim S896x896 ![0, 1] bcast_S896x1_S896x896_0_1 main_v41
  let main_v44 : IVec S896x896 32 := broadcastInDim S896x896 ![0, 1] bcast_S1x896_S896x896_0_1 main_v42
  let main_v45 : IVec S896x896 1 := cmpi .ne main_v43 main_v44
  let main_v46 : IVec S896x1 32 := broadcastInDim S896x1 ![0] bcast_S896_S896x1_0 main_arg0
  let main_v47 : IVec S1x896 32 := broadcastInDim S1x896 ![1] bcast_S896_S1x896_1 main_arg0
  let main_v48 : IVec S896x896 32 := broadcastInDim S896x896 ![0, 1] bcast_S896x1_S896x896_0_1 main_v46
  let main_v49 : IVec S896x896 32 := broadcastInDim S896x896 ![0, 1] bcast_S1x896_S896x896_0_1 main_v47
  let main_v50 : IVec S896x896 1 := cmpi .eq main_v48 main_v49
  let main_v51 : IVec S896x896 1 := ori main_v45 main_v50
  let main_v52 : IVec S896 1 := andi main_v19 main_v40
  let main_v53 : IVec S896x1 1 := broadcastInDim S896x1 ![0] bcast_S896_S896x1_0 main_v52
  let main_v54 : IVec S896x896 1 := broadcastInDim S896x896 ![0, 1] bcast_S896x1_S896x896_0_1 main_v53
  let main_v55 : IVec S896x896 1 := andi main_v54 main_v51
  main_v55

def fn_part1 {F : FTy → Type} [FloatOps F] (main_arg0 : IVec S896 32) (main_arg1 : IVec S896 32) (main_arg2 : IVec S896 32) (main_arg3 : IVec S896 32) (main_arg4 : IVec S896 32) (main_v2 : IVec S896 1) (main_v16 : IVec S896 1) (main_c_5 : IVec S_ 32) : IVec S896x896 1 :=
  let main_v17 : IVec S896 32 := broadcastInDim S896 ![] bcast_S_S896 main_c_5
  let main_v18 : IVec S896 1 := cmpi .slt main_arg2 main_v17
  let main_v19 : IVec S896 1 := andi main_v16 main_v18
  let main_v20 : IVec S1 32 := (extractStridedSlice S1 ![0] · slices_S896_S1_0) main_arg1
  let main_v21 : IVec S895 32 := (extractStridedSlice S895 ![0] · slices_S896_S895_0) main_arg1
  let main_v22 : IVec S896 32 := (fun a b => concatenate S896 0 [⟨S1, a⟩, ⟨S895, b⟩] concatenates_S1_S895_S896_d0) main_v20 main_v21
  let main_v23 : IVec S896 1 := cmpi .eq main_arg1 main_v22
  let main_v24 : IVec S896 1 := andi main_v2 main_v23
  let main_c_6 : IVec S_ 32 := constantI S_ 32 1#32
  let main_v25 : IVec S896 32 := broadcastInDim S896 ![] bcast_S_S896 main_c_6
  let main_v26 : IVec S896 1 := cmpi .eq main_arg4 main_v25
  let main_c_7 : IVec S_ 32 := constantI S_ 32 1#32
  let main_v27 : IVec S896 32 := broadcastInDim S896 ![] bcast_S_S896 main_c_7
  let main_v28 : IVec S896 1 := cmpi .eq main_arg3 main_v27
  let main_v29 : IVec S1 32 := (extractStridedSlice S1 ![0] · slices_S896_S1_0) main_arg0
  let main_v30 : IVec S895 32 := (extractStridedSlice S895 ![0] · slices_S896_S895_0) main_arg0
  let main_v31 : IVec S896 32 := (fun a b => concatenate S896 0 [⟨S1, a⟩, ⟨S895, b⟩] concatenates_S1_S895_S896_d0) main_v29 main_v30
  let main_v32 : IVec S896 1 := cmpi .eq main_arg0 main_v31
  let main_v33 : IVec S896 1 := andi main_v24 main_v32
  let main_v34 : IVec S896 1 := ori main_v28 main_v33
  let main_v35 : IVec S1 32 := (extractStridedSlice S1 ![0] · slices_S896_S1_0) main_arg2
  let main_v36 : IVec S895 32 := (extractStridedSlice S895 ![0] · slices_S896_S895_0) main_arg2
  let main_v37 : IVec S896 32 := (fun a b => concatenate S896 0 [⟨S1, a⟩, ⟨S895, b⟩] concatenates_S1_S895_S896_d0) main_v35 main_v36
  let main_v38 : IVec S896 1 := cmpi .eq main_arg2 main_v37
  fn_part2 (F := F) main_arg0 main_arg2 main_v19 main_v24 main_v26 main_v34 main_v38

def fn {F : FTy → Type} [FloatOps F] (main_arg0 : IVec S896 32) (main_arg1 : IVec S896 32) (main_arg2 : IVec S896 32) (main_arg3 : IVec S896 32) (main_arg4 : IVec S896 32) (main_arg5 : FVec F S57344x4096 .bf16) (main_arg6 : FVec F S2x32x4096x4096 .f32) (main_arg7 : FVec F S2x32x1x4096 .f32) : IVec S896x896 1 :=
  let main_v0 : IVec S896 32 := iotaInDim S896 32 0
  let main_c : IVec S_ 32 := constantI S_ 32 0#32
  let main_v1 : IVec S896 32 := broadcastInDim S896 ![] bcast_S_S896 main_c
  let main_v2 : IVec S896 1 := cmpi .sgt main_v0 main_v1
  let main_c_0 : IVec S_ 32 := constantI S_ 32 0#32
  let main_v3 : IVec S896 32 := broadcastInDim S896 ![] bcast_S_S896 main_c_0
  let main_v4 : IVec S896 1 := cmpi .sge main_arg0 main_v3
  let main_c_1 : IVec S_ 32 := constantI S_ 32 32#32
  let main_v5 : IVec S896 32 := broadcastInDim S896 ![] bcast_S_S896 main_c_1
  let main_v6 : IVec S896 1 := cmpi .slt main_arg0 main_v5
  let main_v7 : IVec S896 1 := andi main_v4 main_v6
  let main_c_2 : IVec S_ 32 := constantI S_ 32 0#32
  let main_v8 : IVec S896 32 := broadcastInDim S896 ![] bcast_S_S896 main_c_2
  let main_v9 : IVec S896 1 := cmpi .sge main_arg1 main_v8
  let main_v10 : IVec S896 1 := andi main_v7 main_v9
  let main_c_3 : IVec S_ 32 := constantI S_ 32 4#32
  let main_v11 : IVec S896 32 := broadcastInDim S896 ![] bcast_S_S896 main_c_3
  let main_v12 : IVec S896 1 := cmpi .slt main_arg1 main_v11
  let main_v13 : IVec S896 1 := andi main_v10 main_v12
  let main_c_4 : IVec S_ 32 := constantI S_ 32 0#32
  let main_v14 : IVec S896 32 := broadcastInDim S896 ![] bcast_S_S896 main_c_4
  let main_v15 : IVec S896 1 := cmpi .sge main_arg2 main_v14
  let main_v16 : IVec S896 1 := andi main_v13 main_v15
  let main_c_5 : IVec S_ 32 := constantI S_ 32 224#32
  fn_part1 (F := F) main_arg0 main_arg1 main_arg2 main_arg3 main_arg4 main_v2 main_v16 main_c_5
-- ==== Pre_schedule7.lean ====
abbrev S896 : Shape := ⟨1, ![896]⟩
abbrev S57344x2048 : Shape := ⟨2, ![57344, 2048]⟩
abbrev S2x32x2048x4096 : Shape := ⟨4, ![2, 32, 2048, 4096]⟩
abbrev S2x32x1x4096 : Shape := ⟨4, ![2, 32, 1, 4096]⟩
abbrev S_ : Shape := ⟨0, ![]⟩
abbrev S1 : Shape := ⟨1, ![1]⟩
abbrev S895 : Shape := ⟨1, ![895]⟩
abbrev S896x1 : Shape := ⟨2, ![896, 1]⟩
abbrev S1x896 : Shape := ⟨2, ![1, 896]⟩
abbrev S896x896 : Shape := ⟨2, ![896, 896]⟩

class Facts : Prop where
  bcast_S_S896 : S_.BroadcastsInDim S896 (![] : Fin 0 → Fin S896.rank)
  slices_S896_S1_0 : S896.Slices ![0] S1
  slices_S896_S895_0 : S896.Slices ![0] S895
  concatenates_S1_S895_S896_d0 : Shape.Concatenates [S1, S895] S896 0
  bcast_S896_S896x1_0 : S896.BroadcastsInDim S896x1 (![0] : Fin 1 → Fin S896x1.rank)
  bcast_S896_S1x896_1 : S896.BroadcastsInDim S1x896 (![1] : Fin 1 → Fin S1x896.rank)
  bcast_S896x1_S896x896_0_1 : S896x1.BroadcastsInDim S896x896 (![0, 1] : Fin 2 → Fin S896x896.rank)
  bcast_S1x896_S896x896_0_1 : S1x896.BroadcastsInDim S896x896 (![0, 1] : Fin 2 → Fin S896x896.rank)

variable [Facts]

def fn_where {F : FTy → Type} [FloatOps F] (arg0 : IVec S896 1) (arg1 : IVec S896 1) (arg2 : IVec S896 1) : IVec S896 1 :=
  let v0 : IVec S896 1 := select arg0 arg1 arg2
  v0

def fn_part2 {F : FTy → Type} [FloatOps F] (main_arg0 : IVec S896 32) (main_arg2 : IVec S896 32) (main_v19 : IVec S896 1) (main_v24 : IVec S896 1) (main_v26 : IVec S896 1) (main_v34 : IVec S896 1) (main_v38 : IVec S896 1) : IVec S896x896 1 :=
  let main_v39 : IVec S896 1 := andi main_v24 main_v38
  let main_v40 : IVec S896 1 := fn_where (F := F) main_v26 main_v34 main_v39
  let main_v41 : IVec S896x1 32 := broadcastInDim S896x1 ![0] bcast_S896_S896x1_0 main_arg2
  let main_v42 : IVec S1x896 32 := broadcastInDim S1x896 ![1] bcast_S896_S1x896_1 main_arg2
  let main_v43 : IVec S896x896 32 := broadcastInDim S896x896 ![0, 1] bcast_S896x1_S896x896_0_1 main_v41
  let main_v44 : IVec S896x896 32 := broadcastInDim S896x896 ![0, 1] bcast_S1x896_S896x896_0_1 main_v42
  let main_v45 : IVec S896x896 1 := cmpi .ne main_v43 main_v44
  let main_v46 : IVec S896x1 32 := broadcastInDim S896x1 ![0] bcast_S896_S896x1_0 main_arg0
  let main_v47 : IVec S1x896 32 := broadcastInDim S1x896 ![1] bcast_S896_S1x896_1 main_arg0
  let main_v48 : IVec S896x896 32 := broadcastInDim S896x896 ![0, 1] bcast_S896x1_S896x896_0_1 main_v46
  let main_v49 : IVec S896x896 32 := broadcastInDim S896x896 ![0, 1] bcast_S1x896_S896x896_0_1 main_v47
  let main_v50 : IVec S896x896 1 := cmpi .eq main_v48 main_v49
  let main_v51 : IVec S896x896 1 := ori main_v45 main_v50
  let main_v52 : IVec S896 1 := andi main_v19 main_v40
  let main_v53 : IVec S896x1 1 := broadcastInDim S896x1 ![0] bcast_S896_S896x1_0 main_v52
  let main_v54 : IVec S896x896 1 := broadcastInDim S896x896 ![0, 1] bcast_S896x1_S896x896_0_1 main_v53
  let main_v55 : IVec S896x896 1 := andi main_v54 main_v51
  main_v55

def fn_part1 {F : FTy → Type} [FloatOps F] (main_arg0 : IVec S896 32) (main_arg1 : IVec S896 32) (main_arg2 : IVec S896 32) (main_arg3 : IVec S896 32) (main_arg4 : IVec S896 32) (main_v2 : IVec S896 1) (main_v16 : IVec S896 1) (main_c_5 : IVec S_ 32) : IVec S896x896 1 :=
  let main_v17 : IVec S896 32 := broadcastInDim S896 ![] bcast_S_S896 main_c_5
  let main_v18 : IVec S896 1 := cmpi .slt main_arg2 main_v17
  let main_v19 : IVec S896 1 := andi main_v16 main_v18
  let main_v20 : IVec S1 32 := (extractStridedSlice S1 ![0] · slices_S896_S1_0) main_arg1
  let main_v21 : IVec S895 32 := (extractStridedSlice S895 ![0] · slices_S896_S895_0) main_arg1
  let main_v22 : IVec S896 32 := (fun a b => concatenate S896 0 [⟨S1, a⟩, ⟨S895, b⟩] concatenates_S1_S895_S896_d0) main_v20 main_v21
  let main_v23 : IVec S896 1 := cmpi .eq main_arg1 main_v22
  let main_v24 : IVec S896 1 := andi main_v2 main_v23
  let main_c_6 : IVec S_ 32 := constantI S_ 32 1#32
  let main_v25 : IVec S896 32 := broadcastInDim S896 ![] bcast_S_S896 main_c_6
  let main_v26 : IVec S896 1 := cmpi .eq main_arg4 main_v25
  let main_c_7 : IVec S_ 32 := constantI S_ 32 1#32
  let main_v27 : IVec S896 32 := broadcastInDim S896 ![] bcast_S_S896 main_c_7
  let main_v28 : IVec S896 1 := cmpi .eq main_arg3 main_v27
  let main_v29 : IVec S1 32 := (extractStridedSlice S1 ![0] · slices_S896_S1_0) main_arg0
  let main_v30 : IVec S895 32 := (extractStridedSlice S895 ![0] · slices_S896_S895_0) main_arg0
  let main_v31 : IVec S896 32 := (fun a b => concatenate S896 0 [⟨S1, a⟩, ⟨S895, b⟩] concatenates_S1_S895_S896_d0) main_v29 main_v30
  let main_v32 : IVec S896 1 := cmpi .eq main_arg0 main_v31
  let main_v33 : IVec S896 1 := andi main_v24 main_v32
  let main_v34 : IVec S896 1 := ori main_v28 main_v33
  let main_v35 : IVec S1 32 := (extractStridedSlice S1 ![0] · slices_S896_S1_0) main_arg2
  let main_v36 : IVec S895 32 := (extractStridedSlice S895 ![0] · slices_S896_S895_0) main_arg2
  let main_v37 : IVec S896 32 := (fun a b => concatenate S896 0 [⟨S1, a⟩, ⟨S895, b⟩] concatenates_S1_S895_S896_d0) main_v35 main_v36
  let main_v38 : IVec S896 1 := cmpi .eq main_arg2 main_v37
  fn_part2 (F := F) main_arg0 main_arg2 main_v19 main_v24 main_v26 main_v34 main_v38

def fn {F : FTy → Type} [FloatOps F] (main_arg0 : IVec S896 32) (main_arg1 : IVec S896 32) (main_arg2 : IVec S896 32) (main_arg3 : IVec S896 32) (main_arg4 : IVec S896 32) (main_arg5 : FVec F S57344x2048 .bf16) (main_arg6 : FVec F S2x32x2048x4096 .f32) (main_arg7 : FVec F S2x32x1x4096 .f32) : IVec S896x896 1 :=
  let main_v0 : IVec S896 32 := iotaInDim S896 32 0
  let main_c : IVec S_ 32 := constantI S_ 32 0#32
  let main_v1 : IVec S896 32 := broadcastInDim S896 ![] bcast_S_S896 main_c
  let main_v2 : IVec S896 1 := cmpi .sgt main_v0 main_v1
  let main_c_0 : IVec S_ 32 := constantI S_ 32 0#32
  let main_v3 : IVec S896 32 := broadcastInDim S896 ![] bcast_S_S896 main_c_0
  let main_v4 : IVec S896 1 := cmpi .sge main_arg0 main_v3
  let main_c_1 : IVec S_ 32 := constantI S_ 32 32#32
  let main_v5 : IVec S896 32 := broadcastInDim S896 ![] bcast_S_S896 main_c_1
  let main_v6 : IVec S896 1 := cmpi .slt main_arg0 main_v5
  let main_v7 : IVec S896 1 := andi main_v4 main_v6
  let main_c_2 : IVec S_ 32 := constantI S_ 32 0#32
  let main_v8 : IVec S896 32 := broadcastInDim S896 ![] bcast_S_S896 main_c_2
  let main_v9 : IVec S896 1 := cmpi .sge main_arg1 main_v8
  let main_v10 : IVec S896 1 := andi main_v7 main_v9
  let main_c_3 : IVec S_ 32 := constantI S_ 32 4#32
  let main_v11 : IVec S896 32 := broadcastInDim S896 ![] bcast_S_S896 main_c_3
  let main_v12 : IVec S896 1 := cmpi .slt main_arg1 main_v11
  let main_v13 : IVec S896 1 := andi main_v10 main_v12
  let main_c_4 : IVec S_ 32 := constantI S_ 32 0#32
  let main_v14 : IVec S896 32 := broadcastInDim S896 ![] bcast_S_S896 main_c_4
  let main_v15 : IVec S896 1 := cmpi .sge main_arg2 main_v14
  let main_v16 : IVec S896 1 := andi main_v13 main_v15
  let main_c_5 : IVec S_ 32 := constantI S_ 32 224#32
  fn_part1 (F := F) main_arg0 main_arg1 main_arg2 main_arg3 main_arg4 main_v2 main_v16 main_c_5
-- ==== Kernel.lean ====
abbrev S12288x11776 : Shape := ⟨2, ![12288, 11776]⟩
abbrev S8192x1024 : Shape := ⟨2, ![8192, 1024]⟩
abbrev S32x8x256x128 : Shape := ⟨4, ![32, 8, 256, 128]⟩
abbrev S256x1024 : Shape := ⟨2, ![256, 1024]⟩
abbrev S1x8x256x128 : Shape := ⟨4, ![1, 8, 256, 128]⟩
abbrev S256x128 : Shape := ⟨2, ![256, 128]⟩
abbrev S1x1x256x128 : Shape := ⟨4, ![1, 1, 256, 128]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 12
  | .smem => 0
  | _ => 0

abbrev bufTy : (tb : Table) → Fin (tcTables nBuf tb) → BufTy
  | .hbm, ⟨0, _⟩ => ⟨S12288x11776, .f32⟩
  | .hbm, ⟨1, _⟩ => ⟨S8192x1024, .bf16⟩
  | .hbm, ⟨2, _⟩ => ⟨S32x8x256x128, .f32⟩
  | .hbm, ⟨3, _⟩ => ⟨S32x8x256x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S1x8x256x128, .f32⟩
  | .local _ .vmem, ⟨9, _⟩ => ⟨S1x8x256x128, .f32⟩
  | .local _ .vmem, ⟨10, _⟩ => ⟨S1x8x256x128, .f32⟩
  | .local _ .vmem, ⟨11, _⟩ => ⟨S1x8x256x128, .f32⟩
  | _, _ => ⟨S12288x11776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S12288x11776 : Shape := ⟨2, ![12288, 11776]⟩
abbrev S8192x3072 : Shape := ⟨2, ![8192, 3072]⟩
abbrev S32x256x3072 : Shape := ⟨3, ![32, 256, 3072]⟩
abbrev S32x256x1024 : Shape := ⟨3, ![32, 256, 1024]⟩
abbrev S32x256x8x128 : Shape := ⟨4, ![32, 256, 8, 128]⟩
abbrev S32x8x256x128 : Shape := ⟨4, ![32, 8, 256, 128]⟩
abbrev S32x8x256x256 : Shape := ⟨4, ![32, 8, 256, 256]⟩
abbrev S_ : Shape := ⟨0, ![]⟩
abbrev S32x8x256 : Shape := ⟨3, ![32, 8, 256]⟩
abbrev S32x8x256x1 : Shape := ⟨4, ![32, 8, 256, 1]⟩
abbrev S8192x1024 : Shape := ⟨2, ![8192, 1024]⟩

abbrev nBuf : Space → Nat
  | .hbm => 34
  | .vmem => 0
  | .smem => 0
  | _ => 0

abbrev bufTy : (tb : Table) → Fin (tcTables nBuf tb) → BufTy
  | .hbm, ⟨0, _⟩ => ⟨S12288x11776, .f32⟩
  | .hbm, ⟨1, _⟩ => ⟨S8192x3072, .f32⟩
  | .hbm, ⟨2, _⟩ => ⟨S32x256x3072, .f32⟩
  | .hbm, ⟨3, _⟩ => ⟨S32x256x1024, .f32⟩
  | .hbm, ⟨4, _⟩ => ⟨S32x256x8x128, .f32⟩
  | .hbm, ⟨5, _⟩ => ⟨S32x8x256x128, .f32⟩
  | .hbm, ⟨6, _⟩ => ⟨S32x256x1024, .f32⟩
  | .hbm, ⟨7, _⟩ => ⟨S32x256x8x128, .f32⟩
  | .hbm, ⟨8, _⟩ => ⟨S32x8x256x128, .f32⟩
  | .hbm, ⟨9, _⟩ => ⟨S32x256x1024, .f32⟩
  | .hbm, ⟨10, _⟩ => ⟨S32x256x8x128, .f32⟩
  | .hbm, ⟨11, _⟩ => ⟨S32x8x256x128, .f32⟩
  | .hbm, ⟨12, _⟩ => ⟨S32x8x256x256, .f32⟩
  | .hbm, ⟨13, _⟩ => ⟨S_, .f32⟩
  | .hbm, ⟨14, _⟩ => ⟨S32x8x256x256, .f32⟩
  | .hbm, ⟨15, _⟩ => ⟨S32x8x256x256, .f32⟩
  | .hbm, ⟨16, _⟩ => ⟨S_, .f32⟩
  | .hbm, ⟨17, _⟩ => ⟨S32x8x256, .f32⟩
  | .hbm, ⟨18, _⟩ => ⟨S_, .f32⟩
  | .hbm, ⟨19, _⟩ => ⟨S32x8x256, .f32⟩
  | .hbm, ⟨20, _⟩ => ⟨S32x8x256, .f32⟩
  | .hbm, ⟨21, _⟩ => ⟨S32x8x256x1, .f32⟩
  | .hbm, ⟨22, _⟩ => ⟨S32x8x256x256, .f32⟩
  | .hbm, ⟨23, _⟩ => ⟨S32x8x256x256, .f32⟩
  | .hbm, ⟨24, _⟩ => ⟨S32x8x256x256, .f32⟩
  | .hbm, ⟨25, _⟩ => ⟨S_, .f32⟩
  | .hbm, ⟨26, _⟩ => ⟨S32x8x256, .f32⟩
  | .hbm, ⟨27, _⟩ => ⟨S32x8x256x1, .f32⟩
  | .hbm, ⟨28, _⟩ => ⟨S32x8x256x256, .f32⟩
  | .hbm, ⟨29, _⟩ => ⟨S32x8x256x256, .f32⟩
  | .hbm, ⟨30, _⟩ => ⟨S32x8x256x128, .f32⟩
  | .hbm, ⟨31, _⟩ => ⟨S32x256x8x128, .f32⟩
  | .hbm, ⟨32, _⟩ => ⟨S8192x1024, .f32⟩
  | .hbm, ⟨33, _⟩ => ⟨S8192x1024, .bf16⟩
  | _, _ => ⟨S12288x11776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_cst_0 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_2 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Kernel2.lean ====
abbrev S12288x4096 : Shape := ⟨2, ![12288, 4096]⟩
abbrev S4096x11776 : Shape := ⟨2, ![4096, 11776]⟩
abbrev S4096 : Shape := ⟨1, ![4096]⟩
abbrev S8x1x4096 : Shape := ⟨3, ![8, 1, 4096]⟩
abbrev S1x4096 : Shape := ⟨2, ![1, 4096]⟩
abbrev S12288x11776 : Shape := ⟨2, ![12288, 11776]⟩
abbrev S512x4096 : Shape := ⟨2, ![512, 4096]⟩
abbrev S1x1x4096 : Shape := ⟨3, ![1, 1, 4096]⟩
abbrev S4096x512 : Shape := ⟨2, ![4096, 512]⟩
abbrev S512x512 : Shape := ⟨2, ![512, 512]⟩
abbrev S512 : Shape := ⟨1, ![512]⟩
abbrev S512x1 : Shape := ⟨2, ![512, 1]⟩
abbrev S8192x64 : Shape := ⟨2, ![8192, 64]⟩

abbrev nBuf : Space → Nat
  | .hbm => 8
  | .vmem => 12
  | .smem => 0
  | _ => 0

abbrev bufTy : (tb : Table) → Fin (tcTables nBuf tb) → BufTy
  | .hbm, ⟨0, _⟩ => ⟨S12288x4096, .f32⟩
  | .hbm, ⟨1, _⟩ => ⟨S4096x11776, .bf16⟩
  | .hbm, ⟨2, _⟩ => ⟨S4096, .f32⟩
  | .hbm, ⟨3, _⟩ => ⟨S8x1x4096, .f32⟩
  | .hbm, ⟨4, _⟩ => ⟨S8x1x4096, .f32⟩
  | .hbm, ⟨5, _⟩ => ⟨S1x4096, .f32⟩
  | .hbm, ⟨6, _⟩ => ⟨S12288x11776, .f32⟩
  | .hbm, ⟨7, _⟩ => ⟨S8192x64, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S4096x512, .bf16⟩
  | .local _ .vmem, ⟨8, _⟩ => ⟨S4096x512, .bf16⟩
  | .local _ .vmem, ⟨9, _⟩ => ⟨S512x512, .f32⟩
  | .local _ .vmem, ⟨10, _⟩ => ⟨S512x512, .f32⟩
  | .local _ .vmem, ⟨11, _⟩ => ⟨S512x4096, .bf16⟩
  | _, _ => ⟨S12288x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![24, 23], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg0 c16_i32
  let c16_i32_0 : BitVec 32 := 16#32
  let v1 : BitVec 32 := Scalar.subi arg0 c16_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S12288x4096 : Shape := ⟨2, ![12288, 4096]⟩
abbrev S4096x11776 : Shape := ⟨2, ![4096, 11776]⟩
abbrev S4096 : Shape := ⟨1, ![4096]⟩
abbrev S8x1x4096 : Shape := ⟨3, ![8, 1, 4096]⟩
abbrev S8192x4096 : Shape := ⟨2, ![8192, 4096]⟩
abbrev S32x256x4096 : Shape := ⟨3, ![32, 256, 4096]⟩
abbrev S_ : Shape := ⟨0, ![]⟩
abbrev S32x256 : Shape := ⟨2, ![32, 256]⟩
abbrev S32x256x1 : Shape := ⟨3, ![32, 256, 1]⟩
abbrev S1x1x4096 : Shape := ⟨3, ![1, 1, 4096]⟩
abbrev S4096x4096 : Shape := ⟨2, ![4096, 4096]⟩
abbrev S2x2048x4096 : Shape := ⟨3, ![2, 2048, 4096]⟩
abbrev S2x2048 : Shape := ⟨2, ![2, 2048]⟩
abbrev S2x2048x1 : Shape := ⟨3, ![2, 2048, 1]⟩
abbrev S2x1x4096 : Shape := ⟨3, ![2, 1, 4096]⟩
abbrev S12288x11776 : Shape := ⟨2, ![12288, 11776]⟩
abbrev S8192x64 : Shape := ⟨2, ![8192, 64]⟩

abbrev nBuf : Space → Nat
  | .hbm => 65
  | .vmem => 0
  | .smem => 0
  | _ => 0

abbrev bufTy : (tb : Table) → Fin (tcTables nBuf tb) → BufTy
  | .hbm, ⟨0, _⟩ => ⟨S12288x4096, .f32⟩
  | .hbm, ⟨1, _⟩ => ⟨S4096x11776, .bf16⟩
  | .hbm, ⟨2, _⟩ => ⟨S4096, .f32⟩
  | .hbm, ⟨3, _⟩ => ⟨S8x1x4096, .f32⟩
  | .hbm, ⟨4, _⟩ => ⟨S8x1x4096, .f32⟩
  | .hbm, ⟨5, _⟩ => ⟨S8192x4096, .f32⟩
  | .hbm, ⟨6, _⟩ => ⟨S32x256x4096, .f32⟩
  | .hbm, ⟨7, _⟩ => ⟨S32x256x4096, .f32⟩
  | .hbm, ⟨8, _⟩ => ⟨S_, .f32⟩
  | .hbm, ⟨9, _⟩ => ⟨S32x256, .f32⟩
  | .hbm, ⟨10, _⟩ => ⟨S32x256x1, .f32⟩
  | .hbm, ⟨11, _⟩ => ⟨S_, .f32⟩
  | .hbm, ⟨12, _⟩ => ⟨S32x256x1, .f32⟩
  | .hbm, ⟨13, _⟩ => ⟨S32x256x1, .f32⟩
  | .hbm, ⟨14, _⟩ => ⟨S_, .f32⟩
  | .hbm, ⟨15, _⟩ => ⟨S32x256x1, .f32⟩
  | .hbm, ⟨16, _⟩ => ⟨S32x256x1, .f32⟩
  | .hbm, ⟨17, _⟩ => ⟨S32x256x1, .f32⟩
  | .hbm, ⟨18, _⟩ => ⟨S32x256x4096, .f32⟩
  | .hbm, ⟨19, _⟩ => ⟨S32x256x4096, .f32⟩
  | .hbm, ⟨20, _⟩ => ⟨S1x1x4096, .f32⟩
  | .hbm, ⟨21, _⟩ => ⟨S32x256x4096, .f32⟩
  | .hbm, ⟨22, _⟩ => ⟨S32x256x4096, .f32⟩
  | .hbm, ⟨23, _⟩ => ⟨S1x1x4096, .f32⟩
  | .hbm, ⟨24, _⟩ => ⟨S_, .f32⟩
  | .hbm, ⟨25, _⟩ => ⟨S1x1x4096, .f32⟩
  | .hbm, ⟨26, _⟩ => ⟨S1x1x4096, .f32⟩
  | .hbm, ⟨27, _⟩ => ⟨S32x256x4096, .f32⟩
  | .hbm, ⟨28, _⟩ => ⟨S32x256x4096, .f32⟩
  | .hbm, ⟨29, _⟩ => ⟨S1x1x4096, .f32⟩
  | .hbm, ⟨30, _⟩ => ⟨S32x256x4096, .f32⟩
  | .hbm, ⟨31, _⟩ => ⟨S32x256x4096, .f32⟩
  | .hbm, ⟨32, _⟩ => ⟨S4096x4096, .f32⟩
  | .hbm, ⟨33, _⟩ => ⟨S2x2048x4096, .f32⟩
  | .hbm, ⟨34, _⟩ => ⟨S2x2048x4096, .f32⟩
  | .hbm, ⟨35, _⟩ => ⟨S_, .f32⟩
  | .hbm, ⟨36, _⟩ => ⟨S2x2048, .f32⟩
  | .hbm, ⟨37, _⟩ => ⟨S2x2048x1, .f32⟩
  | .hbm, ⟨38, _⟩ => ⟨S_, .f32⟩
  | .hbm, ⟨39, _⟩ => ⟨S2x2048x1, .f32⟩
  | .hbm, ⟨40, _⟩ => ⟨S2x2048x1, .f32⟩
  | .hbm, ⟨41, _⟩ => ⟨S_, .f32⟩
  | .hbm, ⟨42, _⟩ => ⟨S2x2048x1, .f32⟩
  | .hbm, ⟨43, _⟩ => ⟨S2x2048x1, .f32⟩
  | .hbm, ⟨44, _⟩ => ⟨S2x2048x1, .f32⟩
  | .hbm, ⟨45, _⟩ => ⟨S2x2048x4096, .f32⟩
  | .hbm, ⟨46, _⟩ => ⟨S2x2048x4096, .f32⟩
  | .hbm, ⟨47, _⟩ => ⟨S1x1x4096, .f32⟩
  | .hbm, ⟨48, _⟩ => ⟨S2x2048x4096, .f32⟩
  | .hbm, ⟨49, _⟩ => ⟨S2x2048x4096, .f32⟩
  | .hbm, ⟨50, _⟩ => ⟨S2x1x4096, .f32⟩
  | .hbm, ⟨51, _⟩ => ⟨S_, .f32⟩
  | .hbm, ⟨52, _⟩ => ⟨S2x1x4096, .f32⟩
  | .hbm, ⟨53, _⟩ => ⟨S2x1x4096, .f32⟩
  | .hbm, ⟨54, _⟩ => ⟨S2x2048x4096, .f32⟩
  | .hbm, ⟨55, _⟩ => ⟨S2x2048x4096, .f32⟩
  | .hbm, ⟨56, _⟩ => ⟨S2x1x4096, .f32⟩
  | .hbm, ⟨57, _⟩ => ⟨S2x2048x4096, .f32⟩
  | .hbm, ⟨58, _⟩ => ⟨S2x2048x4096, .f32⟩
  | .hbm, ⟨59, _⟩ => ⟨S8192x4096, .f32⟩
  | .hbm, ⟨60, _⟩ => ⟨S4096x4096, .f32⟩
  | .hbm, ⟨61, _⟩ => ⟨S12288x4096, .f32⟩
  | .hbm, ⟨62, _⟩ => ⟨S4096x11776, .f32⟩
  | .hbm, ⟨63, _⟩ => ⟨S12288x11776, .f32⟩
  | .hbm, ⟨64, _⟩ => ⟨S8192x64, .f32⟩
  | _, _ => ⟨S12288x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩

abbrev nD : Nat := 1
abbrev τ : Topo := Topo.v7x

variable {F : FTy → Type} [FloatOps F]
-- ==== Kernel3.lean ====
abbrev S12288x1024 : Shape := ⟨2, ![12288, 1024]⟩
abbrev S4096x4096 : Shape := ⟨2, ![4096, 4096]⟩
abbrev S12288x4096 : Shape := ⟨2, ![12288, 4096]⟩
abbrev S512x1024 : Shape := ⟨2, ![512, 1024]⟩
abbrev S4096x1024 : Shape := ⟨2, ![4096, 1024]⟩
abbrev S1024x1024 : Shape := ⟨2, ![1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S12288x1024, .bf16⟩
  | .hbm, ⟨1, _⟩ => ⟨S12288x1024, .bf16⟩
  | .hbm, ⟨2, _⟩ => ⟨S12288x1024, .bf16⟩
  | .hbm, ⟨3, _⟩ => ⟨S12288x1024, .bf16⟩
  | .hbm, ⟨4, _⟩ => ⟨S4096x4096, .bf16⟩
  | .hbm, ⟨5, _⟩ => ⟨S12288x4096, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S4096x1024, .bf16⟩
  | .local _ .vmem, ⟨9, _⟩ => ⟨S4096x1024, .bf16⟩
  | .local _ .vmem, ⟨10, _⟩ => ⟨S512x1024, .f32⟩
  | .local _ .vmem, ⟨11, _⟩ => ⟨S512x1024, .f32⟩
  | _, _ => ⟨S12288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S12288x1024 : Shape := ⟨2, ![12288, 1024]⟩
abbrev S4096x4096 : Shape := ⟨2, ![4096, 4096]⟩
abbrev S12288x4096 : Shape := ⟨2, ![12288, 4096]⟩

abbrev nBuf : Space → Nat
  | .hbm => 9
  | .vmem => 0
  | .smem => 0
  | _ => 0

abbrev bufTy : (tb : Table) → Fin (tcTables nBuf tb) → BufTy
  | .hbm, ⟨0, _⟩ => ⟨S12288x1024, .bf16⟩
  | .hbm, ⟨1, _⟩ => ⟨S12288x1024, .bf16⟩
  | .hbm, ⟨2, _⟩ => ⟨S12288x1024, .bf16⟩
  | .hbm, ⟨3, _⟩ => ⟨S12288x1024, .bf16⟩
  | .hbm, ⟨4, _⟩ => ⟨S4096x4096, .bf16⟩
  | .hbm, ⟨5, _⟩ => ⟨S12288x4096, .bf16⟩
  | .hbm, ⟨6, _⟩ => ⟨S12288x4096, .f32⟩
  | .hbm, ⟨7, _⟩ => ⟨S4096x4096, .f32⟩
  | .hbm, ⟨8, _⟩ => ⟨S12288x4096, .f32⟩
  | _, _ => ⟨S12288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel4.lean ====
abbrev S12288x11776 : Shape := ⟨2, ![12288, 11776]⟩
abbrev S512x2048 : Shape := ⟨2, ![512, 2048]⟩
abbrev S512 : Shape := ⟨1, ![512]⟩
abbrev S1x512 : Shape := ⟨2, ![1, 512]⟩
abbrev S12288x2048 : Shape := ⟨2, ![12288, 2048]⟩
abbrev S12288x512 : Shape := ⟨2, ![12288, 512]⟩
abbrev S512x512 : Shape := ⟨2, ![512, 512]⟩
abbrev S512x1024 : Shape := ⟨2, ![512, 1024]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S12288x11776, .f32⟩
  | .hbm, ⟨1, _⟩ => ⟨S512x2048, .bf16⟩
  | .hbm, ⟨2, _⟩ => ⟨S512, .f32⟩
  | .hbm, ⟨3, _⟩ => ⟨S1x512, .f32⟩
  | .hbm, ⟨4, _⟩ => ⟨S12288x2048, .bf16⟩
  | .hbm, ⟨5, _⟩ => ⟨S12288x512, .f32⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x512, .f32⟩
  | .local _ .vmem, ⟨8, _⟩ => ⟨S512x512, .f32⟩
  | .local _ .vmem, ⟨9, _⟩ => ⟨S512x512, .bf16⟩
  | _, _ => ⟨S12288x11776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![24, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c20_i32 : BitVec 32 := 20#32
  let c0_i32_0 : BitVec 32 := 0#32
  ![v0.toNat, c20_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S12288x11776 : Shape := ⟨2, ![12288, 11776]⟩
abbrev S512x2048 : Shape := ⟨2, ![512, 2048]⟩
abbrev S512 : Shape := ⟨1, ![512]⟩
abbrev S12288x512 : Shape := ⟨2, ![12288, 512]⟩
abbrev S_ : Shape := ⟨0, ![]⟩
abbrev S12288 : Shape := ⟨1, ![12288]⟩
abbrev S12288x1 : Shape := ⟨2, ![12288, 1]⟩
abbrev S1x512 : Shape := ⟨2, ![1, 512]⟩
abbrev S12288x2048 : Shape := ⟨2, ![12288, 2048]⟩

abbrev nBuf : Space → Nat
  | .hbm => 23
  | .vmem => 0
  | .smem => 0
  | _ => 0

abbrev bufTy : (tb : Table) → Fin (tcTables nBuf tb) → BufTy
  | .hbm, ⟨0, _⟩ => ⟨S12288x11776, .f32⟩
  | .hbm, ⟨1, _⟩ => ⟨S512x2048, .bf16⟩
  | .hbm, ⟨2, _⟩ => ⟨S512, .f32⟩
  | .hbm, ⟨3, _⟩ => ⟨S12288x512, .f32⟩
  | .hbm, ⟨4, _⟩ => ⟨S12288x512, .f32⟩
  | .hbm, ⟨5, _⟩ => ⟨S_, .f32⟩
  | .hbm, ⟨6, _⟩ => ⟨S12288, .f32⟩
  | .hbm, ⟨7, _⟩ => ⟨S12288x1, .f32⟩
  | .hbm, ⟨8, _⟩ => ⟨S_, .f32⟩
  | .hbm, ⟨9, _⟩ => ⟨S12288x1, .f32⟩
  | .hbm, ⟨10, _⟩ => ⟨S12288x1, .f32⟩
  | .hbm, ⟨11, _⟩ => ⟨S_, .f32⟩
  | .hbm, ⟨12, _⟩ => ⟨S12288x1, .f32⟩
  | .hbm, ⟨13, _⟩ => ⟨S12288x1, .f32⟩
  | .hbm, ⟨14, _⟩ => ⟨S12288x1, .f32⟩
  | .hbm, ⟨15, _⟩ => ⟨S12288x512, .f32⟩
  | .hbm, ⟨16, _⟩ => ⟨S12288x512, .f32⟩
  | .hbm, ⟨17, _⟩ => ⟨S1x512, .f32⟩
  | .hbm, ⟨18, _⟩ => ⟨S12288x512, .f32⟩
  | .hbm, ⟨19, _⟩ => ⟨S12288x512, .f32⟩
  | .hbm, ⟨20, _⟩ => ⟨S512x2048, .f32⟩
  | .hbm, ⟨21, _⟩ => ⟨S12288x2048, .f32⟩
  | .hbm, ⟨22, _⟩ => ⟨S12288x2048, .bf16⟩
  | _, _ => ⟨S12288x11776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel5.lean ====
abbrev S12288x11776 : Shape := ⟨2, ![12288, 11776]⟩
abbrev S768x1536 : Shape := ⟨2, ![768, 1536]⟩
abbrev S768 : Shape := ⟨1, ![768]⟩
abbrev S1x768 : Shape := ⟨2, ![1, 768]⟩
abbrev S12288x1536 : Shape := ⟨2, ![12288, 1536]⟩
abbrev S512x768 : Shape := ⟨2, ![512, 768]⟩
abbrev S768x512 : Shape := ⟨2, ![768, 512]⟩
abbrev S512x512 : Shape := ⟨2, ![512, 512]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S12288x11776, .f32⟩
  | .hbm, ⟨1, _⟩ => ⟨S768x1536, .bf16⟩
  | .hbm, ⟨2, _⟩ => ⟨S768, .f32⟩
  | .hbm, ⟨3, _⟩ => ⟨S1x768, .f32⟩
  | .hbm, ⟨4, _⟩ => ⟨S12288x1536, .f32⟩
  | .local _ .vmem, ⟨0, _⟩ => ⟨S512x768, .f32⟩
  | .local _ .vmem, ⟨1, _⟩ => ⟨S512x768, .f32⟩
  | .local _ .vmem, ⟨2, _⟩ => ⟨S1x768, .f32⟩
  | .local _ .vmem, ⟨3, _⟩ => ⟨S768x512, .bf16⟩
  | .local _ .vmem, ⟨4, _⟩ => ⟨S768x512, .bf16⟩
  | .local _ .vmem, ⟨5, _⟩ => ⟨S512x512, .f32⟩
  | .local _ .vmem, ⟨6, _⟩ => ⟨S512x512, .f32⟩
  | .local _ .vmem, ⟨7, _⟩ => ⟨S512x768, .bf16⟩
  | _, _ => ⟨S12288x11776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![24, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c14_i32 : BitVec 32 := 14#32
  let c0_i32_0 : BitVec 32 := 0#32
  ![v0.toNat, c14_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S12288x11776 : Shape := ⟨2, ![12288, 11776]⟩
abbrev S768x1536 : Shape := ⟨2, ![768, 1536]⟩
abbrev S768 : Shape := ⟨1, ![768]⟩
abbrev S12288x768 : Shape := ⟨2, ![12288, 768]⟩
abbrev S_ : Shape := ⟨0, ![]⟩
abbrev S12288 : Shape := ⟨1, ![12288]⟩
abbrev S12288x1 : Shape := ⟨2, ![12288, 1]⟩
abbrev S1x768 : Shape := ⟨2, ![1, 768]⟩
abbrev S12288x1536 : Shape := ⟨2, ![12288, 1536]⟩

abbrev nBuf : Space → Nat
  | .hbm => 22
  | .vmem => 0
  | .smem => 0
  | _ => 0

abbrev bufTy : (tb : Table) → Fin (tcTables nBuf tb) → BufTy
  | .hbm, ⟨0, _⟩ => ⟨S12288x11776, .f32⟩
  | .hbm, ⟨1, _⟩ => ⟨S768x1536, .bf16⟩
  | .hbm, ⟨2, _⟩ => ⟨S768, .f32⟩
  | .hbm, ⟨3, _⟩ => ⟨S12288x768, .f32⟩
  | .hbm, ⟨4, _⟩ => ⟨S12288x768, .f32⟩
  | .hbm, ⟨5, _⟩ => ⟨S_, .f32⟩
  | .hbm, ⟨6, _⟩ => ⟨S12288, .f32⟩
  | .hbm, ⟨7, _⟩ => ⟨S12288x1, .f32⟩
  | .hbm, ⟨8, _⟩ => ⟨S_, .f32⟩
  | .hbm, ⟨9, _⟩ => ⟨S12288x1, .f32⟩
  | .hbm, ⟨10, _⟩ => ⟨S12288x1, .f32⟩
  | .hbm, ⟨11, _⟩ => ⟨S_, .f32⟩
  | .hbm, ⟨12, _⟩ => ⟨S12288x1, .f32⟩
  | .hbm, ⟨13, _⟩ => ⟨S12288x1, .f32⟩
  | .hbm, ⟨14, _⟩ => ⟨S12288x1, .f32⟩
  | .hbm, ⟨15, _⟩ => ⟨S12288x768, .f32⟩
  | .hbm, ⟨16, _⟩ => ⟨S12288x768, .f32⟩
  | .hbm, ⟨17, _⟩ => ⟨S1x768, .f32⟩
  | .hbm, ⟨18, _⟩ => ⟨S12288x768, .f32⟩
  | .hbm, ⟨19, _⟩ => ⟨S12288x768, .f32⟩
  | .hbm, ⟨20, _⟩ => ⟨S768x1536, .f32⟩
  | .hbm, ⟨21, _⟩ => ⟨S12288x1536, .f32⟩
  | _, _ => ⟨S12288x11776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel6.lean ====
abbrev S896 : Shape := ⟨1, ![896]⟩
abbrev S57344x4096 : Shape := ⟨2, ![57344, 4096]⟩
abbrev S2x32x4096x4096 : Shape := ⟨4, ![2, 32, 4096, 4096]⟩
abbrev S2x32x1x4096 : Shape := ⟨4, ![2, 32, 1, 4096]⟩
abbrev S57344x2048 : Shape := ⟨2, ![57344, 2048]⟩
abbrev S256x4096 : Shape := ⟨2, ![256, 4096]⟩
abbrev S1 : Shape := ⟨1, ![1]⟩
abbrev S1x1x4096x1024 : Shape := ⟨4, ![1, 1, 4096, 1024]⟩
abbrev S1x1x1x1024 : Shape := ⟨4, ![1, 1, 1, 1024]⟩
abbrev S256x512 : Shape := ⟨2, ![256, 512]⟩
abbrev S4096x1024 : Shape := ⟨2, ![4096, 1024]⟩
abbrev S1x1x256x1024 : Shape := ⟨4, ![1, 1, 256, 1024]⟩
abbrev S256x1024 : Shape := ⟨2, ![256, 1024]⟩
abbrev S1x1024 : Shape := ⟨2, ![1, 1024]⟩
abbrev S256x128 : Shape := ⟨2, ![256, 128]⟩
abbrev S256x128x1 : Shape := ⟨3, ![256, 128, 1]⟩

abbrev nBuf : Space → Nat
  | .hbm => 4
  | .vmem => 9
  | .smem => 5
  | _ => 0

abbrev bufTy : (tb : Table) → Fin (tcTables nBuf tb) → BufTy
  | .hbm, ⟨0, _⟩ => ⟨S57344x4096, .bf16⟩
  | .hbm, ⟨1, _⟩ => ⟨S2x32x4096x4096, .f32⟩
  | .hbm, ⟨2, _⟩ => ⟨S2x32x1x4096, .f32⟩
  | .hbm, ⟨3, _⟩ => ⟨S57344x2048, .bf16⟩
  | .local _ .vmem, ⟨0, _⟩ => ⟨S256x4096, .bf16⟩
  | .local _ .vmem, ⟨1, _⟩ => ⟨S256x4096, .bf16⟩
  | .local _ .vmem, ⟨2, _⟩ => ⟨S1x1x4096x1024, .f32⟩
  | .local _ .vmem, ⟨3, _⟩ => ⟨S1x1x4096x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S256x512, .bf16⟩
  | .local _ .vmem, ⟨7, _⟩ => ⟨S256x512, .bf16⟩
  | .local _ .vmem, ⟨8, _⟩ => ⟨S4096x1024, .bf16⟩
  | .local _ .smem, ⟨0, _⟩ => ⟨S896, .i32⟩
  | .local _ .smem, ⟨1, _⟩ => ⟨S896, .i32⟩
  | .local _ .smem, ⟨2, _⟩ => ⟨S896, .i32⟩
  | .local _ .smem, ⟨3, _⟩ => ⟨S896, .i32⟩
  | .local _ .smem, ⟨4, _⟩ => ⟨S896, .i32⟩
  | _, _ => ⟨S57344x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg5 : Ref sig .tc := ⟨.hbm, 0, rfl⟩
abbrev main_arg6 : Ref sig .tc := ⟨.hbm, 1, rfl⟩
abbrev main_arg7 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![896], ![false]⟩

abbrev pre0 : Pipeline.Prefetch sig := ⟨5, ![main_arg0.idx, main_arg1.idx, main_arg2.idx, main_arg3.idx, main_arg4.idx], fun | 0 => main_arg0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
@[reducible] def k0_t1_loop : Scf.Loop 32 :=
  let c0_i32_50 : BitVec 32 := 0#32
  let c16_i32 : BitVec 32 := 16#32
  let v150 : BitVec 32 := Scalar.addi c0_i32_50 c16_i32
  let c1_i32_51 : BitVec 32 := 1#32
  ⟨c0_i32_50, v150, c1_i32_51⟩
def k0_mult1 (k0_t1 : Fin k0_t1_loop.trips) : BitVec 32 :=
  let c0_i32_50 : BitVec 32 := 0#32
  let c1_i32_51 : BitVec 32 := 1#32
  let arg11 : BitVec 32 := Scf.iv c0_i32_50 c1_i32_51 k0_t1
  let c256_i32 : BitVec 32 := 256#32
  let v151 : BitVec 32 := Scalar.muli arg11 c256_i32
  v151
def k0_off3 (k0_t1 : Fin k0_t1_loop.trips) : Fin 4 → Nat :=
  let c0_53 : Index := 0#32
  let c0_54 : Index := 0#32
  let c0_i32_50 : BitVec 32 := 0#32
  let c1_i32_51 : BitVec 32 := 1#32
  let arg11 : BitVec 32 := Scf.iv c0_i32_50 c1_i32_51 k0_t1
  let c256_i32 : BitVec 32 := 256#32
  let v151 : BitVec 32 := Scalar.muli arg11 c256_i32
  let v152 : BitVec 32 := v151
  let v153 : Index := Scalar.indexCast v152
  let c0_55 : Index := 0#32
  ![0, 0, v153.toNat, 0]
def k0_off4 (k0_t1 : Fin k0_t1_loop.trips) : Fin 2 → Nat :=
  let c0_i32_50 : BitVec 32 := 0#32
  let c1_i32_51 : BitVec 32 := 1#32
  let arg11 : BitVec 32 := Scf.iv c0_i32_50 c1_i32_51 k0_t1
  let c256_i32 : BitVec 32 := 256#32
  let v151 : BitVec 32 := Scalar.muli arg11 c256_i32
  let v152 : BitVec 32 := v151
  let v157 : Index := Scalar.indexCast v152
  let c0_56 : Index := 0#32
  ![v157.toNat, 0]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def cc0_transform_0 (k0_off1_inb : ∀ i : grid0.Coords, ∀ a, (k0_off1 i) a + S1.size a ≤ S896.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S896) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S896.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S896) ![v0.toNat] S1.size (k0_off1_inb i)) numel1_S1
  let v2 : Index := Scalar.indexCast arg0
  let v3 : BitVec 32 := pf.at 1 (Rect.unit (s := S896) ![v2.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, v3.toNat]

def cc0_transform_2 (k0_off1_inb : ∀ i : grid0.Coords, ∀ a, (k0_off1 i) a + S1.size a ≤ S896.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S896) ![v0.toNat] S1.size (k0_off1_inb i)) numel1_S1
  let v2 : Index := Scalar.indexCast arg0
  let v3 : BitVec 32 := pf.at 1 (Rect.unit (s := S896) ![v2.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, v3.toNat]

def cc0_transform_3 (k0_off1_inb : ∀ i : grid0.Coords, ∀ a, (k0_off1 i) a + S1.size a ≤ S896.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S896) ![v0.toNat] S1.size (k0_off1_inb i)) numel1_S1
  let v2 : Index := Scalar.indexCast arg0
  let v3 : BitVec 32 := pf.at 1 (Rect.unit (s := S896) ![v2.toNat] S1.size (k0_off1_inb i)) numel1_S1
  let c0_i32 : BitVec 32 := 0#32
  ![v1.toNat, v3.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S896 : Shape := ⟨1, ![896]⟩
abbrev S57344x4096 : Shape := ⟨2, ![57344, 4096]⟩
abbrev S2x32x4096x4096 : Shape := ⟨4, ![2, 32, 4096, 4096]⟩
abbrev S2x32x1x4096 : Shape := ⟨4, ![2, 32, 1, 4096]⟩
abbrev S1x896 : Shape := ⟨2, ![1, 896]⟩
abbrev S224 : Shape := ⟨1, ![224]⟩
abbrev S224x1 : Shape := ⟨2, ![224, 1]⟩
abbrev S224x896 : Shape := ⟨2, ![224, 896]⟩
abbrev S_ : Shape := ⟨0, ![]⟩
abbrev S224x256x4096 : Shape := ⟨3, ![224, 256, 4096]⟩
abbrev S1x32x4096x4096 : Shape := ⟨4, ![1, 32, 4096, 4096]⟩
abbrev S32x4096x4096 : Shape := ⟨3, ![32, 4096, 4096]⟩
abbrev S224x4096x4096 : Shape := ⟨3, ![224, 4096, 4096]⟩
abbrev S1x32x1x4096 : Shape := ⟨4, ![1, 32, 1, 4096]⟩
abbrev S32x1x4096 : Shape := ⟨3, ![32, 1, 4096]⟩
abbrev S224x1x4096 : Shape := ⟨3, ![224, 1, 4096]⟩
abbrev S224x256x2048 : Shape := ⟨3, ![224, 256, 2048]⟩
abbrev S57344x2048 : Shape := ⟨2, ![57344, 2048]⟩

abbrev nBuf : Space → Nat
  | .hbm => 80
  | .vmem => 0
  | .smem => 0
  | _ => 0

abbrev bufTy : (tb : Table) → Fin (tcTables nBuf tb) → BufTy
  | .hbm, ⟨0, _⟩ => ⟨S896, .i32⟩
  | .hbm, ⟨1, _⟩ => ⟨S896, .i32⟩
  | .hbm, ⟨2, _⟩ => ⟨S896, .i32⟩
  | .hbm, ⟨3, _⟩ => ⟨S896, .i32⟩
  | .hbm, ⟨4, _⟩ => ⟨S896, .i32⟩
  | .hbm, ⟨5, _⟩ => ⟨S57344x4096, .bf16⟩
  | .hbm, ⟨6, _⟩ => ⟨S2x32x4096x4096, .f32⟩
  | .hbm, ⟨7, _⟩ => ⟨S2x32x1x4096, .f32⟩
  | .hbm, ⟨8, _⟩ => ⟨S1x896, .i32⟩
  | .hbm, ⟨9, _⟩ => ⟨S224, .i32⟩
  | .hbm, ⟨10, _⟩ => ⟨S224x1, .i32⟩
  | .hbm, ⟨11, _⟩ => ⟨S224x896, .i32⟩
  | .hbm, ⟨12, _⟩ => ⟨S224x896, .i32⟩
  | .hbm, ⟨13, _⟩ => ⟨S224x896, .i1⟩
  | .hbm, ⟨14, _⟩ => ⟨S1x896, .i32⟩
  | .hbm, ⟨15, _⟩ => ⟨S_, .i32⟩
  | .hbm, ⟨16, _⟩ => ⟨S_, .i32⟩
  | .hbm, ⟨17, _⟩ => ⟨S224x896, .i32⟩
  | .hbm, ⟨18, _⟩ => ⟨S224x896, .i32⟩
  | .hbm, ⟨19, _⟩ => ⟨S224x896, .i32⟩
  | .hbm, ⟨20, _⟩ => ⟨S_, .i32⟩
  | .hbm, ⟨21, _⟩ => ⟨S224, .i32⟩
  | .hbm, ⟨22, _⟩ => ⟨S57344x4096, .f32⟩
  | .hbm, ⟨23, _⟩ => ⟨S224x256x4096, .f32⟩
  | .hbm, ⟨24, _⟩ => ⟨S1x32x4096x4096, .f32⟩
  | .hbm, ⟨25, _⟩ => ⟨S32x4096x4096, .f32⟩
  | .hbm, ⟨26, _⟩ => ⟨S_, .i32⟩
  | .hbm, ⟨27, _⟩ => ⟨S224, .i32⟩
  | .hbm, ⟨28, _⟩ => ⟨S224, .i1⟩
  | .hbm, ⟨29, _⟩ => ⟨S_, .i32⟩
  | .hbm, ⟨30, _⟩ => ⟨S224, .i32⟩
  | .hbm, ⟨31, _⟩ => ⟨S224, .i32⟩
  | .hbm, ⟨32, _⟩ => ⟨S224, .i32⟩
  | .hbm, ⟨33, _⟩ => ⟨S224x1, .i32⟩
  | .hbm, ⟨34, _⟩ => ⟨S224x4096x4096, .f32⟩
  | .hbm, ⟨35, _⟩ => ⟨S224x256x4096, .f32⟩
  | .hbm, ⟨36, _⟩ => ⟨S1x32x1x4096, .f32⟩
  | .hbm, ⟨37, _⟩ => ⟨S32x1x4096, .f32⟩
  | .hbm, ⟨38, _⟩ => ⟨S_, .i32⟩
  | .hbm, ⟨39, _⟩ => ⟨S224, .i32⟩
  | .hbm, ⟨40, _⟩ => ⟨S224, .i1⟩
  | .hbm, ⟨41, _⟩ => ⟨S_, .i32⟩
  | .hbm, ⟨42, _⟩ => ⟨S224, .i32⟩
  | .hbm, ⟨43, _⟩ => ⟨S224, .i32⟩
  | .hbm, ⟨44, _⟩ => ⟨S224, .i32⟩
  | .hbm, ⟨45, _⟩ => ⟨S224x1, .i32⟩
  | .hbm, ⟨46, _⟩ => ⟨S224x1x4096, .f32⟩
  | .hbm, ⟨47, _⟩ => ⟨S224x256x4096, .f32⟩
  | .hbm, ⟨48, _⟩ => ⟨S224x256x4096, .f32⟩
  | .hbm, ⟨49, _⟩ => ⟨S224x256x2048, .f32⟩
  | .hbm, ⟨50, _⟩ => ⟨S_, .f32⟩
  | .hbm, ⟨51, _⟩ => ⟨S224x256x2048, .f32⟩
  | .hbm, ⟨52, _⟩ => ⟨S224x256x2048, .f32⟩
  | .hbm, ⟨53, _⟩ => ⟨S224x256x2048, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S224x256x2048, .f32⟩
  | .hbm, ⟨58, _⟩ => ⟨S224x256x2048, .f32⟩
  | .hbm, ⟨59, _⟩ => ⟨S_, .f32⟩
  | .hbm, ⟨60, _⟩ => ⟨S224x256x2048, .f32⟩
  | .hbm, ⟨61, _⟩ => ⟨S224x256x2048, .f32⟩
  | .hbm, ⟨62, _⟩ => ⟨S_, .f32⟩
  | .hbm, ⟨63, _⟩ => ⟨S224x256x2048, .f32⟩
  | .hbm, ⟨64, _⟩ => ⟨S224x256x2048, .f32⟩
  | .hbm, ⟨65, _⟩ => ⟨S224x256x2048, .f32⟩
  | .hbm, ⟨66, _⟩ => ⟨S224x256x2048, .f32⟩
  | .hbm, ⟨67, _⟩ => ⟨S_, .f32⟩
  | .hbm, ⟨68, _⟩ => ⟨S224x256x2048, .f32⟩
  | .hbm, ⟨69, _⟩ => ⟨S224x256x2048, .f32⟩
  | .hbm, ⟨70, _⟩ => ⟨S_, .f32⟩
  | .hbm, ⟨71, _⟩ => ⟨S224x256x2048, .f32⟩
  | .hbm, ⟨72, _⟩ => ⟨S224x256x2048, .f32⟩
  | .hbm, ⟨73, _⟩ => ⟨S224x256x2048, .f32⟩
  | .hbm, ⟨74, _⟩ => ⟨S_, .f32⟩
  | .hbm, ⟨75, _⟩ => ⟨S224x256x2048, .f32⟩
  | .hbm, ⟨76, _⟩ => ⟨S224x256x2048, .f32⟩
  | .hbm, ⟨77, _⟩ => ⟨S224x256x2048, .f32⟩
  | .hbm, ⟨78, _⟩ => ⟨S57344x2048, .f32⟩
  | .hbm, ⟨79, _⟩ => ⟨S57344x2048, .bf16⟩
  | _, _ => ⟨S896, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_cst_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩

abbrev nD : Nat := 1
abbrev τ : Topo := Topo.v7x

variable {F : FTy → Type} [FloatOps F]
-- ==== Kernel7.lean ====
abbrev S896 : Shape := ⟨1, ![896]⟩
abbrev S57344x2048 : Shape := ⟨2, ![57344, 2048]⟩
abbrev S2x32x2048x4096 : Shape := ⟨4, ![2, 32, 2048, 4096]⟩
abbrev S2x32x1x4096 : Shape := ⟨4, ![2, 32, 1, 4096]⟩
abbrev S57344x4096 : Shape := ⟨2, ![57344, 4096]⟩
abbrev S256x2048 : Shape := ⟨2, ![256, 2048]⟩
abbrev S1 : Shape := ⟨1, ![1]⟩
abbrev S1x1x2048x1024 : Shape := ⟨4, ![1, 1, 2048, 1024]⟩
abbrev S1x1x1x1024 : Shape := ⟨4, ![1, 1, 1, 1024]⟩
abbrev S256x1024 : Shape := ⟨2, ![256, 1024]⟩
abbrev S2048x1024 : Shape := ⟨2, ![2048, 1024]⟩
abbrev S1x1x256x1024 : Shape := ⟨4, ![1, 1, 256, 1024]⟩
abbrev S1x1024 : Shape := ⟨2, ![1, 1024]⟩

abbrev nBuf : Space → Nat
  | .hbm => 4
  | .vmem => 9
  | .smem => 5
  | _ => 0

abbrev bufTy : (tb : Table) → Fin (tcTables nBuf tb) → BufTy
  | .hbm, ⟨0, _⟩ => ⟨S57344x2048, .bf16⟩
  | .hbm, ⟨1, _⟩ => ⟨S2x32x2048x4096, .f32⟩
  | .hbm, ⟨2, _⟩ => ⟨S2x32x1x4096, .f32⟩
  | .hbm, ⟨3, _⟩ => ⟨S57344x4096, .f32⟩
  | .local _ .vmem, ⟨0, _⟩ => ⟨S256x2048, .bf16⟩
  | .local _ .vmem, ⟨1, _⟩ => ⟨S256x2048, .bf16⟩
  | .local _ .vmem, ⟨2, _⟩ => ⟨S1x1x2048x1024, .f32⟩
  | .local _ .vmem, ⟨3, _⟩ => ⟨S1x1x2048x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S256x1024, .f32⟩
  | .local _ .vmem, ⟨7, _⟩ => ⟨S256x1024, .f32⟩
  | .local _ .vmem, ⟨8, _⟩ => ⟨S2048x1024, .bf16⟩
  | .local _ .smem, ⟨0, _⟩ => ⟨S896, .i32⟩
  | .local _ .smem, ⟨1, _⟩ => ⟨S896, .i32⟩
  | .local _ .smem, ⟨2, _⟩ => ⟨S896, .i32⟩
  | .local _ .smem, ⟨3, _⟩ => ⟨S896, .i32⟩
  | .local _ .smem, ⟨4, _⟩ => ⟨S896, .i32⟩
  | _, _ => ⟨S57344x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg5 : Ref sig .tc := ⟨.hbm, 0, rfl⟩
abbrev main_arg6 : Ref sig .tc := ⟨.hbm, 1, rfl⟩
abbrev main_arg7 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![896], ![false]⟩

abbrev pre0 : Pipeline.Prefetch sig := ⟨5, ![main_arg0.idx, main_arg1.idx, main_arg2.idx, main_arg3.idx, main_arg4.idx], fun | 0 => main_arg0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
@[reducible] def k0_t1_loop : Scf.Loop 32 :=
  let c0_i32_11 : BitVec 32 := 0#32
  let c8_i32 : BitVec 32 := 8#32
  let v18 : BitVec 32 := Scalar.addi c0_i32_11 c8_i32
  let c1_i32_12 : BitVec 32 := 1#32
  ⟨c0_i32_11, v18, c1_i32_12⟩
def k0_mult1 (k0_t1 : Fin k0_t1_loop.trips) : BitVec 32 :=
  let c0_i32_11 : BitVec 32 := 0#32
  let c1_i32_12 : BitVec 32 := 1#32
  let arg11 : BitVec 32 := Scf.iv c0_i32_11 c1_i32_12 k0_t1
  let c256_i32 : BitVec 32 := 256#32
  let v19 : BitVec 32 := Scalar.muli arg11 c256_i32
  v19
def k0_off3 (k0_t1 : Fin k0_t1_loop.trips) : Fin 4 → Nat :=
  let c0_14 : Index := 0#32
  let c0_15 : Index := 0#32
  let c0_i32_11 : BitVec 32 := 0#32
  let c1_i32_12 : BitVec 32 := 1#32
  let arg11 : BitVec 32 := Scf.iv c0_i32_11 c1_i32_12 k0_t1
  let c256_i32 : BitVec 32 := 256#32
  let v19 : BitVec 32 := Scalar.muli arg11 c256_i32
  let v20 : BitVec 32 := v19
  let v21 : Index := Scalar.indexCast v20
  let c0_16 : Index := 0#32
  ![0, 0, v21.toNat, 0]
def k0_off4 (k0_t1 : Fin k0_t1_loop.trips) : Fin 2 → Nat :=
  let c0_i32_11 : BitVec 32 := 0#32
  let c1_i32_12 : BitVec 32 := 1#32
  let arg11 : BitVec 32 := Scf.iv c0_i32_11 c1_i32_12 k0_t1
  let c256_i32 : BitVec 32 := 256#32
  let v19 : BitVec 32 := Scalar.muli arg11 c256_i32
  let v20 : BitVec 32 := v19
  let v25 : Index := Scalar.indexCast v20
  let c0_17 : Index := 0#32
  ![v25.toNat, 0]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def cc0_transform_0 (k0_off1_inb : ∀ i : grid0.Coords, ∀ a, (k0_off1 i) a + S1.size a ≤ S896.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S896) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S896.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S896) ![v0.toNat] S1.size (k0_off1_inb i)) numel1_S1
  let v2 : Index := Scalar.indexCast arg0
  let v3 : BitVec 32 := pf.at 1 (Rect.unit (s := S896) ![v2.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, v3.toNat]

def cc0_transform_2 (k0_off1_inb : ∀ i : grid0.Coords, ∀ a, (k0_off1 i) a + S1.size a ≤ S896.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S896) ![v0.toNat] S1.size (k0_off1_inb i)) numel1_S1
  let v2 : Index := Scalar.indexCast arg0
  let v3 : BitVec 32 := pf.at 1 (Rect.unit (s := S896) ![v2.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, v3.toNat]

def cc0_transform_3 (k0_off1_inb : ∀ i : grid0.Coords, ∀ a, (k0_off1 i) a + S1.size a ≤ S896.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S896) ![v0.toNat] S1.size (k0_off1_inb i)) numel1_S1
  let v2 : Index := Scalar.indexCast arg0
  let v3 : BitVec 32 := pf.at 1 (Rect.unit (s := S896) ![v2.toNat] S1.size (k0_off1_inb i)) numel1_S1
  let c0_i32 : BitVec 32 := 0#32
  ![v1.toNat, v3.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S896 : Shape := ⟨1, ![896]⟩
abbrev S57344x2048 : Shape := ⟨2, ![57344, 2048]⟩
abbrev S2x32x2048x4096 : Shape := ⟨4, ![2, 32, 2048, 4096]⟩
abbrev S2x32x1x4096 : Shape := ⟨4, ![2, 32, 1, 4096]⟩
abbrev S1x896 : Shape := ⟨2, ![1, 896]⟩
abbrev S224 : Shape := ⟨1, ![224]⟩
abbrev S224x1 : Shape := ⟨2, ![224, 1]⟩
abbrev S224x896 : Shape := ⟨2, ![224, 896]⟩
abbrev S_ : Shape := ⟨0, ![]⟩
abbrev S224x256x2048 : Shape := ⟨3, ![224, 256, 2048]⟩
abbrev S1x32x2048x4096 : Shape := ⟨4, ![1, 32, 2048, 4096]⟩
abbrev S32x2048x4096 : Shape := ⟨3, ![32, 2048, 4096]⟩
abbrev S224x2048x4096 : Shape := ⟨3, ![224, 2048, 4096]⟩
abbrev S224x256x4096 : Shape := ⟨3, ![224, 256, 4096]⟩
abbrev S1x32x1x4096 : Shape := ⟨4, ![1, 32, 1, 4096]⟩
abbrev S32x1x4096 : Shape := ⟨3, ![32, 1, 4096]⟩
abbrev S224x1x4096 : Shape := ⟨3, ![224, 1, 4096]⟩
abbrev S57344x4096 : Shape := ⟨2, ![57344, 4096]⟩

abbrev nBuf : Space → Nat
  | .hbm => 50
  | .vmem => 0
  | .smem => 0
  | _ => 0

abbrev bufTy : (tb : Table) → Fin (tcTables nBuf tb) → BufTy
  | .hbm, ⟨0, _⟩ => ⟨S896, .i32⟩
  | .hbm, ⟨1, _⟩ => ⟨S896, .i32⟩
  | .hbm, ⟨2, _⟩ => ⟨S896, .i32⟩
  | .hbm, ⟨3, _⟩ => ⟨S896, .i32⟩
  | .hbm, ⟨4, _⟩ => ⟨S896, .i32⟩
  | .hbm, ⟨5, _⟩ => ⟨S57344x2048, .bf16⟩
  | .hbm, ⟨6, _⟩ => ⟨S2x32x2048x4096, .f32⟩
  | .hbm, ⟨7, _⟩ => ⟨S2x32x1x4096, .f32⟩
  | .hbm, ⟨8, _⟩ => ⟨S1x896, .i32⟩
  | .hbm, ⟨9, _⟩ => ⟨S224, .i32⟩
  | .hbm, ⟨10, _⟩ => ⟨S224x1, .i32⟩
  | .hbm, ⟨11, _⟩ => ⟨S224x896, .i32⟩
  | .hbm, ⟨12, _⟩ => ⟨S224x896, .i32⟩
  | .hbm, ⟨13, _⟩ => ⟨S224x896, .i1⟩
  | .hbm, ⟨14, _⟩ => ⟨S1x896, .i32⟩
  | .hbm, ⟨15, _⟩ => ⟨S_, .i32⟩
  | .hbm, ⟨16, _⟩ => ⟨S_, .i32⟩
  | .hbm, ⟨17, _⟩ => ⟨S224x896, .i32⟩
  | .hbm, ⟨18, _⟩ => ⟨S224x896, .i32⟩
  | .hbm, ⟨19, _⟩ => ⟨S224x896, .i32⟩
  | .hbm, ⟨20, _⟩ => ⟨S_, .i32⟩
  | .hbm, ⟨21, _⟩ => ⟨S224, .i32⟩
  | .hbm, ⟨22, _⟩ => ⟨S57344x2048, .f32⟩
  | .hbm, ⟨23, _⟩ => ⟨S224x256x2048, .f32⟩
  | .hbm, ⟨24, _⟩ => ⟨S1x32x2048x4096, .f32⟩
  | .hbm, ⟨25, _⟩ => ⟨S32x2048x4096, .f32⟩
  | .hbm, ⟨26, _⟩ => ⟨S_, .i32⟩
  | .hbm, ⟨27, _⟩ => ⟨S224, .i32⟩
  | .hbm, ⟨28, _⟩ => ⟨S224, .i1⟩
  | .hbm, ⟨29, _⟩ => ⟨S_, .i32⟩
  | .hbm, ⟨30, _⟩ => ⟨S224, .i32⟩
  | .hbm, ⟨31, _⟩ => ⟨S224, .i32⟩
  | .hbm, ⟨32, _⟩ => ⟨S224, .i32⟩
  | .hbm, ⟨33, _⟩ => ⟨S224x1, .i32⟩
  | .hbm, ⟨34, _⟩ => ⟨S224x2048x4096, .f32⟩
  | .hbm, ⟨35, _⟩ => ⟨S224x256x4096, .f32⟩
  | .hbm, ⟨36, _⟩ => ⟨S1x32x1x4096, .f32⟩
  | .hbm, ⟨37, _⟩ => ⟨S32x1x4096, .f32⟩
  | .hbm, ⟨38, _⟩ => ⟨S_, .i32⟩
  | .hbm, ⟨39, _⟩ => ⟨S224, .i32⟩
  | .hbm, ⟨40, _⟩ => ⟨S224, .i1⟩
  | .hbm, ⟨41, _⟩ => ⟨S_, .i32⟩
  | .hbm, ⟨42, _⟩ => ⟨S224, .i32⟩
  | .hbm, ⟨43, _⟩ => ⟨S224, .i32⟩
  | .hbm, ⟨44, _⟩ => ⟨S224, .i32⟩
  | .hbm, ⟨45, _⟩ => ⟨S224x1, .i32⟩
  | .hbm, ⟨46, _⟩ => ⟨S224x1x4096, .f32⟩
  | .hbm, ⟨47, _⟩ => ⟨S224x256x4096, .f32⟩
  | .hbm, ⟨48, _⟩ => ⟨S224x256x4096, .f32⟩
  | .hbm, ⟨49, _⟩ => ⟨S57344x4096, .f32⟩
  | _, _ => ⟨S896, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]
-- ==== Kernel8.lean ====
abbrev S2x8 : Shape := ⟨2, ![2, 8]⟩
abbrev S12288x11776 : Shape := ⟨2, ![12288, 11776]⟩
abbrev S1024 : Shape := ⟨1, ![1024]⟩
abbrev S1x1024 : Shape := ⟨2, ![1, 1024]⟩
abbrev S8192x1024 : Shape := ⟨2, ![8192, 1024]⟩
abbrev S32x2x8x128x128 : Shape := ⟨5, ![32, 2, 8, 128, 128]⟩
abbrev S256x1024 : Shape := ⟨2, ![256, 1024]⟩
abbrev S1x2x8x128x128 : Shape := ⟨5, ![1, 2, 8, 128, 128]⟩
abbrev S256x256 : Shape := ⟨2, ![256, 256]⟩
abbrev S256x1 : Shape := ⟨2, ![256, 1]⟩
abbrev S1x1 : Shape := ⟨2, ![1, 1]⟩
abbrev S256x128 : Shape := ⟨2, ![256, 128]⟩
abbrev S256 : Shape := ⟨1, ![256]⟩
abbrev S1x128 : Shape := ⟨2, ![1, 128]⟩
abbrev S128x128 : Shape := ⟨2, ![128, 128]⟩
abbrev S1x1x1x128x128 : Shape := ⟨5, ![1, 1, 1, 128, 128]⟩

abbrev nBuf : Space → Nat
  | .hbm => 6
  | .vmem => 13
  | .smem => 1
  | _ => 0

abbrev bufTy : (tb : Table) → Fin (tcTables nBuf tb) → BufTy
  | .hbm, ⟨0, _⟩ => ⟨S2x8, .f32⟩
  | .hbm, ⟨1, _⟩ => ⟨S12288x11776, .f32⟩
  | .hbm, ⟨2, _⟩ => ⟨S1024, .f32⟩
  | .hbm, ⟨3, _⟩ => ⟨S1x1024, .f32⟩
  | .hbm, ⟨4, _⟩ => ⟨S8192x1024, .bf16⟩
  | .hbm, ⟨5, _⟩ => ⟨S32x2x8x128x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .bf16⟩
  | .local _ .vmem, ⟨10, _⟩ => ⟨S256x1024, .bf16⟩
  | .local _ .vmem, ⟨11, _⟩ => ⟨S1x2x8x128x128, .f32⟩
  | .local _ .vmem, ⟨12, _⟩ => ⟨S1x2x8x128x128, .f32⟩
  | .local _ .smem, ⟨0, _⟩ => ⟨S2x8, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c6_i32 : BitVec 32 := 6#32
  let c0_i32_0 : BitVec 32 := 0#32
  ![v2.toNat, c6_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c7_i32 : BitVec 32 := 7#32
  let c0_i32_0 : BitVec 32 := 0#32
  ![v0.toNat, c7_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let c0_i32_0 : BitVec 32 := 0#32
  ![v0.toNat, c8_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c9_i32 : BitVec 32 := 9#32
  let c0_i32_0 : BitVec 32 := 0#32
  ![v2.toNat, c9_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 1 → Memref sig .tc .smem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference8Ideal.lean ====
abbrev S2x8 : Shape := ⟨2, ![2, 8]⟩
abbrev S12288x11776 : Shape := ⟨2, ![12288, 11776]⟩
abbrev S1024 : Shape := ⟨1, ![1024]⟩
abbrev S8192x4096 : Shape := ⟨2, ![8192, 4096]⟩
abbrev S32x256x4096 : Shape := ⟨3, ![32, 256, 4096]⟩
abbrev S32x256x1024 : Shape := ⟨3, ![32, 256, 1024]⟩
abbrev S32x256x8x128 : Shape := ⟨4, ![32, 256, 8, 128]⟩
abbrev S32x8x256x128 : Shape := ⟨4, ![32, 8, 256, 128]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S32x8x256x256 : Shape := ⟨4, ![32, 8, 256, 256]⟩
abbrev S1x8 : Shape := ⟨2, ![1, 8]⟩
abbrev S8 : Shape := ⟨1, ![8]⟩
abbrev S8x1x1 : Shape := ⟨3, ![8, 1, 1]⟩
abbrev S1x256x256 : Shape := ⟨3, ![1, 256, 256]⟩
abbrev S8x256x256 : Shape := ⟨3, ![8, 256, 256]⟩
abbrev S1x8x256x256 : Shape := ⟨4, ![1, 8, 256, 256]⟩
abbrev S32x8x256 : Shape := ⟨3, ![32, 8, 256]⟩
abbrev S32x8x256x1 : Shape := ⟨4, ![32, 8, 256, 1]⟩
abbrev S1x1x1024 : Shape := ⟨3, ![1, 1, 1024]⟩
abbrev S8192x1024 : Shape := ⟨2, ![8192, 1024]⟩
abbrev S8x1 : Shape := ⟨2, ![8, 1]⟩
abbrev S8x256 : Shape := ⟨2, ![8, 256]⟩
abbrev S1x8x256x1 : Shape := ⟨4, ![1, 8, 256, 1]⟩
abbrev S32x8x128x128 : Shape := ⟨4, ![32, 8, 128, 128]⟩
abbrev S32x1x8x128x128 : Shape := ⟨5, ![32, 1, 8, 128, 128]⟩
abbrev S32x2x8x128x128 : Shape := ⟨5, ![32, 2, 8, 128, 128]⟩

abbrev nBuf : Space → Nat
  | .hbm => 143
  | .vmem => 0
  | .smem => 0
  | _ => 0

abbrev hbmTy0_0 (i : Nat) : BufTy := match i % 128 with
  | 0 => ⟨S2x8, .f32⟩
  | 1 => ⟨S12288x11776, .f32⟩
  | 2 => ⟨S1024, .f32⟩
  | 3 => ⟨S8192x4096, .f32⟩
  | 4 => ⟨S32x256x4096, .f32⟩
  | 5 => ⟨S32x256x1024, .f32⟩
  | 6 => ⟨S32x256x8x128, .f32⟩
  | 7 => ⟨S32x8x256x128, .f32⟩
  | 8 => ⟨S32x256x1024, .f32⟩
  | 9 => ⟨S32x256x8x128, .f32⟩
  | 10 => ⟨S32x8x256x128, .f32⟩
  | 11 => ⟨S32x256x1024, .f32⟩
  | 12 => ⟨S32x256x8x128, .f32⟩
  | 13 => ⟨S32x8x256x128, .f32⟩
  | 14 => ⟨S32x256x1024, .f32⟩
  | 15 => ⟨S_, .f32⟩
  | 16 => ⟨S32x8x256x128, .f32⟩
  | 17 => ⟨S32x8x256x128, .f32⟩
  | 18 => ⟨S256, .f32⟩
  | 19 => ⟨S256x1, .f32⟩
  | 20 => ⟨S1x256, .f32⟩
  | 21 => ⟨S256x256, .f32⟩
  | 22 => ⟨S256x256, .f32⟩
  | 23 => ⟨S256x256, .f32⟩
  | 24 => ⟨S32x8x256x256, .f32⟩
  | 25 => ⟨S1x8, .f32⟩
  | 26 => ⟨S8, .f32⟩
  | 27 => ⟨S_, .f32⟩
  | 28 => ⟨S256x256, .f32⟩
  | 29 => ⟨S256x256, .i1⟩
  | 30 => ⟨S_, .f32⟩
  | 31 => ⟨S256x256, .f32⟩
  | 32 => ⟨S256x256, .i1⟩
  | 33 => ⟨S8x1x1, .f32⟩
  | 34 => ⟨S1x256x256, .f32⟩
  | 35 => ⟨S8x256x256, .f32⟩
  | 36 => ⟨S8x256x256, .f32⟩
  | 37 => ⟨S8x256x256, .f32⟩
  | 38 => ⟨S_, .f32⟩
  | 39 => ⟨S_, .f32⟩
  | 40 => ⟨S8x256x256, .i1⟩
  | 41 => ⟨S8x256x256, .f32⟩
  | 42 => ⟨S8x256x256, .f32⟩
  | 43 => ⟨S8x256x256, .f32⟩
  | 44 => ⟨S_, .f32⟩
  | 45 => ⟨S_, .f32⟩
  | 46 => ⟨S8x256x256, .i1⟩
  | 47 => ⟨S8x256x256, .f32⟩
  | 48 => ⟨S8x256x256, .f32⟩
  | 49 => ⟨S1x8x256x256, .f32⟩
  | 50 => ⟨S32x8x256x256, .f32⟩
  | 51 => ⟨S32x8x256x256, .f32⟩
  | 52 => ⟨S32x8x256x128, .f32⟩
  | 53 => ⟨S256x256, .f32⟩
  | 54 => ⟨S1x8, .f32⟩
  | 55 => ⟨S8, .f32⟩
  | 56 => ⟨S_, .f32⟩
  | 57 => ⟨S256x256, .f32⟩
  | 58 => ⟨S256x256, .i1⟩
  | 59 => ⟨S_, .f32⟩
  | 60 => ⟨S256x256, .f32⟩
  | 61 => ⟨S256x256, .i1⟩
  | 62 => ⟨S8x1x1, .f32⟩
  | 63 => ⟨S1x256x256, .f32⟩
  | 64 => ⟨S8x256x256, .f32⟩
  | 65 => ⟨S8x256x256, .f32⟩
  | 66 => ⟨S8x256x256, .f32⟩
  | 67 => ⟨S_, .f32⟩
  | 68 => ⟨S_, .f32⟩
  | 69 => ⟨S8x256x256, .i1⟩
  | 70 => ⟨S8x256x256, .f32⟩
  | 71 => ⟨S8x256x256, .f32⟩
  | 72 => ⟨S8x256x256, .f32⟩
  | 73 => ⟨S_, .f32⟩
  | 74 => ⟨S_, .f32⟩
  | 75 => ⟨S8x256x256, .i1⟩
  | 76 => ⟨S8x256x256, .f32⟩
  | 77 => ⟨S8x256x256, .f32⟩
  | 78 => ⟨S1x8x256x256, .f32⟩
  | 79 => ⟨S32x8x256x256, .f32⟩
  | 80 => ⟨S32x8x256x256, .f32⟩
  | 81 => ⟨S32x8x256x128, .f32⟩
  | 82 => ⟨S32x8x256x128, .f32⟩
  | 83 => ⟨S32x8x256x128, .f32⟩
  | 84 => ⟨S_, .f32⟩
  | 85 => ⟨S32x8x256, .f32⟩
  | 86 => ⟨S32x8x256x1, .f32⟩
  | 87 => ⟨S_, .f32⟩
  | 88 => ⟨S32x8x256x1, .f32⟩
  | 89 => ⟨S32x8x256x1, .f32⟩
  | 90 => ⟨S_, .f32⟩
  | 91 => ⟨S32x8x256x1, .f32⟩
  | 92 => ⟨S32x8x256x1, .f32⟩
  | 93 => ⟨S32x8x256x1, .f32⟩
  | 94 => ⟨S32x8x256x128, .f32⟩
  | 95 => ⟨S32x8x256x128, .f32⟩
  | 96 => ⟨S32x256x8x128, .f32⟩
  | 97 => ⟨S32x256x1024, .f32⟩
  | 98 => ⟨S1x1x1024, .f32⟩
  | 99 => ⟨S32x256x1024, .f32⟩
  | 100 => ⟨S32x256x1024, .f32⟩
  | 101 => ⟨S32x256x1024, .f32⟩
  | 102 => ⟨S32x256x1024, .f32⟩
  | 103 => ⟨S_, .f32⟩
  | 104 => ⟨S32x256x1024, .f32⟩
  | 105 => ⟨S32x256x1024, .f32⟩
  | 106 => ⟨S_, .f32⟩
  | 107 => ⟨S32x256x1024, .f32⟩
  | 108 => ⟨S32x256x1024, .f32⟩
  | 109 => ⟨S32x256x1024, .f32⟩
  | 110 => ⟨S32x256x1024, .f32⟩
  | 111 => ⟨S8192x1024, .f32⟩
  | 112 => ⟨S8192x1024, .bf16⟩
  | 113 => ⟨S_, .f32⟩
  | 114 => ⟨S256, .f32⟩
  | 115 => ⟨S256, .f32⟩
  | 116 => ⟨S1x8, .f32⟩
  | 117 => ⟨S8, .f32⟩
  | 118 => ⟨S8x1, .f32⟩
  | 119 => ⟨S1x256, .f32⟩
  | 120 => ⟨S8x256, .f32⟩
  | 121 => ⟨S8x256, .f32⟩
  | 122 => ⟨S8x256, .f32⟩
  | 123 => ⟨S8x256, .f32⟩
  | 124 => ⟨S1x8x256x1, .f32⟩
  | 125 => ⟨S32x8x256x128, .f32⟩
  | 126 => ⟨S32x8x256x128, .f32⟩
  | 127 => ⟨S32x8x128x128, .f32⟩
  | _ => ⟨S2x8, .f32⟩

abbrev hbmTy0_1 (i : Nat) : BufTy := match i % 128 with
  | 0 => ⟨S1x8, .f32⟩
  | 1 => ⟨S8, .f32⟩
  | 2 => ⟨S8x1, .f32⟩
  | 3 => ⟨S1x256, .f32⟩
  | 4 => ⟨S8x256, .f32⟩
  | 5 => ⟨S8x256, .f32⟩
  | 6 => ⟨S8x256, .f32⟩
  | 7 => ⟨S8x256, .f32⟩
  | 8 => ⟨S1x8x256x1, .f32⟩
  | 9 => ⟨S32x8x256x128, .f32⟩
  | 10 => ⟨S32x8x256x128, .f32⟩
  | 11 => ⟨S32x8x128x128, .f32⟩
  | 12 => ⟨S32x1x8x128x128, .f32⟩
  | 13 => ⟨S32x1x8x128x128, .f32⟩
  | 14 => ⟨S32x2x8x128x128, .f32⟩
  | _ => ⟨S2x8, .f32⟩

abbrev hbmTy (i : Nat) : BufTy := match i / 128 with
  | 0 => hbmTy0_0 i
  | 1 => hbmTy0_1 i
  | _ => ⟨S2x8, .f32⟩

abbrev bufTy : (tb : Table) → Fin (tcTables nBuf tb) → BufTy
  | .hbm, ⟨i, _⟩ => hbmTy i
  | _, _ => ⟨S2x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_6 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v51 : Ref sig .tc := ⟨.hbm, 71, rfl⟩
abbrev main_v52 : Ref sig .tc := ⟨.hbm, 72, rfl⟩
abbrev main_cst_7 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_8 : Ref sig .tc := ⟨.hbm, 84, rfl⟩
abbrev main_v60 : Ref sig .tc := ⟨.hbm, 85, rfl⟩
abbrev main_v61 : Ref sig .tc := ⟨.hbm, 86, rfl⟩
abbrev main_cst_9 : Ref sig .tc := ⟨.hbm, 87, rfl⟩
abbrev main_v62 : Ref sig .tc := ⟨.hbm, 88, rfl⟩
abbrev main_v63 : Ref sig .tc := ⟨.hbm, 89, rfl⟩
abbrev main_cst_10 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_11 : Ref sig .tc := ⟨.hbm, 103, rfl⟩
abbrev main_v76 : Ref sig .tc := ⟨.hbm, 104, rfl⟩
abbrev main_v77 : Ref sig .tc := ⟨.hbm, 105, rfl⟩
abbrev main_cst_12 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_13 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩

abbrev nD : Nat := 1
abbrev τ : Topo := Topo.v7x

variable {F : FTy → Type} [FloatOps F]
-- ==== Kernel9.lean ====
abbrev S12288x4096 : Shape := ⟨2, ![12288, 4096]⟩
abbrev S12288x128 : Shape := ⟨2, ![12288, 128]⟩
abbrev S4096 : Shape := ⟨1, ![4096]⟩
abbrev S8x1x4096 : Shape := ⟨3, ![8, 1, 4096]⟩
abbrev S1x4096 : Shape := ⟨2, ![1, 4096]⟩
abbrev S128x4096 : Shape := ⟨2, ![128, 4096]⟩
abbrev S128x128 : Shape := ⟨2, ![128, 128]⟩
abbrev S1x1x4096 : Shape := ⟨3, ![1, 1, 4096]⟩
abbrev S128x1 : Shape := ⟨2, ![128, 1]⟩
abbrev S128 : Shape := ⟨1, ![128]⟩

abbrev nBuf : Space → Nat
  | .hbm => 10
  | .vmem => 17
  | .smem => 0
  | _ => 0

abbrev bufTy : (tb : Table) → Fin (tcTables nBuf tb) → BufTy
  | .hbm, ⟨0, _⟩ => ⟨S12288x4096, .f32⟩
  | .hbm, ⟨1, _⟩ => ⟨S12288x4096, .f32⟩
  | .hbm, ⟨2, _⟩ => ⟨S12288x4096, .f32⟩
  | .hbm, ⟨3, _⟩ => ⟨S12288x4096, .f32⟩
  | .hbm, ⟨4, _⟩ => ⟨S12288x128, .f32⟩
  | .hbm, ⟨5, _⟩ => ⟨S12288x4096, .f32⟩
  | .hbm, ⟨6, _⟩ => ⟨S4096, .f32⟩
  | .hbm, ⟨7, _⟩ => ⟨S8x1x4096, .f32⟩
  | .hbm, ⟨8, _⟩ => ⟨S1x4096, .f32⟩
  | .hbm, ⟨9, _⟩ => ⟨S12288x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x128, .f32⟩
  | .local _ .vmem, ⟨9, _⟩ => ⟨S128x128, .f32⟩
  | .local _ .vmem, ⟨10, _⟩ => ⟨S128x4096, .f32⟩
  | .local _ .vmem, ⟨11, _⟩ => ⟨S128x4096, .f32⟩
  | .local _ .vmem, ⟨12, _⟩ => ⟨S1x4096, .f32⟩
  | .local _ .vmem, ⟨13, _⟩ => ⟨S1x1x4096, .f32⟩
  | .local _ .vmem, ⟨14, _⟩ => ⟨S1x1x4096, .f32⟩
  | .local _ .vmem, ⟨15, _⟩ => ⟨S128x4096, .f32⟩
  | .local _ .vmem, ⟨16, _⟩ => ⟨S128x4096, .f32⟩
  | _, _ => ⟨S12288x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c64_i32 : BitVec 32 := 64#32
  let v0 : BitVec 1 := Scalar.cmpi .slt arg0 c64_i32
  let c64_i32_0 : BitVec 32 := 64#32
  let v1 : BitVec 32 := Scalar.subi arg0 c64_i32_0
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S12288x4096 : Shape := ⟨2, ![12288, 4096]⟩
abbrev S12288x128 : Shape := ⟨2, ![12288, 128]⟩
abbrev S4096 : Shape := ⟨1, ![4096]⟩
abbrev S8x1x4096 : Shape := ⟨3, ![8, 1, 4096]⟩
abbrev S12288x1 : Shape := ⟨2, ![12288, 1]⟩
abbrev S_ : Shape := ⟨0, ![]⟩
abbrev S12288 : Shape := ⟨1, ![12288]⟩
abbrev S1x4096 : Shape := ⟨2, ![1, 4096]⟩
abbrev S8192x4096 : Shape := ⟨2, ![8192, 4096]⟩
abbrev S32x256x4096 : Shape := ⟨3, ![32, 256, 4096]⟩
abbrev S1x1x4096 : Shape := ⟨3, ![1, 1, 4096]⟩
abbrev S4096x4096 : Shape := ⟨2, ![4096, 4096]⟩
abbrev S2x2048x4096 : Shape := ⟨3, ![2, 2048, 4096]⟩
abbrev S2x1x4096 : Shape := ⟨3, ![2, 1, 4096]⟩

abbrev nBuf : Space → Nat
  | .hbm => 58
  | .vmem => 0
  | .smem => 0
  | _ => 0

abbrev bufTy : (tb : Table) → Fin (tcTables nBuf tb) → BufTy
  | .hbm, ⟨0, _⟩ => ⟨S12288x4096, .f32⟩
  | .hbm, ⟨1, _⟩ => ⟨S12288x4096, .f32⟩
  | .hbm, ⟨2, _⟩ => ⟨S12288x4096, .f32⟩
  | .hbm, ⟨3, _⟩ => ⟨S12288x4096, .f32⟩
  | .hbm, ⟨4, _⟩ => ⟨S12288x128, .f32⟩
  | .hbm, ⟨5, _⟩ => ⟨S12288x4096, .f32⟩
  | .hbm, ⟨6, _⟩ => ⟨S4096, .f32⟩
  | .hbm, ⟨7, _⟩ => ⟨S8x1x4096, .f32⟩
  | .hbm, ⟨8, _⟩ => ⟨S12288x1, .f32⟩
  | .hbm, ⟨9, _⟩ => ⟨S12288x4096, .f32⟩
  | .hbm, ⟨10, _⟩ => ⟨S12288x4096, .f32⟩
  | .hbm, ⟨11, _⟩ => ⟨S12288x1, .f32⟩
  | .hbm, ⟨12, _⟩ => ⟨S12288x4096, .f32⟩
  | .hbm, ⟨13, _⟩ => ⟨S12288x4096, .f32⟩
  | .hbm, ⟨14, _⟩ => ⟨S12288x4096, .f32⟩
  | .hbm, ⟨15, _⟩ => ⟨S12288x1, .f32⟩
  | .hbm, ⟨16, _⟩ => ⟨S12288x4096, .f32⟩
  | .hbm, ⟨17, _⟩ => ⟨S12288x4096, .f32⟩
  | .hbm, ⟨18, _⟩ => ⟨S12288x4096, .f32⟩
  | .hbm, ⟨19, _⟩ => ⟨S12288x1, .f32⟩
  | .hbm, ⟨20, _⟩ => ⟨S12288x4096, .f32⟩
  | .hbm, ⟨21, _⟩ => ⟨S12288x4096, .f32⟩
  | .hbm, ⟨22, _⟩ => ⟨S12288x4096, .f32⟩
  | .hbm, ⟨23, _⟩ => ⟨S12288x4096, .f32⟩
  | .hbm, ⟨24, _⟩ => ⟨S_, .f32⟩
  | .hbm, ⟨25, _⟩ => ⟨S12288, .f32⟩
  | .hbm, ⟨26, _⟩ => ⟨S12288x1, .f32⟩
  | .hbm, ⟨27, _⟩ => ⟨S_, .f32⟩
  | .hbm, ⟨28, _⟩ => ⟨S12288x1, .f32⟩
  | .hbm, ⟨29, _⟩ => ⟨S12288x1, .f32⟩
  | .hbm, ⟨30, _⟩ => ⟨S_, .f32⟩
  | .hbm, ⟨31, _⟩ => ⟨S12288x1, .f32⟩
  | .hbm, ⟨32, _⟩ => ⟨S12288x1, .f32⟩
  | .hbm, ⟨33, _⟩ => ⟨S12288x1, .f32⟩
  | .hbm, ⟨34, _⟩ => ⟨S12288x4096, .f32⟩
  | .hbm, ⟨35, _⟩ => ⟨S12288x4096, .f32⟩
  | .hbm, ⟨36, _⟩ => ⟨S1x4096, .f32⟩
  | .hbm, ⟨37, _⟩ => ⟨S12288x4096, .f32⟩
  | .hbm, ⟨38, _⟩ => ⟨S12288x4096, .f32⟩
  | .hbm, ⟨39, _⟩ => ⟨S8192x4096, .f32⟩
  | .hbm, ⟨40, _⟩ => ⟨S32x256x4096, .f32⟩
  | .hbm, ⟨41, _⟩ => ⟨S1x1x4096, .f32⟩
  | .hbm, ⟨42, _⟩ => ⟨S8192x4096, .f32⟩
  | .hbm, ⟨43, _⟩ => ⟨S32x256x4096, .f32⟩
  | .hbm, ⟨44, _⟩ => ⟨S32x256x4096, .f32⟩
  | .hbm, ⟨45, _⟩ => ⟨S32x256x4096, .f32⟩
  | .hbm, ⟨46, _⟩ => ⟨S32x256x4096, .f32⟩
  | .hbm, ⟨47, _⟩ => ⟨S4096x4096, .f32⟩
  | .hbm, ⟨48, _⟩ => ⟨S2x2048x4096, .f32⟩
  | .hbm, ⟨49, _⟩ => ⟨S2x1x4096, .f32⟩
  | .hbm, ⟨50, _⟩ => ⟨S4096x4096, .f32⟩
  | .hbm, ⟨51, _⟩ => ⟨S2x2048x4096, .f32⟩
  | .hbm, ⟨52, _⟩ => ⟨S2x2048x4096, .f32⟩
  | .hbm, ⟨53, _⟩ => ⟨S2x2048x4096, .f32⟩
  | .hbm, ⟨54, _⟩ => ⟨S2x2048x4096, .f32⟩
  | .hbm, ⟨55, _⟩ => ⟨S8192x4096, .f32⟩
  | .hbm, ⟨56, _⟩ => ⟨S4096x4096, .f32⟩
  | .hbm, ⟨57, _⟩ => ⟨S12288x4096, .f32⟩
  | _, _ => ⟨S12288x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]
-- ==== Proof.Softmax.lean ====
module

public import Idealize.ShloMosaic.PureOps.Ideal.Laws

@[expose] public section

noncomputable section

open Idealize.ShloMosaic

/-! ## A softmax-weighted mean, divided once at the end or weight by weight -/

namespace Cert.Softmax

/-- A number: neither infinity. -/
def Num (x : EReal) : Prop := ∃ r : ℝ, x = (r : EReal)

theorem Num.mul {x y : EReal} (hx : Num x) (hy : Num y) : Num (x * y) := by
  obtain ⟨a, rfl⟩ := hx
  obtain ⟨b, rfl⟩ := hy
  exact ⟨a * b, (EReal.coe_mul a b).symm⟩

theorem Num.add {x y : EReal} (hx : Num x) (hy : Num y) : Num (x + y) := by
  obtain ⟨a, rfl⟩ := hx
  obtain ⟨b, rfl⟩ := hy
  exact ⟨a + b, (EReal.coe_add a b).symm⟩

/-- A finite sum of numbers is the number their real sum is. -/
theorem coe_sum {ι : Type*} (s : Finset ι) (f : ι → ℝ) : ((∑ i ∈ s, f i : ℝ) : EReal) = ∑ i ∈ s, (f i : EReal) := by
  classical
  induction s using Finset.induction_on with
  | empty => simp
  | insert a t ha ih => rw [Finset.sum_insert ha, Finset.sum_insert ha, EReal.coe_add, ih]

theorem Num.sum {ι : Type*} (s : Finset ι) {f : ι → EReal} (hf : ∀ i, Num (f i)) : Num (∑ i ∈ s, f i) := by
  choose g hg using hf
  exact ⟨∑ i ∈ s, g i, by rw [coe_sum]; exact Finset.sum_congr rfl fun i _ => hg i⟩

/-- A value strictly below its own positive infinity in absolute value is a number. -/
theorem num_of_abs_lt {x : EReal} (h : max x (-x) < ⊤) : Num x := by
  induction x with
  | bot => simp at h
  | coe r => exact ⟨r, rfl⟩
  | top => simp at h

/-- The f32 word of minus infinity denotes it. -/
theorem negInf : Ideal.ofBits FTy.f32 4286578688#32 = ⊥ := by simp [Ideal.ofBits, Ideal.ieee]

/-- The largest of some values, minus infinity for none. -/
def top {ι : Type*} [Fintype ι] (s : ι → EReal) : EReal := Finset.fold max ⊥ s Finset.univ

/-- The largest of one or more numbers is a number. -/
theorem num_top {ι : Type*} [Fintype ι] [Nonempty ι] {s : ι → EReal} (hs : ∀ i, Num (s i)) : Num (top s) := by
  choose r hr using hs
  have hlt : top s < ⊤ := by
    unfold top
    rw [Finset.fold_max_lt]
    exact ⟨bot_lt_top, fun i _ => by rw [hr i]; exact EReal.coe_lt_top _⟩
  have hgt : ⊥ < top s := by
    obtain ⟨i⟩ := ‹Nonempty ι›
    unfold top
    rw [Finset.lt_fold_max]
    exact Or.inr ⟨i, Finset.mem_univ i, by rw [hr i]; exact EReal.bot_lt_coe _⟩
  exact ⟨(top s).toReal, (EReal.coe_toReal hlt.ne hgt.ne').symm⟩

/-- The weight of one score against the largest. -/
def weight (m s : EReal) : EReal := Ideal.exp (s - m)

theorem weight_eq {m s : EReal} (hm : Num m) (hs : Num s) : ∃ r : ℝ, 0 < r ∧ weight m s = (r : EReal) := by
  obtain ⟨a, rfl⟩ := hm
  obtain ⟨b, rfl⟩ := hs
  exact ⟨Real.exp (b - a), Real.exp_pos _, by rw [weight, ← EReal.coe_sub, Ideal.exp_coe]⟩

/-- The weighted sum of the values divided by the sum of the weights. -/
def mean {ι : Type*} [Fintype ι] (p v : ι → EReal) : EReal := Ideal.div (∑ i, p i * v i) (∑ i, p i)

/-- Dividing the weighted sum once is weighting by the divided weights, for positive weights and values that are numbers. -/
theorem mean_eq {ι : Type*} [Fintype ι] [Nonempty ι] {p v : ι → EReal} (hp : ∀ i, ∃ r : ℝ, 0 < r ∧ p i = (r : EReal))
    (hv : ∀ i, Num (v i)) : mean p v = ∑ i, Ideal.div (p i) (∑ j, p j) * v i := by
  choose e he hpe using hp
  choose w hw using hv
  have hden : (∑ j, p j) = ((∑ j, e j : ℝ) : EReal) := by
    rw [coe_sum]
    exact Finset.sum_congr rfl fun j _ => hpe j
  have hpos : (∑ j, e j) ≠ 0 := (Finset.sum_pos (fun j _ => he j) Finset.univ_nonempty).ne'
  have hnum : (∑ i, p i * v i) = ((∑ i, e i * w i : ℝ) : EReal) := by
    rw [coe_sum]
    exact Finset.sum_congr rfl fun i _ => by rw [hpe i, hw i, EReal.coe_mul]
  rw [mean, hnum, hden, Ideal.div_coe hpos, ← EReal.coe_mul, Finset.sum_mul, coe_sum]
  refine Finset.sum_congr rfl fun i _ => ?_
  rw [hpe i, hw i, Ideal.div_coe hpos, ← EReal.coe_mul, ← EReal.coe_mul]
  congr 1
  ring

/-- Attention over one set of scores: the mean of the values under the exponentials of the scores, taken off their largest. -/
def attend {ι : Type*} [Fintype ι] (s v : ι → EReal) : EReal := mean (fun i => weight (top s) (s i)) v

theorem attend_congr {ι : Type*} [Fintype ι] {s s' v v' : ι → EReal} (hs : ∀ i, s i = s' i) (hv : ∀ i, v i = v' i) :
    attend s v = attend s' v' := by
  rw [funext hs, funext hv]

/-- The mean of the values under the normalised exponentials of the scores. -/
def softmax {ι : Type*} [Fintype ι] (s v : ι → EReal) : EReal :=
  ∑ i, Ideal.div (weight (top s) (s i)) (∑ j, weight (top s) (s j)) * v i

theorem attend_eq {ι : Type*} [Fintype ι] [Nonempty ι] {s v : ι → EReal} (hs : ∀ i, Num (s i)) (hv : ∀ i, Num (v i)) :
    attend s v = softmax s v :=
  mean_eq (fun i => weight_eq (num_top hs) (hs i)) hv

end Cert.Softmax

end
-- ==== Proof.NaContext.lean ====
module

public import proofs.«01_k».proof.Defs
public import proofs.«01_k».proof.Proof.Softmax
public import proofs.«01_k».proof.Proof.Gen.KernelIdeal.Value
public import proofs.«01_k».proof.Proof.Gen.ReferenceIdeal.Read
public import Idealize.ShloMosaic.Lib.Pointwise
public import Idealize.ShloMosaic.Lib.Pipeline.ValueKit
public import Idealize.ShloMosaic.Lib.Pipeline.ValueKit.Point
public import Idealize.ShloMosaic.Lib.Quiescent

@[expose] public section

set_option maxRecDepth 16384

noncomputable section

open Idealize.ShloMosaic Idealize.ShloMosaic.TcCoe Idealize.SL.Sem

/-! ## The context tokens attend: softmax attention inside each request, and its two caches -/

namespace Cert.KernelIdeal.Meaning

open Cert.KernelIdeal Cert.KernelIdeal.Gen

variable (m : (ℓ : Loc nD τ sig) → Buf (Elt Ideal) ℓ)

/-- One head's scores at a query row against every key of the same request. -/
def scores (q k : Vec Ideal S256x128 .f32) (r : Fin 256) (j : Fin 256) : EReal :=
  (∑ d : Fin 128, q (ix2 r d) * k (ix2 j d)) * Ideal.ofBits FTy.f32 1035273459#32

theorem head_read (k v q : Vec Ideal S256x128 .f32) (r : Fin 256) (l : Fin 128) :
    k0_pay3 (F := Ideal) k v q (ix2 r l) = Softmax.attend (scores q k r) (fun j => v (ix2 j l)) := by
  unfold Softmax.attend Softmax.mean Softmax.weight Softmax.top scores
  pointwise [k0_pay3]
  simp only [Softmax.negInf]

/-- The attention of the context tokens: token `i 0` of request `i 0 / 256` and head `i 1 / 128`, over the request's own
    256 tokens; the queries, keys and values are columns 3072, 4096 and 5120 onward. -/
def attention (x : Vec Ideal S12288x11776 .f32) : Vec Ideal S8192x1024 .bf16 := fun i =>
  Softmax.attend
    (fun j : Fin 256 => (∑ d : Fin 128,
        x (ix2 ⟨(i 0).val, lt_of_lt_of_le (i 0).isLt (by decide)⟩
            ⟨3072 + ((i 1).val / 128 * 128 + d.val), by have := (i 1).isLt; change (i 1).val < 1024 at this; omega⟩)
          * x (ix2 ⟨(i 0).val / 256 * 256 + j.val, by have := (i 0).isLt; change (i 0).val < 8192 at this; omega⟩
            ⟨4096 + ((i 1).val / 128 * 128 + d.val), by have := (i 1).isLt; change (i 1).val < 1024 at this; omega⟩))
      * Ideal.ofBits FTy.f32 1035273459#32)
    (fun j : Fin 256 => x (ix2 ⟨(i 0).val / 256 * 256 + j.val, by have := (i 0).isLt; change (i 0).val < 8192 at this; omega⟩
      ⟨5120 + (i 1).val, by have := (i 1).isLt; change (i 1).val < 1024 at this; omega⟩))

/-- A projected token's columns by request, head and place: what the two caches hold. -/
def heads (o : ℕ) (ho : o + 1024 ≤ 11776) (x : Vec Ideal S12288x11776 .f32) : Vec Ideal S32x8x256x128 .f32 := fun i =>
  x (ix2 ⟨(i 0).val * 256 + (i 2).val, by
      have h0 := (i 0).isLt; have h2 := (i 2).isLt; change (i 0).val < 32 at h0; change (i 2).val < 256 at h2; omega⟩
    ⟨o + ((i 1).val * 128 + (i 3).val), by
      have h1 := (i 1).isLt; have h3 := (i 3).isLt; change (i 1).val < 8 at h1; change (i 3).val < 128 at h3; omega⟩)

theorem index_all : ∀ t : Fin cfg0.N, win0_0.index t = ![t.val, 3] ∧ win0_1.index t = ![t.val, 4]
    ∧ win0_2.index t = ![t.val, 5] ∧ win0_3.index t = ![t.val, 0] ∧ win0_4.index t = ![t.val, 0, 0, 0]
    ∧ win0_5.index t = ![t.val, 0, 0, 0] :=
  (by decide +kernel : ∀ t : Fin grid0.N, _)

theorem block_q (c : Dev nD) (t : Fin cfg0.N) (r : Fin 256) (l : Fin 1024) (R : Fin 12288) (C : Fin 11776)
    (hR : R.val = t.val * 256 + r.val) (hC : C.val = 3072 + l.val) :
    (X0_0 m c t : Vec Ideal S256x1024 .f32) (ix2 r l)
      = (m ((c : Thread nD τ).loc main_arg0) : Vec Ideal S12288x11776 .f32) (ix2 R C) := by
  unfold X0_0 Pipeline.Window.fill
  rw [dif_pos (moved0_0 t _)]
  have i0 := (index_all t).1
  blk_ext [iblk, V, i0]

theorem block_k (c : Dev nD) (t : Fin cfg0.N) (r : Fin 256) (l : Fin 1024) (R : Fin 12288) (C : Fin 11776)
    (hR : R.val = t.val * 256 + r.val) (hC : C.val = 4096 + l.val) :
    (X0_1 m c t : Vec Ideal S256x1024 .f32) (ix2 r l)
      = (m ((c : Thread nD τ).loc main_arg0) : Vec Ideal S12288x11776 .f32) (ix2 R C) := by
  unfold X0_1 Pipeline.Window.fill
  rw [dif_pos (moved0_1 t _)]
  have i0 := (index_all t).2.1
  blk_ext [iblk, V, i0]

theorem block_v (c : Dev nD) (t : Fin cfg0.N) (r : Fin 256) (l : Fin 1024) (R : Fin 12288) (C : Fin 11776)
    (hR : R.val = t.val * 256 + r.val) (hC : C.val = 5120 + l.val) :
    (X0_2 m c t : Vec Ideal S256x1024 .f32) (ix2 r l)
      = (m ((c : Thread nD τ).loc main_arg0) : Vec Ideal S12288x11776 .f32) (ix2 R C) := by
  unfold X0_2 Pipeline.Window.fill
  rw [dif_pos (moved0_2 t _)]
  have i0 := (index_all t).2.2.1
  blk_ext [iblk, V, i0]

/-- One head's columns of a block. -/
def cut (o : ℕ) (ho : o + 128 ≤ 1024) (X : Vec Ideal S256x1024 .f32) : Vec Ideal S256x128 .f32 := fun i =>
  X (ix2 (i 0) ⟨o + (i 1).val, by have := (i 1).isLt; change (i 1).val < 128 at this; omega⟩)

theorem cut_at (o : ℕ) (ho : o + 128 ≤ 1024) (X : Vec Ideal S256x1024 .f32) (r : Fin 256) (l : Fin 128) :
    cut o ho X (ix2 r l) = X (ix2 r ⟨o + l.val, by omega⟩) := rfl

theorem ld_eq (X : Vec Ideal S256x1024 .f32) (o : ℕ) (ho : o + 128 ≤ 1024) (h : ∀ a, (![0, o] : Fin 2 → ℕ) a + (![256, 128] : Fin 2 → ℕ) a ≤ S256x1024.size a) :
    View.ld X (Rect.unit ![0, o] ![256, 128] h) = cut o ho X := by
  funext i
  refine congrArg X (funext fun a => Fin.ext ?_)
  match a with
  | ⟨0, _⟩ => show 0 + 1 * (i 0).val = (i 0).val; omega
  | ⟨1, _⟩ => show o + 1 * (i 1).val = o + (i 1).val; omega

/-- What one head's payload gives is the head's columns of the attention. -/
theorem head_eq (c : Dev nD) (t : Fin cfg0.N) (o : ℕ) (ho : o + 128 ≤ 1024) (hd : o % 128 = 0)
    (k v q : Vec Ideal S256x128 .f32) (hk : k = cut o ho (X0_1 m c t)) (hv : v = cut o ho (X0_2 m c t))
    (hq : q = cut o ho (X0_0 m c t)) (x : S256x128.Idx)
    (i : S8192x1024.Idx) (h0 : (i 0).val = t.val * 256 + (x 0).val) (h1 : (i 1).val = o + (x 1).val) :
    k0_pay3 (F := Ideal) k v q x
      = attention (m ((c : Thread nD τ).loc main_arg0)) i := by
  subst hk hv hq
  idx_vars x
  have hr := x0.isLt
  have hl := x1.isLt
  change (i 0).val = t.val * 256 + x0.val at h0
  change (i 1).val = o + x1.val at h1
  rw [head_read]
  unfold attention
  refine Softmax.attend_congr (fun j => ?_) (fun j => ?_)
  · unfold scores
    simp only [cut_at]
    refine congrArg (· * _) (Finset.sum_congr rfl fun d _ => ?_)
    congr 1
    · exact block_q m c t _ _ _ _ (by dsimp only; omega) (by dsimp only; omega)
    · exact block_k m c t _ _ _ _ (by dsimp only; omega) (by dsimp only; omega)
  · rw [cut_at]
    exact block_v m c t _ _ _ _ (by dsimp only; omega) (by dsimp only; omega)

theorem attention_eq (c : Dev nD) : (dats m 0 c).arrAt 3 cfg0.N = attention (m ((c : Thread nD τ).loc main_arg0)) := by
  refine (dats m 0 c).arrAt_eq_of_covers 3 _ (by decide +kernel) fun t hf y => ?_
  blk_simp
  rw [after0_3]
  unfold outsAt0
  dsimp only
  frame_out
  have i3 := (index_all t).2.2.2.1
  have e0 : (((((View.whole main_v0_0).slice (win0_3.rect t)).emb y) 0 : Fin _) : ℕ) = t.val * 256 + (y 0).val := by
    blk_simp [i3]
  have e1 : (((((View.whole main_v0_0).slice (win0_3.rect t)).emb y) 1 : Fin _) : ℕ) = (y 1).val := by
    blk_simp [i3]
  canon_tiles x h
  · exact head_eq m c t 896 (by decide) rfl _ _ _ (ld_eq _ _ _ _) (ld_eq _ _ _ _) (ld_eq _ _ _ _) x _ (e0.trans (by rw [h0])) (e1.trans h1)
  · exact head_eq m c t 768 (by decide) rfl _ _ _ (ld_eq _ _ _ _) (ld_eq _ _ _ _) (ld_eq _ _ _ _) x _ (e0.trans (by rw [h0])) (e1.trans h1)
  · exact head_eq m c t 640 (by decide) rfl _ _ _ (ld_eq _ _ _ _) (ld_eq _ _ _ _) (ld_eq _ _ _ _) x _ (e0.trans (by rw [h0])) (e1.trans h1)
  · exact head_eq m c t 512 (by decide) rfl _ _ _ (ld_eq _ _ _ _) (ld_eq _ _ _ _) (ld_eq _ _ _ _) x _ (e0.trans (by rw [h0])) (e1.trans h1)
  · exact head_eq m c t 384 (by decide) rfl _ _ _ (ld_eq _ _ _ _) (ld_eq _ _ _ _) (ld_eq _ _ _ _) x _ (e0.trans (by rw [h0])) (e1.trans h1)
  · exact head_eq m c t 256 (by decide) rfl _ _ _ (ld_eq _ _ _ _) (ld_eq _ _ _ _) (ld_eq _ _ _ _) x _ (e0.trans (by rw [h0])) (e1.trans h1)
  · exact head_eq m c t 128 (by decide) rfl _ _ _ (ld_eq _ _ _ _) (ld_eq _ _ _ _) (ld_eq _ _ _ _) x _ (e0.trans (by rw [h0])) (e1.trans h1)
  · exact head_eq m c t 0 (by decide) rfl _ _ _ (ld_eq _ _ _ _) (ld_eq _ _ _ _) (ld_eq _ _ _ _) x _ (e0.trans (by rw [h0])) (e1.trans (by rw [h1]; omega))

theorem cache_at (w : Vec Ideal S256x128 .f32) (x : S1x1x256x128.Idx) : k0_pay1 (F := Ideal) w x = w (ix2 (x 2) (x 3)) := by
  idx_vars x
  pointwise [k0_pay1]

theorem key_eq (c : Dev nD) (t : Fin cfg0.N) (n o : ℕ) (ho : o + 128 ≤ 1024) (hn : n * 128 = o) (w : Vec Ideal S256x128 .f32)
    (hw : w = cut o ho (X0_1 m c t)) (x : S1x1x256x128.Idx) (i : S32x8x256x128.Idx) (h0 : (i 0).val = t.val)
    (h1 : (i 1).val = n) (h2 : (i 2).val = (x 2).val) (h3 : (i 3).val = (x 3).val) :
    k0_pay1 (F := Ideal) w x = heads 4096 (by decide) (m ((c : Thread nD τ).loc main_arg0)) i := by
  rw [cache_at, hw]
  refine (cut_at o ho (X0_1 m c t) (x 2) (x 3)).trans ?_
  unfold heads
  exact block_k m c t _ _ _ _ (by dsimp only; omega) (by dsimp only; omega)

theorem value_eq (c : Dev nD) (t : Fin cfg0.N) (n o : ℕ) (ho : o + 128 ≤ 1024) (hn : n * 128 = o) (w : Vec Ideal S256x128 .f32)
    (hw : w = cut o ho (X0_2 m c t)) (x : S1x1x256x128.Idx) (i : S32x8x256x128.Idx) (h0 : (i 0).val = t.val)
    (h1 : (i 1).val = n) (h2 : (i 2).val = (x 2).val) (h3 : (i 3).val = (x 3).val) :
    k0_pay1 (F := Ideal) w x = heads 5120 (by decide) (m ((c : Thread nD τ).loc main_arg0)) i := by
  rw [cache_at, hw]
  refine (cut_at o ho (X0_2 m c t) (x 2) (x 3)).trans ?_
  unfold heads
  exact block_v m c t _ _ _ _ (by dsimp only; omega) (by dsimp only; omega)

/-- The first cache holds the keys. -/
theorem keys_eq (c : Dev nD) : (dats m 0 c).arrAt 4 cfg0.N = heads 4096 (by decide) (m ((c : Thread nD τ).loc main_arg0)) := by
  refine (dats m 0 c).arrAt_eq_of_covers 4 _ (by decide +kernel) fun t hf y => ?_
  blk_simp
  rw [after0_4]
  unfold outsAt0
  dsimp only
  frame_out
  have iw := (index_all t).2.2.2.2.1
  have e0 : (((((View.whole main_v0_1).slice (win0_4.rect t)).emb y) 0 : Fin _) : ℕ) = t.val + (y 0).val := by
    blk_simp [iw]
  have e1 : (((((View.whole main_v0_1).slice (win0_4.rect t)).emb y) 1 : Fin _) : ℕ) = (y 1).val := by
    blk_simp [iw]
  have e2 : (((((View.whole main_v0_1).slice (win0_4.rect t)).emb y) 2 : Fin _) : ℕ) = (y 2).val := by
    blk_simp [iw]
  have e3 : (((((View.whole main_v0_1).slice (win0_4.rect t)).emb y) 3 : Fin _) : ℕ) = (y 3).val := by
    blk_simp [iw]
  canon_tiles x h
  · exact key_eq m c t 7 896 (by decide) rfl _ (ld_eq _ _ _ _) x _ (e0.trans (Nat.add_eq_left.mpr (h0.trans (Nat.lt_one_iff.mp x0_lt))))
      (e1.trans (h1.trans (by rw [Nat.lt_one_iff.mp x1_lt]))) (e2.trans h2) (e3.trans h3)
  · exact key_eq m c t 6 768 (by decide) rfl _ (ld_eq _ _ _ _) x _ (e0.trans (Nat.add_eq_left.mpr (h0.trans (Nat.lt_one_iff.mp x0_lt))))
      (e1.trans (h1.trans (by rw [Nat.lt_one_iff.mp x1_lt]))) (e2.trans h2) (e3.trans h3)
  · exact key_eq m c t 5 640 (by decide) rfl _ (ld_eq _ _ _ _) x _ (e0.trans (Nat.add_eq_left.mpr (h0.trans (Nat.lt_one_iff.mp x0_lt))))
      (e1.trans (h1.trans (by rw [Nat.lt_one_iff.mp x1_lt]))) (e2.trans h2) (e3.trans h3)
  · exact key_eq m c t 4 512 (by decide) rfl _ (ld_eq _ _ _ _) x _ (e0.trans (Nat.add_eq_left.mpr (h0.trans (Nat.lt_one_iff.mp x0_lt))))
      (e1.trans (h1.trans (by rw [Nat.lt_one_iff.mp x1_lt]))) (e2.trans h2) (e3.trans h3)
  · exact key_eq m c t 3 384 (by decide) rfl _ (ld_eq _ _ _ _) x _ (e0.trans (Nat.add_eq_left.mpr (h0.trans (Nat.lt_one_iff.mp x0_lt))))
      (e1.trans (h1.trans (by rw [Nat.lt_one_iff.mp x1_lt]))) (e2.trans h2) (e3.trans h3)
  · exact key_eq m c t 2 256 (by decide) rfl _ (ld_eq _ _ _ _) x _ (e0.trans (Nat.add_eq_left.mpr (h0.trans (Nat.lt_one_iff.mp x0_lt))))
      (e1.trans (h1.trans (by rw [Nat.lt_one_iff.mp x1_lt]))) (e2.trans h2) (e3.trans h3)
  · exact key_eq m c t 1 128 (by decide) rfl _ (ld_eq _ _ _ _) x _ (e0.trans (Nat.add_eq_left.mpr (h0.trans (Nat.lt_one_iff.mp x0_lt))))
      (e1.trans (h1.trans (by rw [Nat.lt_one_iff.mp x1_lt]))) (e2.trans h2) (e3.trans h3)
  · exact key_eq m c t 0 0 (by decide) rfl _ (ld_eq _ _ _ _) x _ (e0.trans (Nat.add_eq_left.mpr (h0.trans (Nat.lt_one_iff.mp x0_lt))))
      (e1.trans (h1.trans (Nat.lt_one_iff.mp x1_lt))) (e2.trans h2) (e3.trans h3)

/-- The second cache holds the values. -/
theorem values_eq (c : Dev nD) : (dats m 0 c).arrAt 5 cfg0.N = heads 5120 (by decide) (m ((c : Thread nD τ).loc main_arg0)) := by
  refine (dats m 0 c).arrAt_eq_of_covers 5 _ (by decide +kernel) fun t hf y => ?_
  blk_simp
  rw [after0_5]
  unfold outsAt0
  dsimp only
  frame_out
  have iw := (index_all t).2.2.2.2.2
  have e0 : (((((View.whole main_v0_2).slice (win0_5.rect t)).emb y) 0 : Fin _) : ℕ) = t.val + (y 0).val := by
    blk_simp [iw]
  have e1 : (((((View.whole main_v0_2).slice (win0_5.rect t)).emb y) 1 : Fin _) : ℕ) = (y 1).val := by
    blk_simp [iw]
  have e2 : (((((View.whole main_v0_2).slice (win0_5.rect t)).emb y) 2 : Fin _) : ℕ) = (y 2).val := by
    blk_simp [iw]
  have e3 : (((((View.whole main_v0_2).slice (win0_5.rect t)).emb y) 3 : Fin _) : ℕ) = (y 3).val := by
    blk_simp [iw]
  canon_tiles x h
  · exact value_eq m c t 7 896 (by decide) rfl _ (ld_eq _ _ _ _) x _ (e0.trans (Nat.add_eq_left.mpr (h0.trans (Nat.lt_one_iff.mp x0_lt))))
      (e1.trans (h1.trans (by rw [Nat.lt_one_iff.mp x1_lt]))) (e2.trans h2) (e3.trans h3)
  · exact value_eq m c t 6 768 (by decide) rfl _ (ld_eq _ _ _ _) x _ (e0.trans (Nat.add_eq_left.mpr (h0.trans (Nat.lt_one_iff.mp x0_lt))))
      (e1.trans (h1.trans (by rw [Nat.lt_one_iff.mp x1_lt]))) (e2.trans h2) (e3.trans h3)
  · exact value_eq m c t 5 640 (by decide) rfl _ (ld_eq _ _ _ _) x _ (e0.trans (Nat.add_eq_left.mpr (h0.trans (Nat.lt_one_iff.mp x0_lt))))
      (e1.trans (h1.trans (by rw [Nat.lt_one_iff.mp x1_lt]))) (e2.trans h2) (e3.trans h3)
  · exact value_eq m c t 4 512 (by decide) rfl _ (ld_eq _ _ _ _) x _ (e0.trans (Nat.add_eq_left.mpr (h0.trans (Nat.lt_one_iff.mp x0_lt))))
      (e1.trans (h1.trans (by rw [Nat.lt_one_iff.mp x1_lt]))) (e2.trans h2) (e3.trans h3)
  · exact value_eq m c t 3 384 (by decide) rfl _ (ld_eq _ _ _ _) x _ (e0.trans (Nat.add_eq_left.mpr (h0.trans (Nat.lt_one_iff.mp x0_lt))))
      (e1.trans (h1.trans (by rw [Nat.lt_one_iff.mp x1_lt]))) (e2.trans h2) (e3.trans h3)
  · exact value_eq m c t 2 256 (by decide) rfl _ (ld_eq _ _ _ _) x _ (e0.trans (Nat.add_eq_left.mpr (h0.trans (Nat.lt_one_iff.mp x0_lt))))
      (e1.trans (h1.trans (by rw [Nat.lt_one_iff.mp x1_lt]))) (e2.trans h2) (e3.trans h3)
  · exact value_eq m c t 1 128 (by decide) rfl _ (ld_eq _ _ _ _) x _ (e0.trans (Nat.add_eq_left.mpr (h0.trans (Nat.lt_one_iff.mp x0_lt))))
      (e1.trans (h1.trans (by rw [Nat.lt_one_iff.mp x1_lt]))) (e2.trans h2) (e3.trans h3)
  · exact value_eq m c t 0 0 (by decide) rfl _ (ld_eq _ _ _ _) x _ (e0.trans (Nat.add_eq_left.mpr (h0.trans (Nat.lt_one_iff.mp x0_lt))))
      (e1.trans (h1.trans (Nat.lt_one_iff.mp x1_lt))) (e2.trans h2) (e3.trans h3)

end Cert.KernelIdeal.Meaning

namespace Cert.ReferenceIdeal.Meaning

open Cert.ReferenceIdeal Cert.ReferenceIdeal.Read Cert.KernelIdeal.Meaning

/-- An entry is told by its coordinates' values. -/
theorem entry_eq {a b : ℕ} {e : Type} (x : (⟨2, ![a, b]⟩ : Shape).Idx → e) {r r' : Fin a} {l l' : Fin b} (hr : r.val = r'.val)
    (hl : l.val = l'.val) : x (ix2 r l) = x (ix2 r' l') := by
  rw [Fin.ext hr, Fin.ext hl]

variable (x : Vec Ideal S12288x11776 .f32)

/-- A request's scores of one head: the product of queries and keys, scaled. -/
theorem score_eq (b : Fin 32) (h : Fin 8) (s j : Fin 256) : val_main_v13 (F := Ideal) x (ix4 b h s j)
    = (∑ d : Fin 128, val_main_v4 (F := Ideal) x (ix4 b h s d) * val_main_v7 (F := Ideal) x (ix4 b h j d))
      * Ideal.ofBits FTy.f32 1035273459#32 := by
  rw [val_main_v13_apply, val_main_v11_apply]
  refine congrArg₂ (fun a c : EReal => a * c) (Finset.sum_congr rfl fun d _ => ?_) ?_
  · rw [show lidx_main_v11 (ix4 b h s j) d = ix4 b h s d from
        funext fun a => by match a with | ⟨0, _⟩ => rfl | ⟨1, _⟩ => rfl | ⟨2, _⟩ => rfl | ⟨3, _⟩ => rfl,
      show ridx_main_v11 (ix4 b h s j) d = ix4 b h j d from
        funext fun a => by match a with | ⟨0, _⟩ => rfl | ⟨1, _⟩ => rfl | ⟨2, _⟩ => rfl | ⟨3, _⟩ => rfl]
  · rw [val_main_v12_apply]
    rfl

theorem top_eq (b : Fin 32) (h : Fin 8) (s : Fin 256) : val_main_v16 (F := Ideal) x (ix3 b h s)
    = Softmax.top fun j : Fin 256 => val_main_v13 (F := Ideal) x (ix4 b h s j) := by
  rw [val_main_v16_apply, val_main_v15_apply, val_main_cst_1_apply]
  unfold val_main_v14
  generalize val_main_v13 (F := Ideal) x = y
  have e : Host.reduce (FloatOps.maximumf (F := Ideal) (φ := .f32)) y (val_main_cst_0 (F := Ideal))
      Gen.reducesTo_S32x8x256x256_S32x8x256_d3 Gen.h_S_ (ix3 b h s) = _ :=
    Host.reduce_eq_fold_single _ y _ _ (by decide) _ _
  refine (congrArg (max (Ideal.ofBits FTy.f32 4286578688#32)) e).trans ?_
  show max (Ideal.ofBits FTy.f32 4286578688#32) (Finset.fold max (Ideal.ofBits FTy.f32 4286578688#32) _ _) = _
  rw [Softmax.negInf, max_eq_right bot_le]
  unfold Softmax.top
  refine Finset.fold_congr fun j _ => congrArg y (funext fun a => Fin.ext ?_)
  match a with | ⟨0, _⟩ => rfl | ⟨1, _⟩ => rfl | ⟨2, _⟩ => rfl | ⟨3, _⟩ => rfl

theorem weight_eq (b : Fin 32) (h : Fin 8) (s j : Fin 256) : val_main_v20 (F := Ideal) x (ix4 b h s j)
    = Softmax.weight (Softmax.top fun j : Fin 256 => val_main_v13 (F := Ideal) x (ix4 b h s j))
      (val_main_v13 (F := Ideal) x (ix4 b h s j)) := by
  rw [val_main_v20_apply, val_main_v19_apply, val_main_v18_apply, val_main_v17_apply,
    show idx_main_v17 (idx_main_v18 (ix4 b h s j)) = ix3 b h s from
      funext fun a => by match a with | ⟨0, _⟩ => rfl | ⟨1, _⟩ => rfl | ⟨2, _⟩ => rfl, top_eq]
  rfl

theorem sum_eq (b : Fin 32) (h : Fin 8) (s : Fin 256) : val_main_v21 (F := Ideal) x (ix3 b h s)
    = ∑ j : Fin 256, val_main_v20 (F := Ideal) x (ix4 b h s j) := by
  rw [val_main_v21_apply, val_main_cst_2_apply]
  show Ideal.ofBits FTy.f32 0#32 + _ = _
  rw [Ideal.ofBits_zero_f32, zero_add]
  refine Finset.sum_congr rfl fun j _ => congrArg _ ?_
  exact funext fun a => by match a with | ⟨0, _⟩ => rfl | ⟨1, _⟩ => rfl | ⟨2, _⟩ => rfl | ⟨3, _⟩ => rfl

theorem attended_eq (b : Fin 32) (h : Fin 8) (s : Fin 256) (l : Fin 128) : val_main_v25 (F := Ideal) x (ix4 b h s l)
    = Softmax.softmax (fun j : Fin 256 => val_main_v13 (F := Ideal) x (ix4 b h s j))
        (fun j : Fin 256 => val_main_v10 (F := Ideal) x (ix4 b h j l)) := by
  rw [val_main_v25_apply]
  unfold Softmax.softmax
  refine Finset.sum_congr rfl fun j _ => ?_
  rw [show lidx_main_v25 (ix4 b h s l) j = ix4 b h s j from
        funext fun a => by match a with | ⟨0, _⟩ => rfl | ⟨1, _⟩ => rfl | ⟨2, _⟩ => rfl | ⟨3, _⟩ => rfl,
      show ridx_main_v25 (ix4 b h s l) j = ix4 b h j l from
        funext fun a => by match a with | ⟨0, _⟩ => rfl | ⟨1, _⟩ => rfl | ⟨2, _⟩ => rfl | ⟨3, _⟩ => rfl,
      val_main_v24_apply, val_main_v23_apply, val_main_v22_apply,
      show idx_main_v22 (idx_main_v23 (ix4 b h s j)) = ix3 b h s from
        funext fun a => by match a with | ⟨0, _⟩ => rfl | ⟨1, _⟩ => rfl | ⟨2, _⟩ => rfl, sum_eq]
  simp only [weight_eq]
  rfl

theorem query_eq (b : Fin 32) (h : Fin 8) (s : Fin 256) (l : Fin 128) : val_main_v4 (F := Ideal) x (ix4 b h s l)
    = heads 3072 (by decide) x (ix4 b h s l) := by
  unfold heads
  pointwise [val_main_v4, val_main_v3, val_main_v2, val_main_v1, val_main_v0]

theorem key_eq (b : Fin 32) (h : Fin 8) (s : Fin 256) (l : Fin 128) : val_main_v7 (F := Ideal) x (ix4 b h s l)
    = heads 4096 (by decide) x (ix4 b h s l) := by
  unfold heads
  pointwise [val_main_v7, val_main_v6, val_main_v5, val_main_v1, val_main_v0]
  exact entry_eq x rfl (by dsimp only; omega)

theorem value_eq (b : Fin 32) (h : Fin 8) (s : Fin 256) (l : Fin 128) : val_main_v10 (F := Ideal) x (ix4 b h s l)
    = heads 5120 (by decide) x (ix4 b h s l) := by
  unfold heads
  pointwise [val_main_v10, val_main_v9, val_main_v8, val_main_v1, val_main_v0]
  exact entry_eq x rfl (by dsimp only; omega)

theorem num_scale : Softmax.Num (Ideal.ofBits FTy.f32 1035273459#32) := by
  simp [Softmax.Num, Ideal.ofBits, Ideal.ieee, -EReal.coe_mul]

theorem keys_eq' : val_main_v7 (F := Ideal) x = heads 4096 (by decide) x := by
  funext i
  idx_vars i
  exact key_eq x _ _ _ _

theorem values_eq' : val_main_v10 (F := Ideal) x = heads 5120 (by decide) x := by
  funext i
  idx_vars i
  exact value_eq x _ _ _ _

/-- The reference's softmax attention is the kernel's, where the projection holds numbers. -/
theorem result_eq (hx : ∀ i, Softmax.Num (x i)) : val_main_v28 (F := Ideal) x = attention x := by
  have hn : ∀ o ho i, Softmax.Num (heads o ho x i) := fun o ho i => hx _
  funext i
  idx_vars i
  pointwise [val_main_v28, val_main_v27, val_main_v26]
  rw [attended_eq, ← Softmax.attend_eq]
  · unfold attention
    refine Softmax.attend_congr (fun j => ?_) (fun j => ?_)
    · rw [score_eq]
      refine congrArg (· * _) (Finset.sum_congr rfl fun d _ => ?_)
      rw [query_eq, key_eq]
      unfold heads
      congr 1
      · exact entry_eq x (show i0.val / 256 * 256 + i0.val % 256 = i0.val by omega) rfl
    · rw [value_eq]
      unfold heads
      exact entry_eq x rfl (show 5120 + (i1.val / 128 * 128 + i1.val % 128) = 5120 + i1.val by omega)
  · intro j
    rw [score_eq]
    simp only [query_eq, key_eq]
    exact (Softmax.Num.sum _ fun d => (hn _ _ _).mul (hn _ _ _)).mul num_scale
  · intro j
    rw [value_eq]
    exact hn _ _ _

end Cert.ReferenceIdeal.Meaning

namespace Cert.Pre_finite

/-- The precondition's only side condition: a constant may be spread over the array. -/
theorem facts : Facts := ⟨by decide⟩

end Cert.Pre_finite

namespace Cert.Proof.Context

open Cert.KernelIdeal.Meaning

/-- Where the precondition holds, every entry is a number. -/
theorem num_of_pre [Cert.Pre_finite.Facts] (x : FVec Ideal Cert.Pre_finite.S12288x11776 .f32)
    (h : Cert.Pre_finite.fn (F := Ideal) x = fun _ => 1#1) (i : Cert.Pre_finite.S12288x11776.Idx) : Softmax.Num (x i) := by
  have e := congrFun h i
  unfold Cert.Pre_finite.fn at e
  have e' : Ideal.cmp .olt (max (x i) (-(x i))) (Ideal.ofBits FTy.f32 2139095040#32) = 1#1 := e
  have ht : Ideal.ofBits FTy.f32 2139095040#32 = ⊤ := by simp [Ideal.ofBits, Ideal.ieee]
  rw [ht] at e'
  refine Softmax.num_of_abs_lt ?_
  by_contra hc
  simp [Ideal.cmp, hc] at e'

theorem reference_run (m : (ℓ : Loc Cert.ReferenceIdeal.nD Cert.ReferenceIdeal.τ Cert.ReferenceIdeal.sig) → Buf (Elt Ideal) ℓ)
    (ρ : Dev Cert.ReferenceIdeal.nD → PrngReg) : θ_run (Cert.ReferenceIdeal.defs (F := Ideal))
      (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)) ∧ r.2.sem = fun _ => 0) :=
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

theorem reference_frame : Cert.quiescent_ReferenceIdeal := fun m ρ _ => reference_run m ρ

theorem reference_frame_finite [hPre_finite : Cert.Pre_finite.Facts] : Cert.quiescent_ReferenceIdeal_pre_finite := fun m ρ _ => reference_run m ρ

theorem algebraic [hPre_finite : Cert.Pre_finite.Facts] : Cert.algebraic_KernelIdeal_ReferenceIdeal_pre_finite := fun m ρ m' ρ' hpre hag =>
  ⟨fun c => _, fun c => _, fun c => _,
    (θ_run Cert.KernelIdeal.defs _ _).mono (fun _ h c => ⟨(h c).1.trans (attention_eq m c),
        (h c).2.1.trans (keys_eq m c), (h c).2.2.1.trans (values_eq m c), (h c).2.2.2⟩)
      (Cert.KernelIdeal.Value.run_blocks m ρ),
    (θ_run Cert.ReferenceIdeal.defs _ _).mono (fun _ h c => by
        have e0 := hag c
        have hx := num_of_pre _ (hpre c)
        rw [← e0] at hx
        exact ⟨(h c).1.trans ((Cert.ReferenceIdeal.Read.val_main_v28_eq m' c).trans
            ((Cert.ReferenceIdeal.Meaning.result_eq _ hx).trans (congrArg attention e0))),
          (h c).2.1.trans ((Cert.ReferenceIdeal.Read.val_main_v7_eq _).trans
            ((Cert.ReferenceIdeal.Meaning.keys_eq' _).trans (congrArg (heads 4096 (by decide)) e0))),
          (h c).2.2.1.trans ((Cert.ReferenceIdeal.Read.val_main_v10_eq _).trans
            ((Cert.ReferenceIdeal.Meaning.values_eq' _).trans (congrArg (heads 5120 (by decide)) e0))),
          (h c).2.2.2⟩)
      (Cert.ReferenceIdeal.Value.run (F := Ideal) m' ρ')⟩

end Cert.Proof.Context

end
-- ==== Proof.ProjBlocks.lean ====
module

public import proofs.«01_k».proof.Proof.Gen.Kernel2Ideal.Frame
public import Idealize.ShloMosaic.Lib.Pointwise

@[expose] public section

set_option maxRecDepth 16384

noncomputable section

open Idealize.ShloMosaic Idealize.ShloMosaic.TcCoe Idealize.SL.Sem

/-! ## What one grid point of the input projection leaves in its two buffers -/

namespace Cert.Kernel2Ideal.Blocks

open Cert.Kernel2Ideal Cert.Kernel2Ideal.Gen

variable {F : FTy → Type} [FloatOps F]
variable (m : (ℓ : Loc nD τ sig) → Buf (Elt F) ℓ)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The normalised rows of point `t`'s row tile, in the narrow format. -/
def rows (c : Dev nD) (t : Fin cfg0.N) : Vec F S512x4096 .bf16 :=
  k0_pay1 (iblk m c 0 t) (iblk m c 1 t) (iblk m c 2 t) (iblk m c 3 t)

/-- At the first column of a row tile the body normalises the rows and keeps them. -/
theorem kept_first (c : Dev nD) (t : Fin cfg0.N) (h0 : t.val % 23 = 0) :
    (outsAt0 m c t.val t.isLt).2 = rows m c t := by
  rw [outsAt0_A m c t h0]
  dsimp only
  unfold sout0_A_0
  rw [View.read_writes_eq_canon _ _ _ (scover0_A_0 _ _ _ _ _ _ _ _ _ _ _ _ _ _ _ _ _ _ _ _ _ _)]
  unfold kernelRun0_A
  dsimp only
  sl_unfold_words
  rw [View.canon_unit_zero zeros2]
  simp only [View.readAt_eq_ld, Memref.IsWhole.read_unread, View.ld_unit_zero (S := S512x4096) zeros2,
    View.ld_unit_zero (S := S1x4096) zeros2, View.ld_unit_zero (S := S1x1x4096) zeros3]
  rfl

/-- There it also writes the product of those rows with the point's columns of the weight. -/
theorem out_first (c : Dev nD) (t : Fin cfg0.N) (h0 : t.val % 23 = 0) :
    (outsAt0 m c t.val t.isLt).1 = k0_pay2 (rows m c t) (iblk m c 4 t) := by
  rw [outsAt0_A m c t h0]
  dsimp only
  unfold out0_A_5
  rw [View.read_writes_eq_canon _ _ _ (cover0_A_5 _ _ _ _ _ _ _ _ _ _ _ _ _ _ _ _ _ _ _ _ _ _)]
  unfold kernelRun0_A
  dsimp only
  sl_unfold_words
  rw [View.canon_unit_zero zeros2, View.readCov_unit_zero (S := S512x4096) _ zeros2]
  simp only [View.readAt_eq_ld, Memref.IsWhole.read_unread, View.ld_unit_zero (S := S512x4096) zeros2,
    View.ld_unit_zero (S := S1x4096) zeros2, View.ld_unit_zero (S := S1x1x4096) zeros3,
    View.ld_unit_zero (S := S4096x512) zeros2]
  rfl

/-- At every other column the kept rows stay. -/
theorem kept_later (c : Dev nD) (t : Fin cfg0.N) (h0 : ¬t.val % 23 = 0) :
    (outsAt0 m c t.val t.isLt).2 = (outsAt0 m c (t.val - 1) (Nat.lt_of_le_of_lt (Nat.sub_le _ _) t.isLt)).2 := by
  rw [outsAt0_B m c t h0]
  rfl

/-- And the product is of the rows kept with the point's columns. -/
theorem out_later (c : Dev nD) (t : Fin cfg0.N) (h0 : ¬t.val % 23 = 0) :
    (outsAt0 m c t.val t.isLt).1
      = k0_pay2 (outsAt0 m c (t.val - 1) (Nat.lt_of_le_of_lt (Nat.sub_le _ _) t.isLt)).2 (iblk m c 4 t) := by
  rw [outsAt0_B m c t h0]
  dsimp only
  unfold out0_B_5
  rw [View.read_writes_eq_canon _ _ _ (cover0_B_5 _ _ _ _ _ _ _ _ _ _ _ _ _ _ _ _ _ _ _ _ _ _ _)]
  unfold kernelRun0_B
  dsimp only
  sl_unfold_words
  rw [View.canon_unit_zero zeros2]
  simp only [View.readAt_eq_ld, Memref.IsWhole.read_unread, View.ld_unit_zero (S := S512x4096) zeros2,
    View.ld_unit_zero (S := S4096x512) zeros2]
  exact congrArg (k0_pay2 · _) ((Memref.isWhole_whole cc0_scratch0).read_unread _)

/-- The point that normalises the rows point `t` uses. -/
def firstOf (t : Fin cfg0.N) : Fin cfg0.N := ⟨t.val - t.val % 23, Nat.lt_of_le_of_lt (Nat.sub_le _ _) t.isLt⟩

/-- After point `n` the kept rows are those of its row tile. -/
theorem kept_eq (c : Dev nD) : ∀ (n : ℕ) (h : n < cfg0.N), (outsAt0 m c n h).2 = rows m c (firstOf ⟨n, h⟩)
  | 0, h => kept_first m c ⟨0, h⟩ rfl
  | n + 1, h => by
    by_cases h0 : (n + 1) % 23 = 0
    · rw [kept_first m c ⟨n + 1, h⟩ h0]
      congr 1
      exact Fin.ext (show n + 1 = n + 1 - (n + 1) % 23 by omega)
    · rw [kept_later m c ⟨n + 1, h⟩ h0]
      refine (kept_eq c n (Nat.lt_of_succ_lt h)).trans (congrArg (rows m c) (Fin.ext ?_))
      show n - n % 23 = n + 1 - (n + 1) % 23
      omega

/-- What point `t` writes back. -/
theorem out_eq (c : Dev nD) (t : Fin cfg0.N) :
    (outsAt0 m c t.val t.isLt).1 = k0_pay2 (rows m c (firstOf t)) (iblk m c 4 t) := by
  by_cases h0 : t.val % 23 = 0
  · rw [out_first m c t h0, show firstOf t = t from Fin.ext (show t.val - t.val % 23 = t.val by omega)]
  · rw [out_later m c t h0, kept_eq]
    congr 2
    exact Fin.ext (show t.val - 1 - (t.val - 1) % 23 = t.val - t.val % 23 by omega)

end Cert.Kernel2Ideal.Blocks

end
-- ==== Proof.Rms.lean ====
module

public import Idealize.ShloMosaic.Lib.Pointwise

@[expose] public section

noncomputable section

open Idealize.ShloMosaic

/-! ## Root-mean-square normalisation of one row, over the extended reals -/

namespace Cert.Rms

/-- Entry `l` of the row `x` divided by the root of its mean square: `n` is the length as a float, `e` the small
    constant under the root. -/
def unit {N : ℕ} (n e : EReal) (x : Fin N → EReal) (l : Fin N) : EReal :=
  x l * Ideal.rsqrt (Ideal.div (∑ k, x k * x k) n + e)

/-- The normalised row scaled by the gain, then modulated: `a` is the scale less one, `b` the shift. -/
def modulated {N : ℕ} (n e : EReal) (x g a b : Fin N → EReal) (l : Fin N) : EReal :=
  unit n e x l * g l * (1 + a l) + b l

end Cert.Rms

end
-- ==== Proof.ProjValue.lean ====
module

public import proofs.«01_k».proof.Defs
public import Idealize.ShloMosaic.Lib.Quiescent
public import proofs.«01_k».proof.Proof.ProjBlocks
public import proofs.«01_k».proof.Proof.Rms
public import proofs.«01_k».proof.Proof.Gen.Reference2Ideal.Read
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem

/-! ## The input projection's array as one function of its arguments -/

namespace Cert.Kernel2Ideal.Blocks

open Cert.Kernel2Ideal Cert.Kernel2Ideal.Gen

/-- Which of the eight modulation rows token `R` takes: row 0 for the context tokens, then one row per latent
    frame of 2048 tokens. -/
def group (R : Fin 12288) : Fin 8 :=
  ⟨if R.val < 8192 then 0 else 1 + (R.val - 8192) / 2048, by have := R.isLt; split <;> omega⟩

/-- Token `R`'s modulated row. -/
def token (x : Vec Ideal S12288x4096 .f32) (g : Vec Ideal S4096 .f32) (a b : Vec Ideal S8x1x4096 .f32)
    (R : Fin 12288) (l : Fin 4096) : EReal :=
  Rms.modulated (Ideal.ofBits FTy.f32 0x45800000#32) (Ideal.ofBits FTy.f32 0x358637BD#32)
    (fun k => x (ix2 R k)) (fun k => g (ix1 k)) (fun k => a (ix3 (group R) 0 k)) (fun k => b (ix3 (group R) 0 k)) l

/-- The projection of the modulated tokens by the weight. -/
def projected (x : Vec Ideal S12288x4096 .f32) (w : Vec Ideal S4096x11776 .bf16) (g : Vec Ideal S4096 .f32)
    (a b : Vec Ideal S8x1x4096 .f32) (R : Fin 12288) (q : Fin 11776) : EReal :=
  ∑ k : Fin 4096, token x g a b R k * w (ix2 k q)

/-- The projection as an array. -/
def table (x : Vec Ideal S12288x4096 .f32) (w : Vec Ideal S4096x11776 .bf16) (g : Vec Ideal S4096 .f32)
    (a b : Vec Ideal S8x1x4096 .f32) : Vec Ideal S12288x11776 .f32 := fun i => projected x w g a b (i 0) (i 1)

/-- The context rows' 64 columns of the shared rotary key: entry `(R, j)` is the projection at column `11520 + j`. -/
def rotaryOf (x : Vec Ideal S12288x4096 .f32) (w : Vec Ideal S4096x11776 .bf16) (g : Vec Ideal S4096 .f32)
    (a b : Vec Ideal S8x1x4096 .f32) : Vec Ideal S8192x64 .f32 := fun i =>
  projected x w g a b ⟨(i 0).val, by have h : (i 0).val < 8192 := (i 0).isLt; omega⟩
    ⟨11520 + (i 1).val, by have h : (i 1).val < 64 := (i 1).isLt; omega⟩

/-! ### The two payloads at an index -/

theorem rows_read (x : Vec Ideal S512x4096 .f32) (g : Vec Ideal S1x4096 .f32) (a b : Vec Ideal S1x1x4096 .f32)
    (r : Fin 512) (l : Fin 4096) :
    k0_pay1 (F := Ideal) x g a b (ix2 r l)
      = Rms.modulated (Ideal.ofBits FTy.f32 0x45800000#32) (Ideal.ofBits FTy.f32 0x358637BD#32)
          (fun k => x (ix2 r k)) (fun k => g (ix2 0 k)) (fun k => a (ix3 0 0 k)) (fun k => b (ix3 0 0 k)) l := by
  unfold Rms.modulated Rms.unit
  pointwise [k0_pay1]

theorem product_read (x : Vec Ideal S512x4096 .bf16) (w : Vec Ideal S4096x512 .bf16) (r l : Fin 512) :
    k0_pay2 (F := Ideal) x w (ix2 r l) = ∑ k : Fin 4096, x (ix2 r k) * w (ix2 k l) := by
  pointwise [k0_pay2]

/-! ### The blocks the body reads, from the arguments -/

variable (m : (ℓ : Loc nD τ sig) → Buf (Elt Ideal) ℓ)

theorem index_x : ∀ t : Fin cfg0.N, win0_0.index t 0 = t.val / 23 ∧ win0_0.index t 1 = 0 :=
  (by decide +kernel : ∀ t : Fin grid0.N, _)
theorem index_gain : ∀ t : Fin cfg0.N, win0_1.index t 0 = 0 ∧ win0_1.index t 1 = 0 :=
  (by decide +kernel : ∀ t : Fin grid0.N, _)
theorem index_scale : ∀ t : Fin cfg0.N,
    win0_2.index t 0 = (if t.val / 23 < 16 then 0 else (t.val / 23 - 12) / 4) ∧ win0_2.index t 1 = 0 ∧ win0_2.index t 2 = 0 :=
  (by decide +kernel : ∀ t : Fin grid0.N, _)
theorem index_shift : ∀ t : Fin cfg0.N,
    win0_3.index t 0 = (if t.val / 23 < 16 then 0 else (t.val / 23 - 12) / 4) ∧ win0_3.index t 1 = 0 ∧ win0_3.index t 2 = 0 :=
  (by decide +kernel : ∀ t : Fin grid0.N, _)
theorem index_w : ∀ t : Fin cfg0.N, win0_4.index t 0 = 0 ∧ win0_4.index t 1 = t.val % 23 :=
  (by decide +kernel : ∀ t : Fin grid0.N, _)

theorem block_x (c : Dev nD) (t : Fin cfg0.N) (r : Fin 512) (l : Fin 4096) (R : Fin 12288)
    (hR : R.val = 512 * (t.val / 23) + r.val) :
    (iblk m c 0 t : Vec Ideal S512x4096 .f32) (ix2 r l)
      = (m ((c : Thread nD τ).loc main_arg0) : Vec Ideal S12288x4096 .f32) (ix2 R l) := by
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = R.val; rw [(index_x t).1]; omega
  | ⟨1, _⟩ => show win0_0.index t 1 * 4096 + 1 * l.val = l.val; rw [(index_x t).2]; omega

theorem block_gain (c : Dev nD) (t : Fin cfg0.N) (l : Fin 4096) :
    (iblk m c 1 t : Vec Ideal S1x4096 .f32) (ix2 0 l)
      = (m ((c : Thread nD τ).loc main_arg2) : Vec Ideal S4096 .f32) (ix1 l) := by
  unfold iblk
  rw [View.read_apply]
  show V m c main_v0 _ = m (c.tc.loc main_arg2) _
  have e : ((cfg0.win 1).blk t).view.emb (ix2 (0 : Fin 1) l) = (ix2 (0 : Fin 1) l : S1x4096.Idx) := by
    funext a
    apply Fin.ext
    match a with
    | ⟨0, _⟩ => show win0_1.index t 0 * 1 + 1 * 0 = 0; rw [(index_gain t).1]
    | ⟨1, _⟩ => show win0_1.index t 1 * 4096 + 1 * l.val = l.val; rw [(index_gain t).2]; omega
  rw [e]
  unfold V
  after_reads_at

theorem block_scale (c : Dev nD) (t : Fin cfg0.N) (r : Fin 512) (l : Fin 4096) (R : Fin 12288)
    (hR : R.val = 512 * (t.val / 23) + r.val) :
    (iblk m c 2 t : Vec Ideal S1x1x4096 .f32) (ix3 0 0 l)
      = (m ((c : Thread nD τ).loc main_arg3) : Vec Ideal S8x1x4096 .f32) (ix3 (group R) 0 l) := by
  unfold iblk
  rw [View.read_apply]
  show V m c main_arg3 _ = m (c.tc.loc main_arg3) _
  rw [V_main_arg3]
  congr 1
  funext a
  apply Fin.ext
  have := r.isLt
  match a with
  | ⟨0, _⟩ =>
    show win0_2.index t 0 * 1 + 1 * 0 = (if R.val < 8192 then 0 else 1 + (R.val - 8192) / 2048)
    rw [(index_scale t).1]
    split <;> split <;> omega
  | ⟨1, _⟩ => show win0_2.index t 1 * 1 + 1 * 0 = 0; rw [(index_scale t).2.1]
  | ⟨2, _⟩ => show win0_2.index t 2 * 4096 + 1 * l.val = l.val; rw [(index_scale t).2.2]; omega

theorem block_shift (c : Dev nD) (t : Fin cfg0.N) (r : Fin 512) (l : Fin 4096) (R : Fin 12288)
    (hR : R.val = 512 * (t.val / 23) + r.val) :
    (iblk m c 3 t : Vec Ideal S1x1x4096 .f32) (ix3 0 0 l)
      = (m ((c : Thread nD τ).loc main_arg4) : Vec Ideal S8x1x4096 .f32) (ix3 (group R) 0 l) := by
  unfold iblk
  rw [View.read_apply]
  show V m c main_arg4 _ = m (c.tc.loc main_arg4) _
  rw [V_main_arg4]
  congr 1
  funext a
  apply Fin.ext
  have := r.isLt
  match a with
  | ⟨0, _⟩ =>
    show win0_3.index t 0 * 1 + 1 * 0 = (if R.val < 8192 then 0 else 1 + (R.val - 8192) / 2048)
    rw [(index_shift t).1]
    split <;> split <;> omega
  | ⟨1, _⟩ => show win0_3.index t 1 * 1 + 1 * 0 = 0; rw [(index_shift t).2.1]
  | ⟨2, _⟩ => show win0_3.index t 2 * 4096 + 1 * l.val = l.val; rw [(index_shift t).2.2]; omega

theorem block_w (c : Dev nD) (t : Fin cfg0.N) (k : Fin 4096) (l : Fin 512) (q : Fin 11776)
    (hq : q.val = 512 * (t.val % 23) + l.val) :
    (iblk m c 4 t : Vec Ideal S4096x512 .bf16) (ix2 k l)
      = (m ((c : Thread nD τ).loc main_arg1) : Vec Ideal S4096x11776 .bf16) (ix2 k q) := by
  unfold iblk
  rw [View.read_apply]
  show V m c main_arg1 _ = m (c.tc.loc main_arg1) _
  rw [V_main_arg1]
  congr 1
  funext a
  apply Fin.ext
  match a with
  | ⟨0, _⟩ => show win0_4.index t 0 * 4096 + 1 * k.val = k.val; rw [(index_w t).1]; omega
  | ⟨1, _⟩ => show win0_4.index t 1 * 512 + 1 * l.val = q.val; rw [(index_w t).2]; omega

/-! ### The array -/

/-- The kept rows of point `t`'s tile are the modulated rows of its tokens. -/
theorem rows_eq (c : Dev nD) (t : Fin cfg0.N) (r : Fin 512) (l : Fin 4096) (R : Fin 12288)
    (hR : R.val = 512 * (t.val / 23) + r.val) :
    rows m c t (ix2 r l) = token (m ((c : Thread nD τ).loc main_arg0)) (m ((c : Thread nD τ).loc main_arg2))
      (m ((c : Thread nD τ).loc main_arg3)) (m ((c : Thread nD τ).loc main_arg4)) R l := by
  unfold rows
  rw [rows_read]
  unfold token
  simp only [block_x m c t r _ R hR, block_gain m c t, block_scale m c t r _ R hR, block_shift m c t r _ R hR]

theorem index_out : ∀ t : Fin cfg0.N, win0_5.index t 0 = t.val / 23 ∧ win0_5.index t 1 = t.val % 23 :=
  (by decide +kernel : ∀ t : Fin grid0.N, _)

/-- The projection of the program's arguments. -/
def product (c : Dev nD) : Vec Ideal S12288x11776 .f32 :=
  table (m ((c : Thread nD τ).loc main_arg0)) (m ((c : Thread nD τ).loc main_arg1))
    (m ((c : Thread nD τ).loc main_arg2)) (m ((c : Thread nD τ).loc main_arg3))
    (m ((c : Thread nD τ).loc main_arg4))

/-- What point `t` writes at row `r` and column `l` of its block. -/
theorem written_eq (c : Dev nD) (t : Fin cfg0.N) (r l : Fin 512) (R : Fin 12288) (q : Fin 11776)
    (hR : R.val = 512 * (t.val / 23) + r.val) (hq : q.val = 512 * (t.val % 23) + l.val) :
    (outsAt0 m c t.val t.isLt).1 (ix2 r l) = product m c (ix2 R q) := by
  refine (congrFun (out_eq m c t) _).trans ?_
  rw [product_read]
  unfold product table projected
  refine Finset.sum_congr rfl fun k _ => ?_
  rw [rows_eq m c _ _ k R (by dsimp only [firstOf]; omega), block_w m c _ k _ q hq]
  rfl

/-- The array the grid leaves is the projection. -/
theorem array_eq (c : Dev nD) : (dats m 0 c).arrAt 5 cfg0.N = product m c := by
  refine (dats m 0 c).arrAt_eq_of_covers 5 _ (by decide +kernel) fun t hf y => ?_
  blk_simp
  rw [after0_5]
  obtain ⟨i0, i1⟩ := index_out t
  obtain ⟨r, l, rfl⟩ : ∃ (r l : Fin 512), y = ix2 r l := ⟨y 0, y 1, eq_ix2 y⟩
  refine (written_eq m c t r l _ _ ?_ ?_).trans (congrArg (product m c) (eq_ix2 _).symm)
  · blk_simp [i0]; omega
  · blk_simp [i1]; omega

/-- The cut the program takes of that array afterwards. -/
def rotary (c : Dev nD) : Vec Ideal S8192x64 .f32 :=
  rotaryOf (m ((c : Thread nD τ).loc main_arg0)) (m ((c : Thread nD τ).loc main_arg1))
    (m ((c : Thread nD τ).loc main_arg2)) (m ((c : Thread nD τ).loc main_arg3))
    (m ((c : Thread nD τ).loc main_arg4))

theorem cut_eq (c : Dev nD) :
    Pipeline.afterTail₀ cfgs (dats m) 0 (V0 m) [hostOps1] c main_v2 = rotary m c := by
  unfold Pipeline.afterTail₀
  after_reads_at
  have e : Pipeline.withArrays (cfgs 0).spec c (V0 m c) (fun w => (dats m 0 c).arrAt w (cfgs 0).N) (Proc.tc.devRef main_v1)
      = product m c := (Pipeline.withArrays_arr spec0 winFacts0.arr_inj c (V0 m c) _ 5).trans (array_eq m c)
  refine (congrArg (fun y => extractStridedSlice S8192x64 ![0, 11520] y slices_S12288x11776_S8192x64_0_11520) e).trans ?_
  funext i
  refine (extractStridedSlice_apply ![0, 11520] _ slices_S12288x11776_S8192x64_0_11520 i
    (ix2 ⟨(i 0).val, by have h : (i 0).val < 8192 := (i 0).isLt; omega⟩
      ⟨11520 + (i 1).val, by have h : (i 1).val < 64 := (i 1).isLt; omega⟩) (fun a => ?_)).trans rfl
  match a with
  | ⟨0, _⟩ => show (i 0).val = 0 + (i 0).val; omega
  | ⟨1, _⟩ => rfl

/-- The whole run: both results, and the arguments as they were. -/
theorem run_both (ρ : Dev nD → PrngReg) :
    θ_run defs (onTc (τ := τ) (main (F := Ideal))) ⟨m, fun _ => 0, ρ⟩ fun r => ∀ c : Dev nD,
      r.2.mem ((c : Thread nD τ).loc main_v1) = product m c
      ∧ r.2.mem ((c : Thread nD τ).loc main_v2) = rotary m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).1 5).trans (array_eq m c),
      ((h.1 c).2 main_v2 (Pipeline.mem_restRefs_of main_v2 (by decide) (by decide))).trans (cut_eq m c), h.2.1 c⟩)
    (θ_run_and (run_main m ρ) (frame m ρ))

end Cert.Kernel2Ideal.Blocks

/-! ## The reference's array is the same function -/

namespace Cert.Reference2Ideal.Meaning

open Cert.Reference2Ideal Cert.Reference2Ideal.Read Cert.Kernel2Ideal.Blocks

variable (x : Vec Ideal S12288x4096 .f32) (w : Vec Ideal S4096x11776 .bf16) (g : Vec Ideal S4096 .f32)
  (a b : Vec Ideal S8x1x4096 .f32)

/-- Frame `c`'s token `d` of the context: one group of modulation rows for all frames. -/
theorem context_entry (c : Fin 32) (d : Fin 256) (l : Fin 4096) :
    val_main_v22 (F := Ideal) x g a b (ix3 c d l)
      = Rms.modulated (Ideal.ofBits FTy.f32 0x45800000#32) (Ideal.ofBits FTy.f32 0x358637BD#32)
          (fun k => x (ix2 ⟨c.val * 256 + d.val, by have := c.isLt; have := d.isLt; omega⟩ k)) (fun k => g (ix1 k))
          (fun k => a (ix3 0 0 k)) (fun k => b (ix3 0 0 k)) l := by
  unfold Rms.modulated Rms.unit
  pointwise [val_main_v0, val_main_v1, val_main_v2, val_main_cst, val_main_v3, val_main_v4, val_main_cst_0,
    val_main_v5, val_main_v6, val_main_cst_1, val_main_v7, val_main_v8, val_main_v9, val_main_v10,
    val_main_v11, val_main_v12, val_main_v13, val_main_v14, val_main_v15, val_main_cst_2, val_main_v16,
    val_main_v17, val_main_v18, val_main_v19, val_main_v20, val_main_v21, val_main_v22]

/-- The latent tokens: a modulation row per frame. -/
theorem latent_entry (c : Fin 2) (d : Fin 2048) (l : Fin 4096) :
    val_main_v45 (F := Ideal) x g a b (ix3 c d l)
      = Rms.modulated (Ideal.ofBits FTy.f32 0x45800000#32) (Ideal.ofBits FTy.f32 0x358637BD#32)
          (fun k => x (ix2 ⟨8192 + (c.val * 2048 + d.val), by have := c.isLt; have := d.isLt; omega⟩ k))
          (fun k => g (ix1 k)) (fun k => a (ix3 ⟨1 + c.val, by have := c.isLt; omega⟩ 0 k))
          (fun k => b (ix3 ⟨1 + c.val, by have := c.isLt; omega⟩ 0 k)) l := by
  unfold Rms.modulated Rms.unit
  pointwise [val_main_v23, val_main_v24, val_main_v25, val_main_cst_3, val_main_v26, val_main_v27, val_main_cst_4,
    val_main_v28, val_main_v29, val_main_cst_5, val_main_v30, val_main_v31, val_main_v32, val_main_v33,
    val_main_v34, val_main_v35, val_main_v36, val_main_v37, val_main_v38, val_main_cst_6, val_main_v39,
    val_main_v40, val_main_v41, val_main_v42, val_main_v43, val_main_v44, val_main_v45]

/-- Two rows modulated alike are equal when they are the same row under the same group. -/
theorem token_of (R R' : Fin 12288) (p : Fin 8) (l : Fin 4096) (e : R' = R) (eg : p = group R) :
    Rms.modulated (Ideal.ofBits FTy.f32 0x45800000#32) (Ideal.ofBits FTy.f32 0x358637BD#32)
      (fun k => x (ix2 R' k)) (fun k => g (ix1 k)) (fun k => a (ix3 p 0 k)) (fun k => b (ix3 p 0 k)) l
      = token x g a b R l := by
  subst e eg
  rfl

theorem context_row (q : Fin 8192) (l : Fin 4096) (R : Fin 12288) (hR : R.val = q.val) :
    val_main_v46 (F := Ideal) x g a b (ix2 q l) = token x g a b R l := by
  pointwise [val_main_v46]
  refine (context_entry x g a b _ _ l).trans (token_of x g a b R _ 0 l (Fin.ext ?_) (Fin.ext ?_))
  · dsimp only; omega
  · show 0 = if R.val < 8192 then 0 else 1 + (R.val - 8192) / 2048
    rw [if_pos (by omega)]

theorem latent_row (q : Fin 4096) (l : Fin 4096) (R : Fin 12288) (hR : R.val = 8192 + q.val) :
    val_main_v47 (F := Ideal) x g a b (ix2 q l) = token x g a b R l := by
  pointwise [val_main_v47]
  refine (latent_entry x g a b _ _ l).trans (token_of x g a b R _ _ l (Fin.ext ?_) (Fin.ext ?_))
  · dsimp only; omega
  · show 1 + q.val / 2048 = if R.val < 8192 then 0 else 1 + (R.val - 8192) / 2048
    rw [if_neg (by omega)]; omega

theorem tokens_eq (R : Fin 12288) (l : Fin 4096) :
    val_main_v48 (F := Ideal) x g a b (ix2 R l) = token x g a b R l := by
  unfold val_main_v48
  generalize h6 : val_main_v46 (F := Ideal) x g a b = y6
  generalize h7 : val_main_v47 (F := Ideal) x g a b = y7
  pointwise
  have hR := R.isLt
  split
  · subst h6; exact context_row x g a b _ l R rfl
  · subst h7; exact latent_row x g a b _ l R (by dsimp only; omega)

theorem result_eq (R : Fin 12288) (q : Fin 11776) :
    val_main_v50 (F := Ideal) x w g a b (ix2 R q) = projected x w g a b R q := by
  rw [val_main_v50_apply]
  unfold projected
  refine Finset.sum_congr rfl fun k _ => ?_
  rw [val_main_v49_apply, ← tokens_eq x g a b R k, show lidx_main_v50 (ix2 R q) k = ix2 R k from
      funext fun a => by match a with | ⟨0, _⟩ => rfl | ⟨1, _⟩ => rfl,
    show ridx_main_v50 (ix2 R q) k = ix2 k q from funext fun a => by match a with | ⟨0, _⟩ => rfl | ⟨1, _⟩ => rfl]
  rfl

theorem table_eq : val_main_v50 (F := Ideal) x w g a b = table x w g a b := by
  funext i
  obtain ⟨R, q, rfl⟩ : ∃ (R : Fin 12288) (q : Fin 11776), i = ix2 R q := ⟨i 0, i 1, eq_ix2 i⟩
  exact result_eq x w g a b R q

theorem rotary_eq : val_main_v51 (F := Ideal) x w g a b = rotaryOf x w g a b := by
  funext i
  rw [val_main_v51_apply, table_eq]
  unfold table rotaryOf
  rfl

end Cert.Reference2Ideal.Meaning

/-! ## The claims -/

namespace Cert.Proof.Projection

open Cert.Kernel2Ideal.Blocks

/-- The reference declares no semaphore, and its run leaves the arguments. -/
theorem reference_frame : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

theorem algebraic : Cert.algebraic_Kernel2Ideal_Reference2Ideal := fun m ρ m' ρ' _ hag =>
  ⟨fun c => product m c, fun c => rotary m c, run_both m ρ,
    (θ_run Cert.Reference2Ideal.defs _ _).mono (fun _ h c => ⟨(h c).1.trans (by
        obtain ⟨e0, e1, e2, e3, e4⟩ := hag c
        rw [Cert.Reference2Ideal.Read.val_main_v50_eq, Cert.Reference2Ideal.Meaning.table_eq, e0, e1, e2, e3, e4]
        rfl),
        (h c).2.1.trans (by
        obtain ⟨e0, e1, e2, e3, e4⟩ := hag c
        rw [Cert.Reference2Ideal.Read.val_main_v51_eq, Cert.Reference2Ideal.Meaning.rotary_eq, e0, e1, e2, e3, e4]
        rfl), (h c).2.2⟩)
      (Cert.Reference2Ideal.Value.run (F := Ideal) m' ρ')⟩

end Cert.Proof.Projection

end
-- ==== Proof.OutProj.lean ====
module

public import proofs.«01_k».proof.Defs
public import proofs.«01_k».proof.Proof.Gen.Kernel3Ideal.Value
public import proofs.«01_k».proof.Proof.Gen.Reference3Ideal.Read
public import Idealize.ShloMosaic.Lib.Pointwise
public import Idealize.ShloMosaic.Lib.Pipeline.ValueKit
public import Idealize.ShloMosaic.Lib.Pipeline.ValueKit.Point
public import Idealize.ShloMosaic.Lib.Quiescent

@[expose] public section

set_option maxRecDepth 16384

noncomputable section

open Idealize.ShloMosaic Idealize.ShloMosaic.TcCoe Idealize.SL.Sem

/-! ## The output projection: four mixers' outputs side by side, times the weight -/

namespace Cert.Kernel3Ideal.Meaning

open Cert.Kernel3Ideal Cert.Kernel3Ideal.Gen

/-- A sum over 4096 columns is the sum of the four groups' sums. -/
theorem sum_groups (f : Fin 4096 → EReal) :
    ∑ k, f k = (∑ k : Fin 1024, f ⟨k.val, by omega⟩) + (∑ k : Fin 1024, f ⟨1024 + k.val, by omega⟩)
      + (∑ k : Fin 1024, f ⟨2048 + k.val, by omega⟩) + (∑ k : Fin 1024, f ⟨3072 + k.val, by omega⟩) := by
  rw [show ∑ k, f k = ∑ k : Fin (3072 + 1024), f k from rfl, Fin.sum_univ_add,
    show ∑ k : Fin 3072, f (Fin.castAdd 1024 k) = ∑ k : Fin (2048 + 1024), f (Fin.castAdd 1024 k) from rfl, Fin.sum_univ_add,
    show ∑ k : Fin 2048, f (Fin.castAdd 1024 (Fin.castAdd 1024 k))
      = ∑ k : Fin (1024 + 1024), f (Fin.castAdd 1024 (Fin.castAdd 1024 k)) from rfl, Fin.sum_univ_add]
  rfl

/-- One output element: row `r` of the four groups times column `q` of the weight's four row groups. -/
def combined (y0 y1 y2 y3 : Fin 1024 → EReal) (w : Fin 4096 → EReal) : EReal :=
  (∑ k : Fin 1024, y0 k * w ⟨k.val, by omega⟩) + (∑ k : Fin 1024, y1 k * w ⟨1024 + k.val, by omega⟩)
    + (∑ k : Fin 1024, y2 k * w ⟨2048 + k.val, by omega⟩) + (∑ k : Fin 1024, y3 k * w ⟨3072 + k.val, by omega⟩)

/-- The whole array. -/
def projected (y0 y1 y2 y3 : Vec Ideal S12288x1024 .bf16) (w : Vec Ideal S4096x4096 .bf16) : Vec Ideal S12288x4096 .f32 := fun i =>
  combined (fun k => y0 (ix2 (i 0) k)) (fun k => y1 (ix2 (i 0) k)) (fun k => y2 (ix2 (i 0) k)) (fun k => y3 (ix2 (i 0) k))
    (fun k => w (ix2 k (i 1)))

/-! ### The grid's array -/

variable (m : (ℓ : Loc nD τ sig) → Buf (Elt Ideal) ℓ)

theorem index_in : ∀ t : Fin cfg0.N,
    win0_0.index t = ![t.val % 24, 0] ∧ win0_1.index t = ![t.val % 24, 0]
    ∧ win0_2.index t = ![t.val % 24, 0] ∧ win0_3.index t = ![t.val % 24, 0] :=
  (by decide +kernel : ∀ t : Fin grid0.N, _)
theorem index_out : ∀ t : Fin cfg0.N,
    win0_4.index t = ![0, t.val / 24] ∧ win0_5.index t = ![t.val % 24, t.val / 24] :=
  (by decide +kernel : ∀ t : Fin grid0.N, _)

theorem array_eq (c : Dev nD) : (dats m 0 c).arrAt 5 cfg0.N
    = projected (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  obtain ⟨i0, i1, i2, i3⟩ := index_in t
  obtain ⟨i4, i5⟩ := index_out t
  frame_out
  idx_vars y
  unfold projected combined
  pointwise [k0_pay1]
  blk_point [iblk, V, i0, i1, i2, i3, i4, i5]

end Cert.Kernel3Ideal.Meaning

namespace Cert.Reference3Ideal.Meaning

open Cert.Reference3Ideal Cert.Reference3Ideal.Read Cert.Kernel3Ideal.Meaning

variable (y0 y1 y2 y3 : Vec Ideal S12288x1024 .bf16) (w : Vec Ideal S4096x4096 .bf16)

/-- Picking column `2048 + k` of four arrays side by side is picking column `k` of the third. -/
theorem third_group (f0 f1 f2 f3 : Fin 1024 → EReal) (k : Fin 1024) :
    (if h0 : 2048 + k.val < 1024 then f0 ⟨2048 + k.val, h0⟩
      else if h1 : 2048 + k.val - 1024 < 1024 then f1 ⟨2048 + k.val - 1024, h1⟩
      else if h2 : 2048 + k.val - 1024 - 1024 < 1024 then f2 ⟨2048 + k.val - 1024 - 1024, h2⟩
      else f3 ⟨2048 + k.val - 1024 - 1024 - 1024, by omega⟩) = f2 k := by
  rw [dif_neg (by omega), dif_neg (by omega), dif_pos (by omega)]
  exact congrArg f2 (Fin.ext (by dsimp only; omega))

/-- And column `3072 + k` is column `k` of the fourth. -/
theorem fourth_group (f0 f1 f2 f3 : Fin 1024 → EReal) (k : Fin 1024) :
    (if h0 : 3072 + k.val < 1024 then f0 ⟨3072 + k.val, h0⟩
      else if h1 : 3072 + k.val - 1024 < 1024 then f1 ⟨3072 + k.val - 1024, h1⟩
      else if h2 : 3072 + k.val - 1024 - 1024 < 1024 then f2 ⟨3072 + k.val - 1024 - 1024, h2⟩
      else f3 ⟨3072 + k.val - 1024 - 1024 - 1024, by omega⟩) = f3 k := by
  rw [dif_neg (by omega), dif_neg (by omega), dif_neg (by omega)]
  exact congrArg f3 (Fin.ext (by dsimp only; omega))

theorem result_eq : val_main_v3 (F := Ideal) y0 y1 y2 y3 w = projected y0 y1 y2 y3 w := by
  funext i
  idx_vars i
  rw [val_main_v3_apply, sum_groups]
  simp only [show ∀ k, lidx_main_v3 (ix2 i0 i1) k = ix2 i0 k from
      fun k => funext fun a => by match a with | ⟨0, _⟩ => rfl | ⟨1, _⟩ => rfl,
    show ∀ k, ridx_main_v3 (ix2 i0 i1) k = ix2 k i1 from
      fun k => funext fun a => by match a with | ⟨0, _⟩ => rfl | ⟨1, _⟩ => rfl]
  unfold projected combined
  pointwise [val_main_v1, val_main_v0, val_main_v2]
  simp only [third_group (fun k => y0 (ix2 i0 k)) (fun k => y1 (ix2 i0 k)) (fun k => y2 (ix2 i0 k)) (fun k => y3 (ix2 i0 k)),
    fourth_group (fun k => y0 (ix2 i0 k)) (fun k => y1 (ix2 i0 k)) (fun k => y2 (ix2 i0 k)) (fun k => y3 (ix2 i0 k))]

end Cert.Reference3Ideal.Meaning

namespace Cert.Proof.Combine

theorem reference_frame : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem algebraic : Cert.algebraic_Kernel3Ideal_Reference3Ideal := fun m ρ m' ρ' _ hag =>
  ⟨fun c => _,
    (θ_run Cert.Kernel3Ideal.defs _ _).mono (fun _ h c => ⟨(h c).1.trans (Cert.Kernel3Ideal.Meaning.array_eq m c), (h c).2⟩)
      (Cert.Kernel3Ideal.Value.run_blocks m ρ),
    (θ_run Cert.Reference3Ideal.defs _ _).mono (fun _ h c => ⟨(h c).1.trans (by
        obtain ⟨e0, e1, e2, e3, e4⟩ := hag c
        rw [Cert.Reference3Ideal.Read.val_main_v3_eq, Cert.Reference3Ideal.Meaning.result_eq, e0, e1, e2, e3, e4]), (h c).2⟩)
      (Cert.Reference3Ideal.Value.run (F := Ideal) m' ρ')⟩

end Cert.Proof.Combine

end
-- ==== Proof.Step4.lean ====
module

public import proofs.«01_k».proof.Proof.Gen.Kernel4Ideal.Skeleton
public import proofs.«01_k».proof.Proof.Gen.Kernel4Ideal.Frame
public import Idealize.ShloMosaic.Lib.Pipeline.FrameBody
public import Idealize.ShloMosaic.Lib.Pipeline.ValueKit
public import Idealize.ShloMosaic.Lib.Tactic
public import Idealize.ShloMosaic.Lib.WritesUnit
public import Idealize.ShloMosaic.Lib.VecWindow

@[expose] public section

set_option maxRecDepth 16384

noncomputable section

/-! ## One step of the compressed keys' up-projection, on whichever buffers it is given

The first step of a row block normalises the block, keeps it in the second output's buffer and, cast, in the scratch;
every step multiplies the scratch by its columns of the weight. -/

namespace Cert.Kernel4Ideal.Step

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg2 : Memref sig .tc .vmem S512x512 .f32) (harg2 : arg2.IsWhole)
  (arg3 : Memref sig .tc .vmem S1x512 .f32) (harg3 : arg3.IsWhole) (arg4 : Memref sig .tc .vmem S512x1024 .bf16) (harg4 : arg4.IsWhole)
  (arg5 : Memref sig .tc .vmem S512x1024 .bf16) (harg5 : arg5.IsWhole) (arg6 : Memref sig .tc .vmem S512x512 .f32) (harg6 : arg6.IsWhole)
  (arg7 : Memref sig .tc .vmem S512x512 .bf16) (harg7 : arg7.IsWhole)

set_option maxHeartbeats 1000000 in
/-- A later step of a row block: the scratch times the step's columns of the weight, nothing else touched. -/
theorem run_later (h : Vec F S512x512 .bf16) (x2 : Vec F S512x1024 .bf16) (hc : ¬ k0_cond1 i = 1#1)
    (E : Set ℕ) (K : PUnit → sProp 𝕄) :
    iprop(owns (c : Thread nD τ) arg4 fullShare x2 ∗ (∃ d, owns (c : Thread nD τ) arg5 fullShare d) ∗ owns (c : Thread nD τ) arg7 fullShare h
        ∗ (iprop(owns (c : Thread nD τ) arg4 fullShare x2 ∗ owns (c : Thread nD τ) arg5 fullShare (k0_pay3 h x2) ∗ owns (c : Thread nD τ) arg7 fullShare h) -∗ K ⟨⟩))
      ⊢ wp frame (wpE (defs₀ (F := F)) Variants.none c none) E (cc0_mla_kv i arg2 harg2 arg3 harg3 arg4 harg4 arg5 harg5 arg6 harg6 arg7 harg7) K := by
  rw [cc0_mla_kv_eq_skeleton]; unfold cc0_mla_kv_skel
  unfold owns
  iintro ⟨⟨%f4, %hf4, HW⟩, ⟨%d5, %f5, -, HO⟩, ⟨%f7, %hf7, HS⟩, Hk⟩
  obtain rfl := harg4.eq_unread hf4; obtain rfl := harg7.eq_unread hf7
  sl_exec! (disch := first | (guard_target = ¬ (k0_cond1 _ = _); exact hc))
  sl_step
  iapply Hk
  isplitl [HW]
  · iexists _; isplitr; · ipureintro; exact hf4
    iexact HW
  isplitl [HO]
  · iexists _; isplitr; swap; · iexact HO
    ipureintro
    unfold run_later.sl.HO_1
    rw [View.read_writes_full, View.readAt_full, View.readAt_full, hf4, hf7]
  · iexists _; isplitr; · ipureintro; exact hf7
    iexact HS

set_option maxHeartbeats 1000000 in
/-- The first step of a row block: the block is normalised and stored, then multiplied. -/
theorem run_first (x0 : Vec F S512x512 .f32) (x1 : Vec F S1x512 .f32) (x2 : Vec F S512x1024 .bf16) (hc : k0_cond1 i = 1#1)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 x0 x1) x2) ∗ owns (c : Thread nD τ) arg6 fullShare (k0_pay1 x0 x1)
            ∗ owns (c : Thread nD τ) arg7 fullShare (k0_pay2 x0 x1)) -∗ K ⟨⟩))
      ⊢ wp frame (wpE (defs₀ (F := F)) Variants.none c none) E (cc0_mla_kv i arg2 harg2 arg3 harg3 arg4 harg4 arg5 harg5 arg6 harg6 arg7 harg7) K := by
  rw [cc0_mla_kv_eq_skeleton]; unfold cc0_mla_kv_skel
  unfold owns
  iintro ⟨⟨%f2, %hf2, HX⟩, ⟨%f3, %hf3, HG⟩, ⟨%f4, %hf4, HW⟩, ⟨%d5, %f5, -, HO⟩, ⟨%d6, %f6, -, HH⟩, ⟨%d7, %f7, -, HS⟩, Hk⟩
  obtain rfl := harg2.eq_unread hf2; obtain rfl := harg3.eq_unread hf3; obtain rfl := harg4.eq_unread hf4
  sl_exec! (disch := first | (guard_target = k0_cond1 _ = _; exact hc))
  sl_step
  iapply Hk
  isplitl [HX]
  · iexists _; isplitr; · ipureintro; exact hf2
    iexact HX
  isplitl [HG]
  · iexists _; isplitr; · ipureintro; exact hf3
    iexact HG
  isplitl [HW]
  · iexists _; isplitr; · ipureintro; exact hf4
    iexact HW
  isplitl [HO]
  · iexists _; isplitr; swap; · iexact HO
    ipureintro
    unfold run_first.sl.HO_1
    rw [View.read_writes_full, View.readAt_full, hf4]
    unfold run_first.sl.v3
    unfold run_first.sl.HS_1
    rw [View.readCov_full, View.readAt_full, View.readAt_full, hf2, hf3]
  isplitl [HH]
  · iexists _; isplitr; swap; · iexact HH
    ipureintro
    unfold run_first.sl.HH_1
    rw [View.read_writes_full, View.readAt_full, View.readAt_full, hf2, hf3]
  · iexists _; isplitr; swap; · iexact HS
    ipureintro
    unfold run_first.sl.HS_1
    rw [View.read_writes_full, View.readAt_full, View.readAt_full, hf2, hf3]

end Cert.Kernel4Ideal.Step

end
-- ==== Proof.Frame4.lean ====
module

public import proofs.«01_k».proof.Proof.Step4
public import Idealize.ShloMosaic.Lib.Pipeline.TableIdle
public import Idealize.ShloMosaic.Lib.Claim

@[expose] public section

set_option maxRecDepth 16384

noncomputable section

/-! ## The run of the compressed keys' up-projection

A row block takes two steps. Both leave the block's normalised rows in the second output's buffer, the first by storing
them and the second by not touching them, and the same rows, cast, in the scratch. -/

namespace Cert.Kernel4Ideal.Step

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first step of the row block that step `n` works on. -/
def head (n : ℕ) : Fin cfg0.N := ⟨(n - n % 2) % 48, Nat.mod_lt _ (by decide)⟩

theorem head_first (t : Fin cfg0.N) (h : t.val % 2 = 0) : head t.val = t := by
  have ht : t.val < 48 := t.isLt
  exact Fin.ext (by unfold head; dsimp only; omega)

theorem head_later (n : ℕ) (h : ¬n % 2 = 0) : head n = head (n - 1) := Fin.ext (by unfold head; dsimp only; omega)

/-- The normalised rows of step `n`'s row block, -/
def normed (c : Dev nD) (n : ℕ) : Vec F S512x512 .f32 := k0_pay1 (iblk m c 0 (head n)) (iblk m c 1 (head n))
/-- and the same, cast. -/
def lowered (c : Dev nD) (n : ℕ) : Vec F S512x512 .bf16 := k0_pay2 (iblk m c 0 (head n)) (iblk m c 1 (head n))

theorem first_iff : ∀ t : Fin cfg0.N, k0_cond1 (cfg0.grid.coords t) = 1#1 ↔ t.val % 2 = 0 :=
  (by decide +kernel : ∀ t : Fin grid0.N, k0_cond1 (grid0.coords t) = 1#1 ↔ t.val % 2 = 0)

abbrev scratch : Memref sig .tc .vmem S512x512 .bf16 := Memref.whole cc0_scratch0

theorem rest_eq (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; rfl

/-- What the scratch holds before step `n`: anything at first, then what the step before left. -/
def carried (c : Dev nD) (n : ℕ) : sProp 𝕄 :=
  if n = 0 then iprop(∃ d, owns (c : Thread nD τ) scratch fullShare d) else owns (c : Thread nD τ) scratch fullShare (lowered m c (n - 1))

/-- The run's data: the inputs' buffers at their blocks, the outputs' at the product and at the normalised rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (lowered m c t.val) (iblk m c 2 t)
    | ⟨4, _⟩ => normed m c t.val
  Φ k := iprop(carried m c k.val ∗ (∃ r, prngReg c r))
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = k0_pay3 (lowered m c t.val) (iblk m c 2 t) := by dsimp only [dats]
theorem after4 (c : Dev nD) (t : Fin cfg0.N) : (dats m 0 c).after 4 t = normed m c t.val := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- The second output's buffer is left alone at the second step of each row block. -/
theorem idle4 (t : Fin cfg0.N) : cfg0.idle 4 (cfg0.grid.coords t) = true ↔ ¬t.val % 2 = 0 := by
  rw [show cfg0.idle 4 (cfg0.grid.coords t) = !(k0_cond1 (cfg0.grid.coords t) == 1#1) from rfl, Bool.not_eq_true',
    ← Bool.not_eq_true, beq_iff_eq, first_iff]

/-- No write-back happens between the two steps of a row block. -/
theorem not_fresh (t : Fin cfg0.N) (h : ¬t.val % 2 = 0) : cfg0.fresh 4 t.val = false := by
  obtain ⟨n, hn⟩ := t
  cases n with
  | zero => exact absurd rfl h
  | succ n =>
    have h' : ¬(n + 1) % 2 = 0 := h
    have hn' : n < cfg0.N := Nat.lt_of_succ_lt hn
    have hf : (cfg0.win 4).flush ⟨n, hn'⟩ = false := by
      rw [← Bool.not_eq_true, flush0_4]
      show ¬n % 2 = 1
      omega
    have hi : cfg0.idle 4 (cfg0.grid.coords ⟨n, hn'⟩) = false := by
      rw [← Bool.not_eq_true, idle4]
      show ¬¬n % 2 = 0
      omega
    rw [cfg0.fresh_succ 4 n hn', hf, hi]
    rfl

/-- What the second step of a row block finds in the second output's buffer: the rows the first step normalised. -/
theorem before4_later (c : Dev nD) (t : Fin cfg0.N) (h : ¬t.val % 2 = 0) (d) :
    (dats m 0 c).before 4 t d = normed m c t.val := by
  rw [(dats m 0 c).before_out_traj 4 rfl (fun _ _ => rfl) (fun s hs hi hfr => by
      rw [after4, after4]
      unfold normed
      rw [head_later s.val ((idle4 s).mp hi)]) t.val t rfl d,
    not_fresh t h, if_neg Bool.false_ne_true, after4]
  unfold normed
  rw [head_later t.val h]

theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t)
        ∗ owns (c : Thread nD τ) (st0_3 t) fullShare ((dats m 0 c).after 3 t)
        ∗ owns (c : Thread nD τ) (st0_4 t) fullShare ((dats m 0 c).after 4 t))) := by
  simp only [before0, before1, before2]
  rw [show (dats m 0 c).owesAt () t.succ = (dats m 0 c).owesAt () t.castSucc from rfl, after0, after1, after2, after3, after4,
    show (dats m 0 c).Φ t.castSucc = iprop(carried m c t.val ∗ (∃ r, prngReg c r)) from rfl,
    show (dats m 0 c).Φ t.succ = iprop(carried m c (t.val + 1) ∗ (∃ r, prngReg c r)) from rfl,
    show carried m c (t.val + 1) = owns (c : Thread nD τ) scratch fullShare (lowered m c t.val) from if_neg (Nat.succ_ne_zero _)]
  unfold bodyAt0
  by_cases h0 : t.val % 2 = 0
  · unfold normed lowered
    rw [head_first t h0]
    iintro ⟨⟨HS, Hg⟩, Ho, ⟨%d0, H0⟩, ⟨%d1, H1⟩, ⟨%d2, H2⟩, ⟨%d3, H3⟩, ⟨%d4, H4⟩⟩
    iapply (run_first c (grid0.coords t) _ _ _ _ _ _ _ _ _ _ scratch _ (iblk m c 0 t) (iblk m c 1 t) (iblk m c 2 t) ((first_iff t).mpr h0) Set.univ _)
    isplitl [H0]; · iexact H0
    isplitl [H1]; · iexact H1
    isplitl [H2]; · iexact H2
    isplitl [H3]; · iexists _; iexact H3
    isplitl [H4]; · iexists _; iexact H4
    isplitl [HS]
    · unfold carried
      split
      · iexact HS
      · iexists _; iexact HS
    iintro ⟨H0, H1, H2, H3, H4, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    iexact H4
  · have hz : ¬t.val = 0 := fun h => h0 (by rw [h])
    rw [show carried m c t.val = owns (c : Thread nD τ) scratch fullShare (lowered m c t.val) from
      (if_neg hz).trans (by unfold lowered; rw [head_later t.val h0])]
    simp only [before4_later m c t h0]
    iintro ⟨⟨HS, Hg⟩, Ho, ⟨%d0, H0⟩, ⟨%d1, H1⟩, ⟨%d2, H2⟩, ⟨%d3, H3⟩, ⟨%d4, H4⟩⟩
    iapply (run_later c (grid0.coords t) _ _ _ _ _ _ _ _ _ _ scratch _ (lowered m c t.val) (iblk m c 2 t) (fun h => h0 ((first_iff t).mp h)) Set.univ _)
    isplitl [H2]; · iexact H2
    isplitl [H3]; · iexists _; iexact H3
    isplitl [HS]; · iexact HS
    iintro ⟨H2, H3, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    iexact H4

theorem body_row (t : Fin cfg0.N) :
    defs₀ (F := F) .tc cfg0.body (cfg0.bodyArgs t (cfg0.slots t)) = bodyAt0 t := by
  unfold defs₀; rw [Defs.onTc_tc]

/-- The second output's buffer at its rows is what the pipeline asks for, whether the step stored them or not. -/
theorem hand_back (c : Dev nD) (t : Fin cfg0.N) :
    owns (c : Thread nD τ) (st0_4 t) fullShare ((dats m 0 c).after 4 t) ⊢
      (match cfg0.idle 4 (cfg0.grid.coords t) with
        | true =>
          match (cfg0.win 4).flush t with
          | false => iprop(∃ d, owns (c : Thread nD τ) (st0_4 t) fullShare ((dats m 0 c).before 4 t d))
          | true => owns (c : Thread nD τ) (st0_4 t) fullShare ((dats m 0 c).after 4 t)
        | false => owns (c : Thread nD τ) (st0_4 t) fullShare ((dats m 0 c).after 4 t) : sProp 𝕄) := by
  split
  · rename_i hi
    split
    · simp only [before4_later m c t ((idle4 t).mp hi), after4]
      iintro H; iexists (normed m c t.val); iexact H
    · exact .rfl
  · exact .rfl

theorem body_obligation (c : Dev nD) : BodyObligation (dats (F := F) m 0 c) (defs₀ (F := F)) Variants.none () Set.univ := fun t => by
  rw [bigSep_W0, bigSep_W0, body_row]
  refine triple_restated (sound_body m c t) rfl .rfl fun _ => ?_
  exact sep_mono .rfl (sep_mono .rfl (sep_mono .rfl (sep_mono .rfl (sep_mono .rfl (sep_mono .rfl (hand_back m c t))))))

-- the implicit arguments of the launch theorem are found by unifying its conclusion with this one
set_option backward.isDefEq.respectTransparency.types false in
/-- The program runs to its end from any launch: the arrays end as the data say, no counter is left. -/
theorem run_main : θ_run defs (onTc (τ := τ) (main (F := F))) (s₀ m ρ) (fun r =>
    Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      rw [show (dats m 0 c).Φ 0 = iprop(carried m c 0 ∗ (∃ r, prngReg c r)) from rfl,
        show carried m c 0 = iprop(∃ d, owns (c : Thread nD τ) scratch fullShare d) from if_pos rfl, rest_eq])
    (hout := fun c => by
      rw [show (dats m 0 c).Φ (Fin.last cfg0.N) = iprop(carried m c 48 ∗ (∃ r, prngReg c r)) from rfl,
        show carried m c 48 = owns (c : Thread nD τ) scratch fullShare (lowered m c 47) from if_neg (by decide), rest_eq]
      iintro ⟨HS, Hg⟩
      isplitl [HS]
      · iexists _; iexact HS
      iexact Hg)

/-- The program runs to its end from any launch, its arguments unchanged and no counter left. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Idealize.ShloMosaic.θ_run_and (frame_of m ρ (dats m) (A_eq m) ((θ_run defs _ _).mono (fun _ h => h.1) (run_main m ρ)))
    ((θ_run defs _ _).mono (fun _ h => h.2) (run_main m ρ))

end Cert.Kernel4Ideal.Step

end
-- ==== Proof.Same4.lean ====
module

public import proofs.«01_k».proof.Proof.Frame4
public import proofs.«01_k».proof.Proof.Gen.Kernel4
public import proofs.«01_k».proof.Defs

@[expose] public section

set_option maxRecDepth 16384

noncomputable section

/-! ## The program as compiled is the program as idealized: no operation was replaced -/

namespace Cert.Kernel4Ideal.Step

open Idealize.ShloMosaic Idealize.ShloMosaic.TcCoe
open Idealize.SL Idealize.SL.Sem

variable {F : FTy → Type} [FloatOps F]

theorem same_body : @Kernel4.cc0_mla_kv F _ _ = @Kernel4Ideal.cc0_mla_kv F _ _ := rfl

set_option maxHeartbeats 4000000 in
theorem same_table : @Kernel4.defs₀ F _ _ = @Kernel4Ideal.defs₀ F _ _ := by
  unfold Kernel4.defs₀ Kernel4Ideal.defs₀
  refine congrArg Defs.onTc (funext fun l => funext fun x => ?_)
  match l, x with
  | ⟨0, _⟩, (t, s) => exact congrFun (congrFun (congrFun (congrFun (congrFun (congrFun (congrFun (congrFun (congrFun (congrFun (congrFun (congrFun (congrFun same_body _) _) _) _) _) _) _) _) _) _) _) _) _

theorem same_defs : @Kernel4.defs F _ _ = @Kernel4Ideal.defs F _ _ :=
  congrArg (Pipeline.defs (Kernel4Ideal.pcfgs (F := F))) same_table

theorem frame_bits : Cert.quiescent_Kernel4 := fun m ρ _ => by
  rw [same_defs]
  exact frame (F := Bits) m ρ

theorem frame_ideal : Cert.quiescent_Kernel4Ideal := fun m ρ _ => frame (F := Ideal) m ρ

end Cert.Kernel4Ideal.Step

end
-- ==== Proof.MlaKv.lean ====
module

public import proofs.«01_k».proof.Defs
public import proofs.«01_k».proof.Proof.Rms
public import proofs.«01_k».proof.Proof.Same4
public import proofs.«01_k».proof.Proof.Gen.Reference4Ideal.Read
public import Idealize.ShloMosaic.Lib.Pointwise
public import Idealize.ShloMosaic.Lib.Pipeline.Value
public import Idealize.ShloMosaic.Lib.Pipeline.ValueKit
public import Idealize.ShloMosaic.Lib.Pipeline.ValueKit.Point
public import Idealize.ShloMosaic.Lib.Pipeline.ReadBack
public import Idealize.ShloMosaic.Lib.StableHlo.ReadAt
public import Idealize.ShloMosaic.Lib.Quiescent

@[expose] public section

set_option maxRecDepth 16384

noncomputable section

open Idealize.ShloMosaic Idealize.ShloMosaic.TcCoe Idealize.SL.Sem

/-! ## The latent attention's compressed keys and values, and their up-projection -/

namespace Cert.Kernel4Ideal.Step

open Cert.Kernel4Ideal Cert.Kernel4Ideal.Gen

/-- The compressed keys and values: the 512 columns of each projected token that hold them, normalised and scaled by
    the gain. -/
def compressed (x : Vec Ideal S12288x11776 .f32) (g : Vec Ideal S512 .f32) : Vec Ideal S12288x512 .f32 := fun i =>
  Rms.unit (Ideal.ofBits FTy.f32 0x44000000#32) (Ideal.ofBits FTy.f32 0x358637BD#32)
    (fun k : Fin 512 => x (ix2 (i 0) ⟨10240 + k.val, by omega⟩)) (i 1) * g (ix1 (i 1))

/-- The keys and values: the compressed ones times the weight. -/
def keysValues (x : Vec Ideal S12288x11776 .f32) (w : Vec Ideal S512x2048 .bf16) (g : Vec Ideal S512 .f32) :
    Vec Ideal S12288x2048 .bf16 := fun i => ∑ k : Fin 512, compressed x g (ix2 (i 0) k) * w (ix2 k (i 1))

variable (m : (ℓ : Loc nD τ sig) → Buf (Elt Ideal) ℓ)

theorem index_all : ∀ t : Fin cfg0.N, win0_0.index t = ![t.val / 2, 20] ∧ win0_1.index t = ![0, 0]
    ∧ win0_2.index t = ![0, t.val % 2] ∧ win0_3.index t = ![t.val / 2, t.val % 2] ∧ win0_4.index t = ![t.val / 2, 0] :=
  (by decide +kernel : ∀ t : Fin grid0.N, _)

theorem head_block (t : Fin cfg0.N) : (head t.val).val / 2 = t.val / 2 := by
  have ht : t.val < 48 := t.isLt
  unfold head
  dsimp only
  omega

theorem rows_eq (c : Dev nD) : (dats m 0 c).arrAt 4 cfg0.N
    = compressed (m ((c : Thread nD τ).loc main_arg0)) (m ((c : Thread nD τ).loc main_arg2)) := by
  refine (dats m 0 c).arrAt_eq_of_covers 4 _ (by decide +kernel) fun t hf y => ?_
  blk_simp
  rw [after4]
  have hp := head_block t
  obtain ⟨p0, p1, _⟩ := index_all (head t.val)
  obtain ⟨_, _, _, _, i4⟩ := index_all t
  idx_vars y
  unfold compressed Rms.unit normed
  pointwise [k0_pay1]
  blk_point [iblk, V, p0, p1, i4, hp]

theorem product_eq (c : Dev nD) : (dats m 0 c).arrAt 3 cfg0.N
    = keysValues (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after3]
  have hp := head_block t
  obtain ⟨p0, p1, _⟩ := index_all (head t.val)
  obtain ⟨_, _, i2, i3, _⟩ := index_all t
  idx_vars y
  unfold keysValues compressed Rms.unit lowered
  pointwise [k0_pay3, k0_pay2, k0_pay1]
  blk_point [iblk, V, p0, p1, i2, i3, hp]

theorem run_blocks (ρ : Dev nD → PrngReg) : θ_run defs (onTc (τ := τ) (main (F := Ideal))) ⟨m, fun _ => 0, ρ⟩ fun r => ∀ c : Dev nD,
      r.2.mem ((c : Thread nD τ).loc main_v1_0) = (dats m 0 c).arrAt 3 cfg0.N
      ∧ r.2.mem ((c : Thread nD τ).loc main_v1_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1.1 c).1 3, (h.1.1 c).1 4, h.2.1 c⟩)
    (Idealize.ShloMosaic.θ_run_and (run_main m ρ) (frame m ρ))

end Cert.Kernel4Ideal.Step

namespace Cert.Reference4Ideal.Meaning

open Cert.Reference4Ideal Cert.Reference4Ideal.Read Cert.Kernel4Ideal.Step

variable (x : Vec Ideal S12288x11776 .f32) (w : Vec Ideal S512x2048 .bf16) (g : Vec Ideal S512 .f32)

theorem rows_eq : val_main_v13 (F := Ideal) x g = compressed x g := by
  funext i
  idx_vars i
  unfold compressed Rms.unit
  pointwise [val_main_v0, val_main_v1, val_main_cst, val_main_v2, val_main_v3, val_main_cst_0, val_main_v4,
    val_main_v5, val_main_cst_1, val_main_v6, val_main_v7, val_main_v8, val_main_v9, val_main_v10, val_main_v11,
    val_main_v12, val_main_v13]

theorem product_eq : val_main_v16 (F := Ideal) x w g = keysValues x w g := by
  funext i
  idx_vars i
  rw [val_main_v16_apply, val_main_v15_apply, rows_eq]
  unfold keysValues
  refine Finset.sum_congr rfl fun k _ => ?_
  rw [val_main_v14_apply, show lidx_main_v15 (ix2 i0 i1) k = ix2 i0 k from
      funext fun a => by match a with | ⟨0, _⟩ => rfl | ⟨1, _⟩ => rfl,
    show ridx_main_v15 (ix2 i0 i1) k = ix2 k i1 from
      funext fun a => by match a with | ⟨0, _⟩ => rfl | ⟨1, _⟩ => rfl]
  rfl

end Cert.Reference4Ideal.Meaning

namespace Cert.Proof.LatentKv

theorem kernel_frame : Cert.quiescent_Kernel4 := Cert.Kernel4Ideal.Step.frame_bits

theorem kernel_ideal_frame : Cert.quiescent_Kernel4Ideal := Cert.Kernel4Ideal.Step.frame_ideal

theorem reference_frame : Cert.quiescent_Reference4Ideal := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)

theorem algebraic : Cert.algebraic_Kernel4Ideal_Reference4Ideal := fun m ρ m' ρ' _ hag =>
  ⟨fun c => _, fun c => _,
    (θ_run Cert.Kernel4Ideal.defs _ _).mono (fun _ h c => ⟨(h c).1.trans (Cert.Kernel4Ideal.Step.product_eq m c),
        (h c).2.1.trans (Cert.Kernel4Ideal.Step.rows_eq m c), (h c).2.2⟩)
      (Cert.Kernel4Ideal.Step.run_blocks m ρ),
    (θ_run Cert.Reference4Ideal.defs _ _).mono (fun _ h c => ⟨(h c).1.trans (by
        obtain ⟨e0, e1, e2⟩ := hag c
        rw [Cert.Reference4Ideal.Read.val_main_v16_eq, Cert.Reference4Ideal.Meaning.product_eq, e0, e1, e2]),
        (h c).2.1.trans (by
        obtain ⟨e0, e1, e2⟩ := hag c
        rw [Cert.Reference4Ideal.Read.val_main_v13_eq, Cert.Reference4Ideal.Meaning.rows_eq, e0, e2]), (h c).2.2⟩)
      (Cert.Reference4Ideal.Value.run (F := Ideal) m' ρ')⟩

end Cert.Proof.LatentKv

end
-- ==== Proof.Keep.lean ====
module

public import Mathlib.Tactic.Common

@[expose] public section

/-! ## A buffer that is refilled at every `J`-th step and kept in between -/

namespace Cert.Keep

theorem step (J n : ℕ) (h : ¬(n + 1) % J = 0) : (n + 1) % J = n % J + 1 := by
  rcases Nat.eq_zero_or_pos J with rfl | hJ
  · rw [Nat.mod_zero, Nat.mod_zero]
  rcases Nat.lt_or_ge (n % J + 1) J with h1 | h1
  · rw [Nat.add_mod, Nat.mod_eq_of_lt (show 1 < J by omega), Nat.mod_eq_of_lt h1]
  · refine absurd ?_ h
    have e : n + 1 = J * (n / J + 1) := by
      have := Nat.div_add_mod n J
      have := Nat.mod_lt n hJ
      rw [Nat.mul_add]; omega
    rw [e, Nat.mul_mod_right]

/-- After step `n` such a buffer holds what the last refilling step put there. -/
theorem eq_refill {α : Type*} {N : ℕ} (J : ℕ) (f : (n : ℕ) → n < N → α) (g : Fin N → α)
    (first : ∀ t : Fin N, t.val % J = 0 → f t.val t.isLt = g t)
    (later : ∀ t : Fin N, ¬t.val % J = 0 → f t.val t.isLt = f (t.val - 1) (Nat.lt_of_le_of_lt (Nat.sub_le _ _) t.isLt)) :
    ∀ (n : ℕ) (h : n < N), f n h = g ⟨n - n % J, Nat.lt_of_le_of_lt (Nat.sub_le _ _) h⟩
  | 0, h => (first ⟨0, h⟩ (Nat.zero_mod J)).trans (congrArg g (Fin.ext (by dsimp only; omega)))
  | n + 1, h => by
    by_cases h0 : (n + 1) % J = 0
    · exact (first ⟨n + 1, h⟩ h0).trans (congrArg g (Fin.ext (by dsimp only; omega)))
    · refine (later ⟨n + 1, h⟩ h0).trans ((eq_refill J f g first later n (Nat.lt_of_succ_lt h)).trans
        (congrArg g (Fin.ext ?_)))
      have e : (n + 1) % J = n % J + 1 := step J n h0
      show n - n % J = n + 1 - (n + 1) % J
      omega

end Cert.Keep
-- ==== Proof.MlaQ.lean ====
module

public import proofs.«01_k».proof.Defs
public import proofs.«01_k».proof.Proof.Keep
public import proofs.«01_k».proof.Proof.Rms
public import proofs.«01_k».proof.Proof.Gen.Kernel5Ideal.Value
public import proofs.«01_k».proof.Proof.Gen.Reference5Ideal.Read
public import Idealize.ShloMosaic.Lib.Pointwise
public import Idealize.ShloMosaic.Lib.Pipeline.ValueKit
public import Idealize.ShloMosaic.Lib.Pipeline.ValueKit.Point
public import Idealize.ShloMosaic.Lib.Pipeline.ReadBack
public import Idealize.ShloMosaic.Lib.StableHlo.ReadAt
public import Idealize.ShloMosaic.Lib.Quiescent

@[expose] public section

set_option maxRecDepth 16384

noncomputable section

open Idealize.ShloMosaic Idealize.ShloMosaic.TcCoe Idealize.SL.Sem

/-! ## The latent attention's queries: normalised query columns times the up-projection -/

namespace Cert.Kernel5Ideal.Meaning

open Cert.Kernel5Ideal Cert.Kernel5Ideal.Gen

/-- The queries: the 768 query columns of the projected token `R`, normalised and scaled by the gain, times column
    `q` of the weight. -/
def queries (x : Vec Ideal S12288x11776 .f32) (w : Vec Ideal S768x1536 .bf16) (g : Vec Ideal S768 .f32) :
    Vec Ideal S12288x1536 .f32 := fun i =>
  ∑ k : Fin 768, Rms.unit (Ideal.ofBits FTy.f32 0x44400000#32) (Ideal.ofBits FTy.f32 0x358637BD#32)
    (fun k : Fin 768 => x (ix2 (i 0) ⟨10752 + k.val, by omega⟩)) k * g (ix1 k) * w (ix2 k (i 1))

variable (m : (ℓ : Loc nD τ sig) → Buf (Elt Ideal) ℓ)

/-- The normalised rows of point `t`'s row tile. -/
def rows (c : Dev nD) (t : Fin cfg0.N) : Vec Ideal S512x768 .bf16 := k0_pay1 (X0_0 m c t) (iblk m c 1 t)

theorem kept_first (c : Dev nD) (t : Fin cfg0.N) (h0 : t.val % 3 = 0) :
    (outsAt0 m c t.val t.isLt).2 = rows m c t := by
  rw [outsAt0_A m c t h0]
  frame_out
  rfl

theorem kept_later (c : Dev nD) (t : Fin cfg0.N) (h0 : ¬t.val % 3 = 0) :
    (outsAt0 m c t.val t.isLt).2 = (outsAt0 m c (t.val - 1) (Nat.lt_of_le_of_lt (Nat.sub_le _ _) t.isLt)).2 := by
  rw [outsAt0_B m c t h0]
  rfl

theorem kept_eq (c : Dev nD) (n : ℕ) (h : n < cfg0.N) :
    (outsAt0 m c n h).2 = rows m c ⟨n - n % 3, Nat.lt_of_le_of_lt (Nat.sub_le _ _) h⟩ :=
  Keep.eq_refill 3 (fun n h => (outsAt0 m c n h).2) (rows m c) (kept_first m c) (kept_later m c) n h

/-- What point `t` writes: its columns of the product of the rows that some point of the same row tile normalised. -/
theorem out_eq (c : Dev nD) (t : Fin cfg0.N) : ∃ p : Fin cfg0.N, p.val / 3 = t.val / 3
    ∧ (outsAt0 m c t.val t.isLt).1 = k0_pay2 (rows m c p) (iblk m c 2 t) := by
  refine ⟨⟨t.val - t.val % 3, Nat.lt_of_le_of_lt (Nat.sub_le _ _) t.isLt⟩, by dsimp only; omega, ?_⟩
  rw [← kept_eq m c t.val t.isLt]
  by_cases h0 : t.val % 3 = 0
  · rw [kept_first m c t h0, outsAt0_A m c t h0]
    frame_out
    rfl
  · rw [kept_later m c t h0, outsAt0_B m c t h0]
    frame_out
    simp only [read_unread_whole]

theorem index_all : ∀ t : Fin cfg0.N, win0_0.index t = ![t.val / 3, 14] ∧ win0_1.index t = ![0, 0]
    ∧ win0_2.index t = ![0, t.val % 3] ∧ win0_3.index t = ![t.val / 3, t.val % 3] :=
  (by decide +kernel : ∀ t : Fin grid0.N, _)

/-- The block of query columns that point `t` reads. -/
theorem block_x (c : Dev nD) (t : Fin cfg0.N) (r : Fin 512) (l : Fin 768) (R : Fin 12288) (C : Fin 11776)
    (hR : R.val = t.val / 3 * 512 + r.val) (hC : C.val = 10752 + l.val) :
    (X0_0 m c t : Vec Ideal S512x768 .f32) (ix2 r l)
      = (m ((c : Thread nD τ).loc main_arg0) : Vec Ideal S12288x11776 .f32) (ix2 R C) := by
  unfold X0_0 Pipeline.Window.fill
  rw [dif_pos (moved0_0 t _)]
  have i0 := (index_all t).1
  blk_ext [iblk, V, i0]

theorem array_eq (c : Dev nD) : (dats m 0 c).arrAt 3 cfg0.N
    = queries (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  obtain ⟨p, hp, e⟩ := out_eq m c t
  rw [after0_3, e]
  obtain ⟨p0, p1, _, _⟩ := index_all p
  obtain ⟨_, _, i2, i3⟩ := index_all t
  idx_vars y
  unfold queries Rms.unit rows
  pointwise [k0_pay2, k0_pay1]
  blk_point [iblk, V, p0, p1, i2, i3]
  all_goals exact block_x m c p _ _ _ _ (by blk_simp [i3]; omega) rfl

end Cert.Kernel5Ideal.Meaning

namespace Cert.Reference5Ideal.Meaning

open Cert.Reference5Ideal Cert.Reference5Ideal.Read Cert.Kernel5Ideal.Meaning

variable (x : Vec Ideal S12288x11776 .f32) (w : Vec Ideal S768x1536 .bf16) (g : Vec Ideal S768 .f32)

theorem row_eq (R : Fin 12288) (k : Fin 768) : val_main_v13 (F := Ideal) x g (ix2 R k)
    = Rms.unit (Ideal.ofBits FTy.f32 0x44400000#32) (Ideal.ofBits FTy.f32 0x358637BD#32)
        (fun k : Fin 768 => x (ix2 R ⟨10752 + k.val, by omega⟩)) k * g (ix1 k) := by
  unfold Rms.unit
  pointwise [val_main_v0, val_main_v1, val_main_cst, val_main_v2, val_main_v3, val_main_cst_0, val_main_v4,
    val_main_v5, val_main_cst_1, val_main_v6, val_main_v7, val_main_v8, val_main_v9, val_main_v10, val_main_v11,
    val_main_v12, val_main_v13]

theorem result_eq : val_main_v15 (F := Ideal) x w g = queries x w g := by
  funext i
  idx_vars i
  rw [val_main_v15_apply]
  unfold queries
  refine Finset.sum_congr rfl fun k _ => ?_
  rw [val_main_v14_apply, show lidx_main_v15 (ix2 i0 i1) k = ix2 i0 k from
      funext fun a => by match a with | ⟨0, _⟩ => rfl | ⟨1, _⟩ => rfl,
    show ridx_main_v15 (ix2 i0 i1) k = ix2 k i1 from
      funext fun a => by match a with | ⟨0, _⟩ => rfl | ⟨1, _⟩ => rfl, row_eq]
  rfl

end Cert.Reference5Ideal.Meaning

namespace Cert.Proof.Queries

theorem reference_frame : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

theorem algebraic : Cert.algebraic_Kernel5Ideal_Reference5Ideal := fun m ρ m' ρ' _ hag =>
  ⟨fun c => _,
    (θ_run Cert.Kernel5Ideal.defs _ _).mono (fun _ h c => ⟨(h c).1.trans (Cert.Kernel5Ideal.Meaning.array_eq m c), (h c).2⟩)
      (Cert.Kernel5Ideal.Value.run_blocks m ρ),
    (θ_run Cert.Reference5Ideal.defs _ _).mono (fun _ h c => ⟨(h c).1.trans (by
        obtain ⟨e0, e1, e2⟩ := hag c
        rw [Cert.Reference5Ideal.Read.val_main_v15_eq, Cert.Reference5Ideal.Meaning.result_eq, e0, e1, e2]), (h c).2⟩)
      (Cert.Reference5Ideal.Value.run (F := Ideal) m' ρ')⟩

end Cert.Proof.Queries

end
-- ==== Proof.Step6.lean ====
module

public import proofs.«01_k».proof.Proof.Gen.Kernel6Ideal.Loops
public import proofs.«01_k».proof.Proof.Gen.Kernel6Ideal.Launch
public import proofs.«01_k».proof.Proof.Gen.Kernel6Ideal.Skeleton
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.WritesUnit
public import Idealize.ShloMosaic.Lib.VecWindow

@[expose] public section

set_option maxRecDepth 16384

noncomputable section

/-! ## One step of the experts' first matmul, on whichever buffers it is given -/

namespace Cert.Kernel6Ideal.Step

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A table, as the step reads it. -/

abbrev T0 : Memref sig .tc .smem S896 .i32 := Memref.whole main_arg0
abbrev T1 : Memref sig .tc .smem S896 .i32 := Memref.whole main_arg1
abbrev T2 : Memref sig .tc .smem S896 .i32 := Memref.whole main_arg2
abbrev T3 : Memref sig .tc .smem S896 .i32 := Memref.whole main_arg3
abbrev T4 : Memref sig .tc .smem S896 .i32 := Memref.whole main_arg4
abbrev hT (a : Ref sig .tc) : (Memref.whole a).IsWhole := Memref.isWhole_whole _

/-- A table's buffer held at half the share, read only. -/
abbrev held (c : Dev nD) (M : Memref sig .tc .smem S896 .i32) (f : Buf (Elt F) (M.view.loc (c : Thread nD τ))) : sProp 𝕄 :=
  M.view.loc (c : Thread nD τ) ↦{fullShare.right} f

/-- The weights the scratch holds once the loop has cast a block of them, 256 rows a trip. -/
def weights (x : Vec F S1x1x4096x1024 .f32) : Vec F S4096x1024 .bf16 := fun y =>
  k0_pay2 (fun z => x (ix4 0 0 ⟨(y 0).val / 256 * 256 + (z 2).val, by
    have h : (y 0).val < 4096 := (y 0).isLt; have h' : (z 2).val < 256 := (z 2).isLt; omega⟩ (z 3)))
    (ix2 ⟨(y 0).val % 256, Nat.mod_lt _ (by decide)⟩ (y 1))

/-- What a step writes: the tile of products plus bias, its even columns clamped and gated, its odd columns clamped. -/
def acted (x : Vec F S256x4096 .bf16) (w : Vec F S4096x1024 .bf16) (b : Vec F S1x1x1x1024 .f32) : Vec F S256x512 .bf16 :=
  k0_pay1
    (k0_pay19 (k0_pay3 x w b) (iota .tc S256x128 32 [1] iota_S256x128_d1_w32) k0_pay4
      (k0_pay9 (iota .tc S256x128 32 [1] iota_S256x128_d1_w32) (k0_pay5 x w b) (k0_pay6 x w b) k0_pay7)
      (k0_pay13 (k0_pay3 x w b) (iota .tc S256x128 32 [1] iota_S256x128_d1_w32) k0_pay4) (k0_pay15 (k0_pay3 x w b) k0_pay4))
    (k0_pay20 (k0_pay3 x w b) (iota .tc S256x128 32 [1] iota_S256x128_d1_w32) k0_pay4
      (k0_pay10 (iota .tc S256x128 32 [1] iota_S256x128_d1_w32) (k0_pay5 x w b) (k0_pay6 x w b) k0_pay7)
      (k0_pay14 (k0_pay3 x w b) (iota .tc S256x128 32 [1] iota_S256x128_d1_w32) k0_pay4) (k0_pay15 (k0_pay3 x w b) k0_pay4))
    (Scalar.ofBits .f32 0x40E00000#32)

section loop

variable (𝒱 : Variants) (c : Dev nD) (bd : Option 𝒱.V) (i : grid0.Coords) (arg1 : Memref sig .tc .smem S896 .i32) (harg1 : arg1.IsWhole) (arg2 : Memref sig .tc .smem S896 .i32) (harg2 : arg2.IsWhole) (arg3 : Memref sig .tc .smem S896 .i32) (harg3 : arg3.IsWhole) (arg4 : Memref sig .tc .smem S896 .i32) (harg4 : arg4.IsWhole) (arg5 : Memref sig .tc .smem S896 .i32) (harg5 : arg5.IsWhole) (arg6 : Memref sig .tc .vmem S256x4096 .bf16) (harg6 : arg6.IsWhole) (arg7 : Memref sig .tc .vmem S1x1x4096x1024 .f32) (harg7 : arg7.IsWhole) (arg8 : Memref sig .tc .vmem S1x1x1x1024 .f32) (harg8 : arg8.IsWhole) (arg9 : Memref sig .tc .vmem S256x512 .bf16) (harg9 : arg9.IsWhole) (arg10 : Memref sig .tc .vmem S4096x1024 .bf16) (harg10 : arg10.IsWhole) (arg0 : BitVec 32)
  (X : BufTy.Contents (Elt F) arg7.view.ty)

theorem trip_eq (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg0 X k
      = [⟨Rect.unit (s := S4096x1024) (k0_off4 k) S256x1024.size (k0_off4_inb k),
          k0_pay2 (View.readAt (Elt F) arg7.view (Rect.unit (s := S1x1x4096x1024) (k0_off3 k) S1x1x256x1024.size (k0_off3_inb k)).toLoadRect X)⟩] := by
  unfold tripL_k0_t1
  unfold trip_k0_t1
  rfl

theorem offs : ∀ k : Fin k0_t1_loop.trips, k0_off4 k = ![k.val * 256, 0] ∧ k0_off3 k = ![0, 0, k.val * 256, 0] := by
  decide +kernel

end loop

/-- What the body reads of a table at its step. -/
theorem word_eq (c : Dev nD) (i : grid0.Coords) (M : Memref sig .tc .smem S896 .i32)
  (f : Buf (Elt F) (M.view.loc (c : Thread nD τ))) (h) (x) :
    View.readAt (Elt F) M.view (Rect.unit (s := S896) (k0_off1 i) S1.size h).toLoadRect f x = M.view.read (Elt F) f (ix1 (i 0)) := by
  have e : k0_off1 i = ![(i 0).val] := by
    revert i; decide +kernel
  rw [View.readAt_apply]
  refine congrArg (View.read (Elt F) M.view f) (funext fun a => Fin.ext ?_)
  obtain rfl : a = 0 := Subsingleton.elim _ _
  have hx : (x 0).val < 1 := (x 0).isLt
  show k0_off1 i 0 + 1 * (x 0).val = (i 0).val
  have e0 : k0_off1 i 0 = (i 0).val := congrFun e 0
  omega

theorem weights_read (𝒱 : Variants) (c : Dev nD) (bd : Option 𝒱.V) (i : grid0.Coords) (arg1 : Memref sig .tc .smem S896 .i32) (harg1 : arg1.IsWhole) (arg2 : Memref sig .tc .smem S896 .i32) (harg2 : arg2.IsWhole) (arg3 : Memref sig .tc .smem S896 .i32) (harg3 : arg3.IsWhole) (arg4 : Memref sig .tc .smem S896 .i32) (harg4 : arg4.IsWhole) (arg5 : Memref sig .tc .smem S896 .i32) (harg5 : arg5.IsWhole) (arg6 : Memref sig .tc .vmem S256x4096 .bf16) (harg6 : arg6.IsWhole) (arg7 : Memref sig .tc .vmem S1x1x4096x1024 .f32) (harg7 : arg7.IsWhole) (arg8 : Memref sig .tc .vmem S1x1x1x1024 .f32) (harg8 : arg8.IsWhole) (arg9 : Memref sig .tc .vmem S256x512 .bf16) (harg9 : arg9.IsWhole) (arg10 : Memref sig .tc .vmem S4096x1024 .bf16) (harg10 : arg10.IsWhole) (arg0 : BitVec 32)
    (x : Vec F S1x1x4096x1024 .f32) (G : BufTy.Contents (Elt F) arg10.view.ty) :
    View.read (Elt F) arg10.view (arg10.view.writes (Elt F) G (pb_k0_t1 (F := F) 𝒱 c bd i arg1 harg1 arg2 harg2 arg3 harg3 arg4 harg4 arg5 harg5 arg6 harg6 arg7 harg7 arg8 harg8 arg9 harg9 arg10 harg10 arg0 (harg7.unread x) k0_t1_loop.trips)) = weights x := by
  have H : ∀ n, n ≤ k0_t1_loop.trips → ∀ y : S4096x1024.Idx, (y 0).val < n * 256 →
      View.read (Elt F) arg10.view (arg10.view.writes (Elt F) G (pb_k0_t1 (F := F) 𝒱 c bd i arg1 harg1 arg2 harg2 arg3 harg3 arg4 harg4 arg5 harg5 arg6 harg6 arg7 harg7 arg8 harg8 arg9 harg9 arg10 harg10 arg0 (harg7.unread x) n)) y = weights x y := by
    intro n
    induction n with
    | zero => intro _ y hy; omega
    | succ n ih =>
      intro hn y hy
      rw [pb_k0_t1_succ (k := ⟨n, hn⟩), trip_eq, List.singleton_append]
      by_cases hlt : (y 0).val < n * 256
      · rw [View.read_writes_cons_rows_of_not_mem (hoff := (offs ⟨n, hn⟩).1) (hW := rfl) (h := Or.inl hlt)]
        exact ih (Nat.le_of_succ_le hn) y hlt
      · have hq : (y 0).val / 256 = n := by omega
        refine (View.read_writes_cons_rows_of_mem (d := S4096x1024.size) _ _ (o := n * 256) (k0_off4_inb ⟨n, hn⟩) _ _ y
          (ix2 ⟨(y 0).val % 256, Nat.mod_lt _ (by decide)⟩ (y 1)) (offs ⟨n, hn⟩).1
          (show (y 0).val = n * 256 + (y 0).val % 256 by omega) rfl).trans ?_
        refine congrFun (congrArg k0_pay2 (funext fun z => ?_)) _
        rw [View.readAt_apply, harg7.read_unread]
        refine congrArg x (funext fun a => Fin.ext ?_)
        have h3 := (offs ⟨n, hn⟩).2
        have z0 : (z 0).val < 1 := (z 0).isLt
        have z1 : (z 1).val < 1 := (z 1).isLt
        show k0_off3 ⟨n, hn⟩ a + 1 * (z a).val = _
        rw [h3]
        match a with
        | 0 => show 0 + 1 * (z 0).val = 0; omega
        | 1 => show 0 + 1 * (z 1).val = 0; omega
        | 2 => show n * 256 + 1 * (z 2).val = (y 0).val / 256 * 256 + (z 2).val; rw [hq]; omega
        | 3 => show 0 + 1 * (z 3).val = (z 3).val; omega
  exact funext fun y => H _ le_rfl y (y 0).isLt

set_option maxHeartbeats 1000000 in
theorem run_skip (c : Dev nD) (i : grid0.Coords) (arg6 : Memref sig .tc .vmem S256x4096 .bf16) (harg6 : arg6.IsWhole) (arg7 : Memref sig .tc .vmem S1x1x4096x1024 .f32) (harg7 : arg7.IsWhole) (arg8 : Memref sig .tc .vmem S1x1x1x1024 .f32) (harg8 : arg8.IsWhole) (arg9 : Memref sig .tc .vmem S256x512 .bf16) (harg9 : arg9.IsWhole) (arg10 : Memref sig .tc .vmem S4096x1024 .bf16) (harg10 : arg10.IsWhole)
    (t4 : Buf (Elt F) (T4.view.loc (c : Thread nD τ)))
    (hv : ¬ k0_cond1 (View.readAt (Elt F) T4.view (Rect.unit (s := S896) (k0_off1 i) S1.size (k0_off1_inb i)).toLoadRect t4 (Shape.Idx.first (numel1_S1.symm ▸ Nat.one_pos))) = 1#1)
    (E : Set ℕ) (K : PUnit → sProp 𝕄) :
    iprop(held c T4 t4 ∗ (held c T4 t4 -∗ K ⟨⟩))
      ⊢ wp frame (wpE (defs₀ (F := F)) Variants.none c none) E (cc0_moe_w1 i T0 (hT _) T1 (hT _) T2 (hT _) T3 (hT _) T4 (hT _) arg6 harg6 arg7 harg7 arg8 harg8 arg9 harg9 arg10 harg10) K := by
  rw [cc0_moe_w1_eq_skeleton]; unfold cc0_moe_w1_skel
  simp only [k0_part1_eq_skeleton, k0_part2_eq_skeleton, k0_part3_eq_skeleton]
  iintro ⟨H4, Hk⟩
  sl_exec! (disch := first | (guard_target = ¬ (k0_cond1 _ = _); exact hv))
  sl_step
  iapply Hk
  iexact H4

set_option maxHeartbeats 1000000 in
theorem run_keep (c : Dev nD) (i : grid0.Coords) (arg6 : Memref sig .tc .vmem S256x4096 .bf16) (harg6 : arg6.IsWhole) (arg7 : Memref sig .tc .vmem S1x1x4096x1024 .f32) (harg7 : arg7.IsWhole) (arg8 : Memref sig .tc .vmem S1x1x1x1024 .f32) (harg8 : arg8.IsWhole) (arg9 : Memref sig .tc .vmem S256x512 .bf16) (harg9 : arg9.IsWhole) (arg10 : Memref sig .tc .vmem S4096x1024 .bf16) (harg10 : arg10.IsWhole)
    (t3 : Buf (Elt F) (T3.view.loc (c : Thread nD τ))) (t4 : Buf (Elt F) (T4.view.loc (c : Thread nD τ)))
    (x0 : Vec F S256x4096 .bf16) (w : Vec F S4096x1024 .bf16) (x2 : Vec F S1x1x1x1024 .f32)
    (hv : k0_cond1 (View.readAt (Elt F) T4.view (Rect.unit (s := S896) (k0_off1 i) S1.size (k0_off1_inb i)).toLoadRect t4 (Shape.Idx.first (numel1_S1.symm ▸ Nat.one_pos))) = 1#1)
    (hf : ¬ (Scalar.cmpi .ne (Scalar.extui (Scalar.cmpi .eq (View.readAt (Elt F) T3.view (Rect.unit (s := S896) (k0_off2 i) S1.size (k0_off2_inb i)).toLoadRect t3 (Shape.Idx.first (numel1_S1.symm ▸ Nat.one_pos))) 1#32) : BitVec 32) 0#32) = 1#1)
    (E : Set ℕ) (K : PUnit → sProp 𝕄) :
    iprop(held c T3 t3 ∗ held c T4 t4 ∗ owns (c : Thread nD τ) arg6 fullShare x0 ∗ owns (c : Thread nD τ) arg8 fullShare x2 ∗ (∃ d, owns (c : Thread nD τ) arg9 fullShare d) ∗ owns (c : Thread nD τ) arg10 fullShare w
        ∗ (iprop(held c T3 t3 ∗ held c T4 t4 ∗ owns (c : Thread nD τ) arg6 fullShare x0 ∗ owns (c : Thread nD τ) arg8 fullShare x2 ∗ owns (c : Thread nD τ) arg9 fullShare (acted x0 w x2) ∗ owns (c : Thread nD τ) arg10 fullShare w) -∗ K ⟨⟩))
      ⊢ wp frame (wpE (defs₀ (F := F)) Variants.none c none) E (cc0_moe_w1 i T0 (hT _) T1 (hT _) T2 (hT _) T3 (hT _) T4 (hT _) arg6 harg6 arg7 harg7 arg8 harg8 arg9 harg9 arg10 harg10) K := by
  rw [cc0_moe_w1_eq_skeleton]; unfold cc0_moe_w1_skel
  simp only [k0_part1_eq_skeleton, k0_part2_eq_skeleton, k0_part3_eq_skeleton]
  unfold owns
  iintro ⟨H3, H4, ⟨%f0, %hf0, HX⟩, ⟨%f2, %hf2, HB⟩, ⟨%d9, %f9, -, HO⟩, ⟨%f10, %hf10, HW⟩, Hk⟩
  obtain rfl := harg6.eq_unread hf0; obtain rfl := harg8.eq_unread hf2; obtain rfl := harg10.eq_unread hf10
  sl_exec! (disch := first | (guard_target = k0_cond1 _ = _; exact hv) | (guard_target = ¬ (Scalar.cmpi _ _ _ = _); exact hf))
  sl_step
  iapply Hk
  isplitl [H3]; · iexact H3
  isplitl [H4]; · iexact H4
  isplitl [HX]
  · iexists _; isplitr; · ipureintro; exact hf0
    iexact HX
  isplitl [HB]
  · iexists _; isplitr; · ipureintro; exact hf2
    iexact HB
  isplitl [HO]
  · iexists _; isplitr; swap; · iexact HO
    ipureintro
    unfold run_keep.sl.HO_1
    rw [View.read_writes_full]
    show acted (View.readAt (Elt F) arg6.view (Rect.unit ![0, 0] S256x4096.size inb_S256x4096_S256x4096_0_0).toLoadRect (harg6.unread x0))
      (View.readAt (Elt F) arg10.view (Rect.unit ![0, 0] S4096x1024.size inb_S4096x1024_S4096x1024_0_0).toLoadRect (harg10.unread w))
      (View.readAt (Elt F) arg8.view (Rect.unit ![0, 0, 0, 0] S1x1x1x1024.size inb_S1x1x1x1024_S1x1x1x1024_0_0_0_0).toLoadRect (harg8.unread x2)) = _
    rw [View.readAt_full, View.readAt_full, View.readAt_full, hf0, hf2, hf10]
  · iexists _; isplitr; · ipureintro; exact hf10
    iexact HW

set_option maxHeartbeats 1000000 in
theorem run_load (c : Dev nD) (i : grid0.Coords) (arg6 : Memref sig .tc .vmem S256x4096 .bf16) (harg6 : arg6.IsWhole) (arg7 : Memref sig .tc .vmem S1x1x4096x1024 .f32) (harg7 : arg7.IsWhole) (arg8 : Memref sig .tc .vmem S1x1x1x1024 .f32) (harg8 : arg8.IsWhole) (arg9 : Memref sig .tc .vmem S256x512 .bf16) (harg9 : arg9.IsWhole) (arg10 : Memref sig .tc .vmem S4096x1024 .bf16) (harg10 : arg10.IsWhole)
    (t3 : Buf (Elt F) (T3.view.loc (c : Thread nD τ))) (t4 : Buf (Elt F) (T4.view.loc (c : Thread nD τ)))
    (x0 : Vec F S256x4096 .bf16) (x1 : Vec F S1x1x4096x1024 .f32) (x2 : Vec F S1x1x1x1024 .f32)
    (hv : k0_cond1 (View.readAt (Elt F) T4.view (Rect.unit (s := S896) (k0_off1 i) S1.size (k0_off1_inb i)).toLoadRect t4 (Shape.Idx.first (numel1_S1.symm ▸ Nat.one_pos))) = 1#1)
    (hf : (Scalar.cmpi .ne (Scalar.extui (Scalar.cmpi .eq (View.readAt (Elt F) T3.view (Rect.unit (s := S896) (k0_off2 i) S1.size (k0_off2_inb i)).toLoadRect t3 (Shape.Idx.first (numel1_S1.symm ▸ Nat.one_pos))) 1#32) : BitVec 32) 0#32) = 1#1)
    (E : Set ℕ) (K : PUnit → sProp 𝕄) :
    iprop(held c T3 t3 ∗ held c T4 t4 ∗ owns (c : Thread nD τ) arg6 fullShare x0 ∗ owns (c : Thread nD τ) arg7 fullShare x1 ∗ owns (c : Thread nD τ) arg8 fullShare x2 ∗ (∃ d, owns (c : Thread nD τ) arg9 fullShare d) ∗ (∃ d, owns (c : Thread nD τ) arg10 fullShare d)
        ∗ (iprop(held c T3 t3 ∗ held c T4 t4 ∗ owns (c : Thread nD τ) arg6 fullShare x0 ∗ owns (c : Thread nD τ) arg7 fullShare x1 ∗ owns (c : Thread nD τ) arg8 fullShare x2 ∗ owns (c : Thread nD τ) arg9 fullShare (acted x0 (weights x1) x2) ∗ owns (c : Thread nD τ) arg10 fullShare (weights x1)) -∗ K ⟨⟩))
      ⊢ wp frame (wpE (defs₀ (F := F)) Variants.none c none) E (cc0_moe_w1 i T0 (hT _) T1 (hT _) T2 (hT _) T3 (hT _) T4 (hT _) arg6 harg6 arg7 harg7 arg8 harg8 arg9 harg9 arg10 harg10) K := by
  rw [cc0_moe_w1_eq_skeleton]; unfold cc0_moe_w1_skel
  simp only [k0_part1_eq_skeleton, k0_part2_eq_skeleton, k0_part3_eq_skeleton]
  unfold owns
  iintro ⟨H3, H4, ⟨%f0, %hf0, HX⟩, ⟨%f1, %hf1, HV⟩, ⟨%f2, %hf2, HB⟩, ⟨%d9, %f9, -, HO⟩, ⟨%d10, %f10, -, HW⟩, Hk⟩
  obtain rfl := harg6.eq_unread hf0; obtain rfl := harg7.eq_unread hf1; obtain rfl := harg8.eq_unread hf2
  sl_exec! (disch := first | (guard_target = k0_cond1 _ = _; exact hv) | (guard_target = Scalar.cmpi _ _ _ = _; exact hf))
  sl_step
  iapply Hk
  isplitl [H3]; · iexact H3
  isplitl [H4]; · iexact H4
  isplitl [HX]
  · iexists _; isplitr; · ipureintro; exact hf0
    iexact HX
  isplitl [HV]
  · iexists _; isplitr; · ipureintro; exact hf1
    iexact HV
  isplitl [HB]
  · iexists _; isplitr; · ipureintro; exact hf2
    iexact HB
  have hw := fun G => weights_read (F := F) Variants.none c none i T0 (hT _) T1 (hT _) T2 (hT _) T3 (hT _) T4 (hT _) arg6 harg6 arg7 harg7 arg8 harg8 arg9 harg9 arg10 harg10 (BitVec.ofNat 32 (i 0).val) x1 G
  isplitl [HO]
  · iexists _; isplitr; swap; · iexact HO
    ipureintro
    unfold run_load.sl.HO_1
    rw [View.read_writes_full]
    show acted (View.readAt (Elt F) arg6.view (Rect.unit ![0, 0] S256x4096.size inb_S256x4096_S256x4096_0_0).toLoadRect (harg6.unread x0)) _
      (View.readAt (Elt F) arg8.view (Rect.unit ![0, 0, 0, 0] S1x1x1x1024.size inb_S1x1x1x1024_S1x1x1x1024_0_0_0_0).toLoadRect (harg8.unread x2)) = _
    rw [View.readAt_full, View.readAt_full, hf0, hf2]
    unfold run_load.sl.v11
    try rw [View.readAt_full]
    exact congrArg (fun w => acted x0 w x2) (hw _)
  · iexists _; isplitr; swap; · iexact HW
    ipureintro; exact hw _

end Cert.Kernel6Ideal.Step

end
-- ==== Proof.Tables.lean ====
module

public import proofs.«01_k».proof.Proof.Gen.Pre_schedule6
public import proofs.«01_k».proof.Proof.Gen.Pre_schedule7
public import Idealize.ShloMosaic.Lib.WordCmp
public import Idealize.ShloMosaic.Lib.Pointwise
public import Idealize.ShloMosaic.Lib.Pipeline.ValueKit

@[expose] public section

set_option maxRecDepth 16384

noncomputable section

/-! ## The schedule's five tables, decoded -/

namespace Cert.Schedule

open Idealize.ShloMosaic Cert.Pre_schedule7

/-- What the precondition says of the tables: `se` the expert of a step, `sj` its tile's column, `sb` its block of
rows, `sf` whether the step loads the weights, `sv` whether it does anything. -/
structure Good (se sj sb sf sv : IVec S896 32) : Prop where
  expert : ∀ s, (se s).toNat < 32
  column : ∀ s, (sj s).toNat < 4
  block : ∀ s, (sb s).toNat < 224
  /-- A step that uses the weights it finds comes after one at the same expert and column. -/
  keeps : ∀ s : Fin 896, sv (ix1 s) = 1#32 → sf (ix1 s) ≠ 1#32 →
    ∃ r : Fin 896, r.val + 1 = s.val ∧ sj (ix1 s) = sj (ix1 r) ∧ se (ix1 s) = se (ix1 r)
  /-- A step that does nothing comes after one on the same tile. -/
  skips : ∀ s : Fin 896, sv (ix1 s) ≠ 1#32 →
    ∃ r : Fin 896, r.val + 1 = s.val ∧ sj (ix1 s) = sj (ix1 r) ∧ sb (ix1 s) = sb (ix1 r)
  /-- A block of rows belongs to one expert. -/
  owner : ∀ s r, sb s = sb r → se s = se r

/-- The conjunction of two truth values holds when both do. -/
theorem andi_one (a b : BitVec 1) : IntOp.andi a b = 1#1 ↔ a = 1#1 ∧ b = 1#1 := by revert a b; decide
theorem ori_one (a b : BitVec 1) : IntOp.ori a b = 1#1 ↔ a = 1#1 ∨ b = 1#1 := by revert a b; decide

theorem cmp_eq (a b : BitVec 32) : IntOp.cmpi .eq a b = 1#1 ↔ a = b := by
  rw [WordCmp.cmpi_eq_eq, WordCmp.ofBool_decide_eq_one_iff]
theorem cmp_ne (a b : BitVec 32) : IntOp.cmpi .ne a b = 1#1 ↔ a ≠ b := by
  rw [WordCmp.cmpi_ne_eq, WordCmp.ofBool_decide_eq_one_iff]

theorem zero_of_ne : ∀ b : BitVec 1, b ≠ 1#1 → b = 0#1 := by decide
theorem select_one (a b : BitVec 1) : Scalar.select 1#1 a b = a := rfl
theorem select_zero (a b : BitVec 1) : Scalar.select 0#1 a b = b := rfl

/-- A word between zero and a small bound, as signed comparisons say it. -/
theorem range_iff (k : ℕ) (hk : k < 2 ^ 31) (a : BitVec 32) (h0 : IntOp.cmpi .sge a 0#32 = 1#1)
    (h1 : IntOp.cmpi .slt a (BitVec.ofNat 32 k) = 1#1) : a.toNat < k := by
  rw [WordCmp.cmpi_sge_eq, WordCmp.ofBool_decide_eq_one_iff] at h0
  rw [WordCmp.cmpi_slt_eq, WordCmp.ofBool_decide_eq_one_iff, WordCmp.toInt_ofNat_of_lt hk] at h1
  have h2 := WordCmp.toInt_eq_toNat_of_lt_half ((WordCmp.toInt_nonneg_iff_lt_half a).mp h0)
  omega

/-- The precondition, decoded. -/
theorem good_of_pre {F : FTy → Type} [FloatOps F] (se sj sb sf sv : IVec S896 32) (a : FVec F S57344x2048 .bf16)
    (w : FVec F S2x32x2048x4096 .f32) (b : FVec F S2x32x1x4096 .f32)
    (h : Cert.Pre_schedule7.fn (F := F) se sj sb sf sv a w b = fun _ => 1#1) : Good se sj sb sf sv := by
  have H : ∀ s r : Fin 896, _ := fun s r => congrFun h (ix2 s r)
  unfold fn fn_part1 fn_part2 fn_where at H
  simp only [pointwise, Nat.reduceEqDiff, OfNat.ofNat_ne_one, reduceDIte, andi_one, ori_one] at H
  have P : ∀ s : Fin 896, IntOp.cmpi .sgt (BitVec.ofNat 32 s.val) 0#32 = 1#1 → ∃ r : Fin 896, r.val + 1 = s.val := fun s hs => by
    rw [WordCmp.cmpi_sgt_ofNat_eq_one_iff (a := s.val) (b := 0) (by have := s.isLt; omega) (by decide)] at hs
    exact ⟨⟨s.val - 1, by omega⟩, by show s.val - 1 + 1 = s.val; omega⟩
  have Q : ∀ (x : IVec S896 32) (s r : Fin 896) (h0 : ¬ s.val < 1 → ![0] 0 + (if True then s.val - ![1] 0 else s.val) < 896), r.val + 1 = s.val →
      (if hlt : s.val < 1 then x (ix1 0) else x (ix1 ⟨![0] 0 + if True then s.val - ![1] 0 else s.val, h0 hlt⟩)) = x (ix1 r) := by
    intro x s r h0 hr
    rw [dif_neg (by omega)]
    refine congrArg (fun k => x (ix1 k)) (Fin.ext ?_)
    show 0 + (s.val - 1) = r.val
    omega
  have I : ∀ (s : S896.Idx), ∃ k : Fin 896, s = ix1 k := fun s => ⟨s 0, funext fun a => by
    obtain rfl : a = 0 := Subsingleton.elim _ _; rfl⟩
  refine ⟨fun s => ?_, fun s => ?_, fun s => ?_, fun s hv hf => ?_, fun s hv => ?_, fun s r hb => ?_⟩
  · obtain ⟨s, rfl⟩ := I s
    exact range_iff 32 (by decide) _ (H s s).1.1.1.1.1.1.1 (H s s).1.1.1.1.1.1.2
  · obtain ⟨s, rfl⟩ := I s
    exact range_iff 4 (by decide) _ (H s s).1.1.1.1.1.2 (H s s).1.1.1.1.2
  · obtain ⟨s, rfl⟩ := I s
    exact range_iff 224 (by decide) _ (H s s).1.1.1.2 (H s s).1.1.2
  · have h1 := (H s s).1.2
    rw [(cmp_eq _ _).mpr hv, select_one] at h1
    rcases (ori_one _ _).mp h1 with h1 | h1
    · exact absurd ((cmp_eq _ _).mp h1) hf
    · obtain ⟨h1, h4⟩ := (andi_one _ _).mp h1
      obtain ⟨h2, h3⟩ := (andi_one _ _).mp h1
      obtain ⟨r, hr⟩ := P s h2
      rw [Q _ s r _ hr] at h3 h4
      exact ⟨r, hr, (cmp_eq _ _).mp h3, (cmp_eq _ _).mp h4⟩
  · have h1 := (H s s).1.2
    rw [zero_of_ne _ fun h => hv ((cmp_eq _ _).mp h), select_zero] at h1
    obtain ⟨h1, h4⟩ := (andi_one _ _).mp h1
    obtain ⟨h2, h3⟩ := (andi_one _ _).mp h1
    obtain ⟨r, hr⟩ := P s h2
    rw [Q _ s r _ hr] at h3 h4
    exact ⟨r, hr, (cmp_eq _ _).mp h3, (cmp_eq _ _).mp h4⟩
  · obtain ⟨s, rfl⟩ := I s
    obtain ⟨r, rfl⟩ := I r
    rcases (H s r).2 with h1 | h1
    · exact absurd hb ((cmp_ne _ _).mp h1)
    · exact (cmp_eq _ _).mp h1

/-- The same of the first matmul's precondition, which is the same condition on the same tables. -/
theorem good_of_pre6 {F : FTy → Type} [FloatOps F] (se sj sb sf sv : IVec S896 32) (a) (w) (b)
    (h : Cert.Pre_schedule6.fn (F := F) se sj sb sf sv a w b = fun _ => 1#1) : Good se sj sb sf sv :=
  good_of_pre (F := F) se sj sb sf sv (constant _ _ 0) (constant _ _ 0) (constant _ _ 0) h

end Cert.Schedule

end
-- ==== Proof.Blocks6.lean ====
module

public import proofs.«01_k».proof.Proof.Step6
public import proofs.«01_k».proof.Proof.Tables
public import Idealize.ShloMosaic.Lib.PairWhole

@[expose] public section

set_option maxRecDepth 16384

noncomputable section

/-! ## The blocks each step of the first matmul is given, as functions of the schedule's words -/

namespace Cert.Kernel6Ideal.Step

open Cert.Kernel6Ideal Cert.Kernel6Ideal.Gen
open Idealize.ShloMosaic Idealize.ShloMosaic.TcCoe Idealize.ShloMosaic.Tactic

variable {F : FTy → Type} [FloatOps F]
variable (m : (ℓ : Loc nD τ sig) → Buf (Elt F) ℓ)

/-- The tables as the program finds them. -/
def tbl : pre0.Contents (Elt F) := fun j => m (((0 : Dev nD) : Thread nD τ).loc (pre0.ref j))

abbrev sj : IVec S896 32 := tbl m 1
abbrev se : IVec S896 32 := tbl m 0
abbrev sb : IVec S896 32 := tbl m 2
abbrev sf : IVec S896 32 := tbl m 3
abbrev sv : IVec S896 32 := tbl m 4

/-- The tables are a schedule. -/
abbrev Sched : Prop := Schedule.Good (se m) (sj m) (sb m) (sf m) (sv m)

/-- The word of a table at step `n`. -/
def word (x : IVec S896 32) (n : ℕ) : BitVec 32 := x (ix1 (Fin.ofNat 896 n))

theorem word_eq_at (x : IVec S896 32) (n : ℕ) (h : n < 896) : word x n = x (ix1 ⟨n, h⟩) :=
  congrArg (fun a => x (ix1 a)) (Fin.ext (Nat.mod_eq_of_lt h))

theorem coords_val : ∀ t : Fin grid0.N, (grid0.coords t 0).val = t.val := by decide +kernel

theorem offs1 : ∀ i : grid0.Coords, k0_off1 i 0 = (i 0).val ∧ k0_off2 i 0 = (i 0).val := by decide +kernel

/-- What an index map reads of a table at step `t`. -/
theorem read_at (k : Fin 5) (x : IVec S896 32) (t : Fin grid0.N) (h : ∀ a, k0_off1 (grid0.coords t) a + S1.size a ≤ S896.size a)
    (j : (Rect.unit (s := S896) (k0_off1 (grid0.coords t)) S1.size h).shape.Idx) :
    x ((Rect.unit (s := S896) (k0_off1 (grid0.coords t)) S1.size h).emb j) = word x t.val := by
  refine congrArg x (funext fun a => Fin.ext ?_)
  obtain rfl : a = 0 := Subsingleton.elim _ _
  have hx : (j 0).val < 1 := (j 0).isLt
  have e0 := (offs1 (grid0.coords t)).1
  have e1 := coords_val t
  have ht : t.val < 896 := t.isLt
  show k0_off1 (grid0.coords t) 0 + 1 * (j 0).val = t.val % 896
  omega

theorem map0 (t : Fin grid0.N) : cc0_transform_0 (F := F) k0_off1_inb numel1_S1 (tbl m) (grid0.coords t)
    = ![(word (sb m) t.val).toNat, 0] := by
  rw [← read_at 2 (sb m) t (k0_off1_inb _) (Shape.Idx.first (numel1_S1.symm ▸ Nat.one_pos))]; rfl

theorem map1 (t : Fin grid0.N) : cc0_transform_1 (F := F) k0_off1_inb numel1_S1 (tbl m) (grid0.coords t)
    = ![0, (word (se m) t.val).toNat, 0, (word (sj m) t.val).toNat] := by
  rw [← read_at 0 (se m) t (k0_off1_inb _) (Shape.Idx.first (numel1_S1.symm ▸ Nat.one_pos)),
    ← read_at 1 (sj m) t (k0_off1_inb _) (Shape.Idx.first (numel1_S1.symm ▸ Nat.one_pos))]; rfl

theorem map2 (t : Fin grid0.N) : cc0_transform_2 (F := F) k0_off1_inb numel1_S1 (tbl m) (grid0.coords t)
    = ![0, (word (se m) t.val).toNat, 0, (word (sj m) t.val).toNat] := by
  rw [← read_at 0 (se m) t (k0_off1_inb _) (Shape.Idx.first (numel1_S1.symm ▸ Nat.one_pos)),
    ← read_at 1 (sj m) t (k0_off1_inb _) (Shape.Idx.first (numel1_S1.symm ▸ Nat.one_pos))]; rfl

theorem map3 (t : Fin grid0.N) : cc0_transform_3 (F := F) k0_off1_inb numel1_S1 (tbl m) (grid0.coords t)
    = ![(word (sb m) t.val).toNat, (word (sj m) t.val).toNat] := by
  rw [← read_at 2 (sb m) t (k0_off1_inb _) (Shape.Idx.first (numel1_S1.symm ▸ Nat.one_pos)),
    ← read_at 1 (sj m) t (k0_off1_inb _) (Shape.Idx.first (numel1_S1.symm ▸ Nat.one_pos))]; rfl

/-- Whether a step is skipped, as the pipeline reads it. -/
theorem idle_eq (t : Fin grid0.N) : idle0 (F := F) (tbl m) 3 (grid0.coords t) = !(k0_cond1 (word (sv m) t.val) == 1#1) := by
  have e0 := (offs1 (grid0.coords t)).1
  have e1 := coords_val t
  have ht : t.val < 896 := t.isLt
  have h : ∀ a : Fin 1, k0_off1 (grid0.coords t) a + 1 ≤ S896.size a := fun a => by
    obtain rfl : a = 0 := Subsingleton.elim _ _
    show k0_off1 (grid0.coords t) 0 + 1 ≤ 896; omega
  have : (tbl m).atD 4 (k0_off1 (grid0.coords t)) = word (sv m) t.val := by
    refine (dif_pos h).trans (congrArg (sv m) (funext fun (a : Fin 1) => Fin.ext ?_))
    obtain rfl : a = 0 := Subsingleton.elim _ _
    show k0_off1 (grid0.coords t) 0 = t.val % 896
    omega
  exact congrArg (fun b => !(k0_cond1 b == 1#1)) this

theorem cond_iff (b : BitVec 32) : k0_cond1 b = 1#1 ↔ b = 1#32 := by
  unfold k0_cond1
  simp only [Scalar.cmpi, Scalar.extui]
  rw [← Schedule.cmp_eq b 1#32]
  generalize IntOp.cmpi .eq b 1#32 = x
  revert x; decide

theorem loads_iff (b : BitVec 32) : Scalar.cmpi .ne (Scalar.extui (Scalar.cmpi .eq b 1#32) : BitVec 32) 0#32 = 1#1 ↔ b = 1#32 :=
  cond_iff b

/-- Each step's blocks lie inside their arrays. -/
theorem ok_of (h : Sched m) : ok0 (F := F) (tbl m) := by
  have hN : ∀ i : grid0.Coords, ∃ t : Fin grid0.N, i = grid0.coords t := fun i =>
    ⟨⟨(i 0).val, (i 0).isLt⟩, funext fun a => Fin.ext (by
      obtain rfl : a = (0 : Fin 1) := Subsingleton.elim _ _
      exact (coords_val ⟨(i 0).val, (i 0).isLt⟩).symm)⟩
  refine ⟨fun i => ?_, fun i => ?_, fun i => ?_, fun i => ?_⟩ <;> obtain ⟨t, rfl⟩ := hN i
  · have hb := h.block (ix1 (Fin.ofNat 896 t.val))
    have e := map0 m t
    refine ⟨fun a => ?_, .inr (Rect.PackedRows.wholeWords ?_)⟩
    · rw [e]
      match a with
      | 0 => show ((word (sb m) t.val).toNat + 1) * 256 ≤ 57344; unfold word; omega
      | 1 => show (0 + 1) * 4096 ≤ 4096; omega
    · refine Rect.packedRows_of_rowAxis (s := S57344x4096) _ _ (by decide) ?_ ?_ rfl
      · show 2 ∣ cc0_transform_0 (F := F) k0_off1_inb numel1_S1 (tbl m) (grid0.coords t) 0 * 256
        exact Dvd.dvd.mul_left (by decide) _
      · show 2 ∣ 256
        decide
  · have he := h.expert (ix1 (Fin.ofNat 896 t.val))
    have hj := h.column (ix1 (Fin.ofNat 896 t.val))
    refine ⟨fun a => ?_, .inl rfl⟩
    rw [map1 m t]
    match a with
    | 0 => show (0 + 1) * 1 ≤ 2; omega
    | 1 => show ((word (se m) t.val).toNat + 1) * 1 ≤ 32; unfold word; omega
    | 2 => show (0 + 1) * 4096 ≤ 4096; omega
    | 3 => show ((word (sj m) t.val).toNat + 1) * 1024 ≤ 4096; unfold word; omega
  · have he := h.expert (ix1 (Fin.ofNat 896 t.val))
    have hj := h.column (ix1 (Fin.ofNat 896 t.val))
    refine ⟨fun a => ?_, .inl rfl⟩
    rw [map2 m t]
    match a with
    | 0 => show (0 + 1) * 1 ≤ 2; omega
    | 1 => show ((word (se m) t.val).toNat + 1) * 1 ≤ 32; unfold word; omega
    | 2 => show (0 + 1) * 1 ≤ 1; omega
    | 3 => show ((word (sj m) t.val).toNat + 1) * 1024 ≤ 4096; unfold word; omega
  · have hb := h.block (ix1 (Fin.ofNat 896 t.val))
    have hj := h.column (ix1 (Fin.ofNat 896 t.val))
    have e := map3 m t
    refine ⟨fun a => ?_, .inr (Rect.PackedRows.wholeWords ?_)⟩
    · rw [e]
      match a with
      | 0 => show ((word (sb m) t.val).toNat + 1) * 256 ≤ 57344; unfold word; omega
      | 1 => show ((word (sj m) t.val).toNat + 1) * 512 ≤ 2048; unfold word; omega
    · refine Rect.packedRows_of_rowAxis (s := S57344x2048) _ _ (by decide) ?_ ?_ rfl
      · show 2 ∣ cc0_transform_3 (F := F) k0_off1_inb numel1_S1 (tbl m) (grid0.coords t) 0 * 256
        exact Dvd.dvd.mul_left (by decide) _
      · show 2 ∣ 256
        decide

/-- Block `b` of the rows, expert `e`'s columns `j` of the weights and of the bias. -/
def rows (b : ℕ) : Vec F S256x4096 .bf16 := fun y =>
  (m (((0 : Dev nD) : Thread nD τ).loc main_arg5) : Vec F S57344x4096 .bf16) (ix2 (Fin.ofNat 57344 (b * 256 + (y 0).val)) (y 1))
def wblk (e j : ℕ) : Vec F S1x1x4096x1024 .f32 := fun y =>
  (m (((0 : Dev nD) : Thread nD τ).loc main_arg6) : Vec F S2x32x4096x4096 .f32) (ix4 0 (Fin.ofNat 32 e) (y 2) (Fin.ofNat 4096 (j * 1024 + (y 3).val)))
def bblk (e j : ℕ) : Vec F S1x1x1x1024 .f32 := fun y =>
  (m (((0 : Dev nD) : Thread nD τ).loc main_arg7) : Vec F S2x32x1x4096 .f32) (ix4 0 (Fin.ofNat 32 e) 0 (Fin.ofNat 4096 (j * 1024 + (y 3).val)))

/-- The weights and the tile step `n` works with. -/
def held_weights (n : ℕ) : Vec F S4096x1024 .bf16 := weights (wblk m (word (se m) n).toNat (word (sj m) n).toNat)
def tile (b e j : ℕ) : Vec F S256x512 .bf16 := acted (rows m b) (weights (wblk m e j)) (bblk m e j)
def made (n : ℕ) : Vec F S256x512 .bf16 := tile m (word (sb m) n).toNat (word (se m) n).toNat (word (sj m) n).toNat

variable {m} in
theorem keeps_weights (h : Sched m) (n : ℕ) (hn : n < 896) (hv : word (sv m) n = 1#32) (hf : word (sf m) n ≠ 1#32) :
    n ≠ 0 ∧ held_weights m n = held_weights m (n - 1) := by
  rw [word_eq_at _ n hn] at hv hf
  obtain ⟨r, hr, h1, h2⟩ := h.keeps ⟨n, hn⟩ hv hf
  have hr' : n - 1 = r.val := by have : r.val + 1 = n := hr; omega
  refine ⟨by have : r.val + 1 = n := hr; omega, ?_⟩
  unfold held_weights
  rw [hr', word_eq_at _ n hn, word_eq_at _ n hn, word_eq_at _ r.val r.isLt, word_eq_at _ r.val r.isLt, h1, h2]

variable {m} in
theorem skips_words (h : Sched m) (n : ℕ) (hn : n < 896) (hv : word (sv m) n ≠ 1#32) :
    n ≠ 0 ∧ word (sj m) n = word (sj m) (n - 1) ∧ word (sb m) n = word (sb m) (n - 1) ∧ word (se m) n = word (se m) (n - 1) := by
  rw [word_eq_at _ n hn] at hv
  obtain ⟨r, hr, h1, h2⟩ := h.skips ⟨n, hn⟩ hv
  have h3 := h.owner _ _ h2
  have hr' : n - 1 = r.val := by have : r.val + 1 = n := hr; omega
  refine ⟨by have : r.val + 1 = n := hr; omega, ?_⟩
  rw [hr']
  simp only [word_eq_at _ n hn, word_eq_at _ r.val r.isLt]
  exact ⟨h1, h2, h3⟩

end Cert.Kernel6Ideal.Step

end
-- ==== Proof.Frame6.lean ====
module

public import proofs.«01_k».proof.Proof.Blocks6
public import Idealize.ShloMosaic.Lib.Pipeline.TableIdle
public import Idealize.ShloMosaic.Lib.Claim

@[expose] public section

set_option maxRecDepth 16384

noncomputable section

/-! ## The run of the first matmul over a whole schedule

The scratch holds, after each step, the weights of that step's expert and column, cast; the output's buffer holds that
step's tile, whether the step computed it or skipped. -/

namespace Cert.Kernel6Ideal.Step

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the buffers hold when the pipeline starts: what they were launched with. -/
abbrev entry (c : Dev nD) (b : Ref sig .tc) : Buf (Elt F) ((c : Thread nD τ).loc b) := m ((c : Thread nD τ).loc b)

theorem main_run (𝒱₀ : Variants) : Pipeline.HMainP (Ix := Unit) (Name := ℕ) (U := UR sig nD τ) (Lvl := ℕ) pcfgs 0 defs₀ 𝒱₀ m (main (F := F)) (entry m) :=
  Pipeline.hmainP_region pcfgs 0 defs₀ 𝒱₀ m main fun c => (main_chain c).trans rfl

theorem entry_tables (c : Dev nD) (j : Fin 5) : entry m c (pre0.ref j) = tbl m j := by
  obtain rfl : c = 0 := Subsingleton.elim _ _; rfl

abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tables_eq (c : Dev nD) : (Pipeline.ΦT pre0 (tbl m) c : sProp 𝕄)
    = iprop(held c T0 (tbl m 0) ∗ held c T1 (tbl m 1) ∗ held c T2 (tbl m 2) ∗ held c T3 (tbl m 3) ∗ held c T4 (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

abbrev scratch : Memref sig .tc .vmem S4096x1024 .bf16 := Memref.whole cc0_scratch0

theorem rest_eq (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; rfl

/-- A window's block at a step, read off its array. -/
def blockOf (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (entry m c (Pipeline.arrRef spec0 w))

variable {m} in
theorem block0 (h : Sched m) (hO : Ok m) (c : Dev nD) (t : Fin (cfgM m hO).N) :
    blockOf m hO c 0 t = rows m (word (sb m) t.val).toNat := by
  obtain rfl : c = 0 := Subsingleton.elim _ _
  have hb := h.block (ix1 (Fin.ofNat 896 t.val))
  refine funext fun (y : S256x4096.Idx) => ?_
  refine congrArg (m (((0 : Dev nD) : Thread nD τ).loc main_arg5) : Vec F S57344x4096 .bf16) (funext fun (a : Fin 2) => Fin.ext ?_)
  have e := map0 m t
  have y0 : (y 0).val < 256 := (y 0).isLt
  match a with
  | 0 =>
    show cc0_transform_0 (F := F) k0_off1_inb numel1_S1 (tbl m) (grid0.coords t) 0 * 256 + 1 * (y 0).val = ((word (sb m) t.val).toNat * 256 + (y 0).val) % 57344
    rw [e]
    show (word (sb m) t.val).toNat * 256 + 1 * (y 0).val = _
    unfold word at hb ⊢
    omega
  | 1 =>
    show cc0_transform_0 (F := F) k0_off1_inb numel1_S1 (tbl m) (grid0.coords t) 1 * 4096 + 1 * (y 1).val = (y 1).val
    rw [e]
    show 0 * 4096 + 1 * (y 1).val = _
    omega

variable {m} in
theorem block1 (h : Sched m) (hO : Ok m) (c : Dev nD) (t : Fin (cfgM m hO).N) :
    blockOf m hO c 1 t = wblk m (word (se m) t.val).toNat (word (sj m) t.val).toNat := by
  obtain rfl : c = 0 := Subsingleton.elim _ _
  have he := h.expert (ix1 (Fin.ofNat 896 t.val))
  have hj := h.column (ix1 (Fin.ofNat 896 t.val))
  refine funext fun (y : S1x1x4096x1024.Idx) => ?_
  refine congrArg (m (((0 : Dev nD) : Thread nD τ).loc main_arg6) : Vec F S2x32x4096x4096 .f32) (funext fun (a : Fin 4) => Fin.ext ?_)
  have e := map1 m t
  have y0 : (y 0).val < 1 := (y 0).isLt
  have y1 : (y 1).val < 1 := (y 1).isLt
  have y3 : (y 3).val < 1024 := (y 3).isLt
  unfold word at e
  match a with
  | 0 =>
    show cc0_transform_1 (F := F) k0_off1_inb numel1_S1 (tbl m) (grid0.coords t) 0 * 1 + 1 * (y 0).val = 0
    rw [e]
    show 0 * 1 + 1 * (y 0).val = 0
    omega
  | 1 =>
    show cc0_transform_1 (F := F) k0_off1_inb numel1_S1 (tbl m) (grid0.coords t) 1 * 1 + 1 * (y 1).val = (word (se m) t.val).toNat % 32
    rw [e]
    show (word (se m) t.val).toNat * 1 + 1 * (y 1).val = _
    unfold word
    omega
  | 2 =>
    show cc0_transform_1 (F := F) k0_off1_inb numel1_S1 (tbl m) (grid0.coords t) 2 * 4096 + 1 * (y 2).val = (y 2).val
    rw [e]
    show 0 * 4096 + 1 * (y 2).val = _
    omega
  | 3 =>
    show cc0_transform_1 (F := F) k0_off1_inb numel1_S1 (tbl m) (grid0.coords t) 3 * 1024 + 1 * (y 3).val = ((word (sj m) t.val).toNat * 1024 + (y 3).val) % 4096
    rw [e]
    show (word (sj m) t.val).toNat * 1024 + 1 * (y 3).val = _
    unfold word
    omega

variable {m} in
theorem block2 (h : Sched m) (hO : Ok m) (c : Dev nD) (t : Fin (cfgM m hO).N) :
    blockOf m hO c 2 t = bblk m (word (se m) t.val).toNat (word (sj m) t.val).toNat := by
  obtain rfl : c = 0 := Subsingleton.elim _ _
  have he := h.expert (ix1 (Fin.ofNat 896 t.val))
  have hj := h.column (ix1 (Fin.ofNat 896 t.val))
  refine funext fun (y : S1x1x1x1024.Idx) => ?_
  refine congrArg (m (((0 : Dev nD) : Thread nD τ).loc main_arg7) : Vec F S2x32x1x4096 .f32) (funext fun (a : Fin 4) => Fin.ext ?_)
  have e := map2 m t
  have y0 : (y 0).val < 1 := (y 0).isLt
  have y1 : (y 1).val < 1 := (y 1).isLt
  have y2 : (y 2).val < 1 := (y 2).isLt
  have y3 : (y 3).val < 1024 := (y 3).isLt
  unfold word at e
  match a with
  | 0 =>
    show cc0_transform_2 (F := F) k0_off1_inb numel1_S1 (tbl m) (grid0.coords t) 0 * 1 + 1 * (y 0).val = 0
    rw [e]
    show 0 * 1 + 1 * (y 0).val = 0
    omega
  | 1 =>
    show cc0_transform_2 (F := F) k0_off1_inb numel1_S1 (tbl m) (grid0.coords t) 1 * 1 + 1 * (y 1).val = (word (se m) t.val).toNat % 32
    rw [e]
    show (word (se m) t.val).toNat * 1 + 1 * (y 1).val = _
    unfold word
    omega
  | 2 =>
    show cc0_transform_2 (F := F) k0_off1_inb numel1_S1 (tbl m) (grid0.coords t) 2 * 1 + 1 * (y 2).val = 0
    rw [e]
    show 0 * 1 + 1 * (y 2).val = _
    omega
  | 3 =>
    show cc0_transform_2 (F := F) k0_off1_inb numel1_S1 (tbl m) (grid0.coords t) 3 * 1024 + 1 * (y 3).val = ((word (sj m) t.val).toNat * 1024 + (y 3).val) % 4096
    rw [e]
    show (word (sj m) t.val).toNat * 1024 + 1 * (y 3).val = _
    unfold word
    omega

/-- What the scratch holds before step `n`: anything at first, then the weights of the step before. -/
def carried (c : Dev nD) (n : ℕ) : sProp 𝕄 :=
  if n = 0 then iprop(∃ d, owns (c : Thread nD τ) scratch fullShare d) else owns (c : Thread nD τ) scratch fullShare (held_weights m (n - 1))

/-- The run's data: the inputs' buffers at their blocks, the output's at the step's tile, the scratch as above. -/
def dats (hO : Ok m) (_ : Fin 1) (c : Dev nD) : Dat τ (Elt F) Unit ℕ (UR sig nD τ) ℕ (cfgM m hO) c where
  A w := entry m c (Pipeline.arrRef spec0 w)
  after w t := match w with
    | ⟨0, _⟩ => blockOf m hO c 0 t
    | ⟨1, _⟩ => blockOf m hO c 1 t
    | ⟨2, _⟩ => blockOf m hO c 2 t
    | ⟨3, _⟩ => made m t.val
  Φ k := iprop((carried m c k.val ∗ (∃ r, prngReg c r)) ∗ Pipeline.ΦT pre0 (tbl m) c)
  q _ := fullShare
  owed _ := 0

theorem A_eq (hO : Ok m) (c : Dev nD) (w : Fin (cfgM m hO).W) : (dats m hO 0 c).A w = entry m c (Pipeline.arrRef spec0 w) := by
  dsimp only [dats]

theorem after0 (hO : Ok m) (c : Dev nD) (t : Fin (cfgM m hO).N) : (dats m hO 0 c).after 0 t = blockOf m hO c 0 t := by dsimp only [dats]; try rfl
theorem after1 (hO : Ok m) (c : Dev nD) (t : Fin (cfgM m hO).N) : (dats m hO 0 c).after 1 t = blockOf m hO c 1 t := by dsimp only [dats]; try rfl
theorem after2 (hO : Ok m) (c : Dev nD) (t : Fin (cfgM m hO).N) : (dats m hO 0 c).after 2 t = blockOf m hO c 2 t := by dsimp only [dats]; try rfl
theorem after3 (hO : Ok m) (c : Dev nD) (t : Fin (cfgM m hO).N) : (dats m hO 0 c).after 3 t = made m t.val := by dsimp only [dats]; try rfl

theorem before0 (hO : Ok m) (c : Dev nD) (t : Fin (cfgM m hO).N) (d) : (dats m hO 0 c).before 0 t d = blockOf m hO c 0 t :=
  ((dats m hO 0 c).before_in_eq_fetched 0 rfl (fun _ => rfl) (fun _ _ _ => rfl)
    (fun t => by rw [after0]; unfold Dat.blockOf blockOf; rw [A_eq]; try rfl) t d).trans
    (by unfold Dat.fetched Dat.blockOf blockOf; rw [A_eq]; try rfl)
theorem before1 (hO : Ok m) (c : Dev nD) (t : Fin (cfgM m hO).N) (d) : (dats m hO 0 c).before 1 t d = blockOf m hO c 1 t :=
  ((dats m hO 0 c).before_in_eq_fetched 1 rfl (fun _ => rfl) (fun _ _ _ => rfl)
    (fun t => by rw [after1]; unfold Dat.blockOf blockOf; rw [A_eq]; try rfl) t d).trans
    (by unfold Dat.fetched Dat.blockOf blockOf; rw [A_eq]; try rfl)
theorem before2 (hO : Ok m) (c : Dev nD) (t : Fin (cfgM m hO).N) (d) : (dats m hO 0 c).before 2 t d = blockOf m hO c 2 t :=
  ((dats m hO 0 c).before_in_eq_fetched 2 rfl (fun _ => rfl) (fun _ _ _ => rfl)
    (fun t => by rw [after2]; unfold Dat.blockOf blockOf; rw [A_eq]; try rfl) t d).trans
    (by unfold Dat.fetched Dat.blockOf blockOf; rw [A_eq]; try rfl)

theorem idle3 (hO : Ok m) (t : Fin (cfgM m hO).N) :
    (cfgM m hO).idle 3 ((cfgM m hO).grid.coords t) = !(k0_cond1 (word (sv m) t.val) == 1#1) := idle_eq m t

variable {m} in
theorem idle3_iff (hO : Ok m) (t : Fin (cfgM m hO).N) :
    (cfgM m hO).idle 3 ((cfgM m hO).grid.coords t) = true ↔ word (sv m) t.val ≠ 1#32 := by
  rw [idle3, Bool.not_eq_true', ← Bool.not_eq_true, beq_iff_eq, cond_iff]

variable {m} in
/-- A skipped step's buffer still holds the tile of the step before. -/
theorem made_skip (h : Sched m) (n : ℕ) (hn : n < 896) (hv : word (sv m) n ≠ 1#32) : made m n = made m (n - 1) := by
  obtain ⟨_, h1, h2, h3⟩ := skips_words h n hn hv
  unfold made; rw [h1, h2, h3]

variable {m} in
/-- No write-back happens just before a skipped step. -/
theorem not_fresh (h : Sched m) (hO : Ok m) : ∀ (n : ℕ) (hn : n < 896), word (sv m) n ≠ 1#32 → (cfgM m hO).fresh 3 n = false
  | 0, hn, hv => absurd rfl (skips_words h 0 hn hv).1
  | n + 1, hn, hv => by
    obtain ⟨_, h1, h2, h3⟩ := skips_words h (n + 1) hn hv
    rw [(cfgM m hO).fresh_succ 3 n (show n < 896 by omega)]
    have hf : ((cfgM m hO).win 3).flush ⟨n, (show n < 896 by omega)⟩ = false := by
      rw [Bool.eq_false_iff]
      intro hh
      unfold Window.flush at hh
      rw [Bool.and_eq_true, Bool.or_eq_true, decide_eq_true_eq, decide_eq_true_eq] at hh
      rcases hh.2 with h' | ⟨h', h''⟩
      · have : n + 1 = 896 := h'; omega
      · refine h'' ?_
        show cc0_transform_3 (F := F) k0_off1_inb numel1_S1 (tbl m) (grid0.coords ⟨n + 1, _⟩) = cc0_transform_3 (F := F) k0_off1_inb numel1_S1 (tbl m) (grid0.coords ⟨n, _⟩)
        rw [map3, map3]
        show ![(word (sb m) (n + 1)).toNat, (word (sj m) (n + 1)).toNat] = ![(word (sb m) n).toNat, (word (sj m) n).toNat]
        rw [h1, h2]; rfl
    rw [hf, Bool.false_or]
    cases hi : (cfgM m hO).idle 3 ((cfgM m hO).grid.coords ⟨n, (show n < 896 by omega)⟩)
    · rfl
    · rw [Bool.true_and]
      exact not_fresh h hO n (by omega) ((idle3_iff hO ⟨n, _⟩).mp hi)

variable {m} in
/-- What a skipped step finds in the output's buffer: its own tile. -/
theorem before3_skip (h : Sched m) (hO : Ok m) (c : Dev nD) (t : Fin (cfgM m hO).N) (hv : word (sv m) t.val ≠ 1#32) (d) :
    (dats m hO 0 c).before 3 t d = made m t.val := by
  have ht : t.val < 896 := t.isLt
  rw [(dats m hO 0 c).before_out_traj 3 rfl (fun _ _ => rfl) (fun s hs hi hfr => by
    rw [after3, after3]; exact made_skip h s.val s.isLt ((idle3_iff hO s).mp hi)) t.val t rfl d,
    not_fresh h hO t.val ht hv, if_neg Bool.false_ne_true, after3]
  exact (made_skip h t.val ht hv).symm

abbrev st0 (hO : Ok m) (t : Fin (cfgM m hO).N) : Memref sig .tc .vmem S256x4096 .bf16 := spec0_0.stage ((cfgM m hO).slots t 0)
abbrev st1 (hO : Ok m) (t : Fin (cfgM m hO).N) : Memref sig .tc .vmem S1x1x4096x1024 .f32 := spec0_1.stage ((cfgM m hO).slots t 1)
abbrev st2 (hO : Ok m) (t : Fin (cfgM m hO).N) : Memref sig .tc .vmem S1x1x1x1024 .f32 := spec0_2.stage ((cfgM m hO).slots t 2)
abbrev st3 (hO : Ok m) (t : Fin (cfgM m hO).N) : Memref sig .tc .vmem S256x512 .bf16 := spec0_3.stage ((cfgM m hO).slots t 3)

/-- The body at a step, on the buffers the pipeline gives it. -/
abbrev bodyAt (hO : Ok m) (t : Fin (cfgM m hO).N) : Prog (TpuEff nD τ sig (Elt F) Λ₀ .tc) PUnit :=
  cc0_moe_w1 (grid0.coords t) T0 (hT _) T1 (hT _) T2 (hT _) T3 (hT _) T4 (hT _) (st0 m hO t) (hstage0_0 (((cfgM m hO).slots t 0).cast nbuf0_0))
    (st1 m hO t) (hstage0_1 (((cfgM m hO).slots t 1).cast nbuf0_1)) (st2 m hO t) (hstage0_2 (((cfgM m hO).slots t 2).cast nbuf0_2))
    (st3 m hO t) (hstage0_3 (((cfgM m hO).slots t 3).cast nbuf0_3)) scratch (Memref.isWhole_whole _)

/-- What the body reads of a table at step `t`. -/
theorem read_word (c : Dev nD) (t : Fin grid0.N) (M : Memref sig .tc .smem S896 .i32) (f : Buf (Elt F) (M.view.loc (c : Thread nD τ))) (h) (x) :
    View.readAt (Elt F) M.view (Rect.unit (s := S896) (k0_off1 (grid0.coords t)) S1.size h).toLoadRect f x
      = word (M.view.read (Elt F) f) t.val := by
  rw [word_eq, word_eq_at _ t.val t.isLt]
  exact congrArg (fun a : Fin 896 => M.view.read (Elt F) f (ix1 a)) (Fin.ext (coords_val t))

theorem sound_body (h : Sched m) (hO : Ok m) (c : Dev nD) (t : Fin (cfgM m hO).N) :
    iprop((dats m hO 0 c).Φ t.castSucc ∗ (dats m hO 0 c).owesAt () t.castSucc
      ∗ (∃ d, owns (c : Thread nD τ) (st0 m hO t) fullShare ((dats m hO 0 c).before 0 t d))
      ∗ (∃ d, owns (c : Thread nD τ) (st1 m hO t) fullShare ((dats m hO 0 c).before 1 t d))
      ∗ (∃ d, owns (c : Thread nD τ) (st2 m hO t) fullShare ((dats m hO 0 c).before 2 t d))
      ∗ (∃ d, owns (c : Thread nD τ) (st3 m hO t) fullShare ((dats m hO 0 c).before 3 t d)))
    ⊢ wp frame (wpE (defs₀ (F := F)) Variants.none c none) Set.univ (bodyAt m hO t) (fun _ =>
      iprop((dats m hO 0 c).Φ t.succ ∗ (dats m hO 0 c).owesAt () t.succ
        ∗ owns (c : Thread nD τ) (st0 m hO t) fullShare ((dats m hO 0 c).after 0 t)
        ∗ owns (c : Thread nD τ) (st1 m hO t) fullShare ((dats m hO 0 c).after 1 t)
        ∗ owns (c : Thread nD τ) (st2 m hO t) fullShare ((dats m hO 0 c).after 2 t)
        ∗ owns (c : Thread nD τ) (st3 m hO t) fullShare (made m t.val))) := by
  have ht : t.val < 896 := t.isLt
  simp only [before0, before1, before2]
  rw [show (dats m hO 0 c).owesAt () t.succ = (dats m hO 0 c).owesAt () t.castSucc from rfl, after0, after1, after2,
    block0 h, block1 h, block2 h]
  rw [show (dats m hO 0 c).Φ t.castSucc = iprop((carried m c t.val ∗ (∃ r, prngReg c r)) ∗ Pipeline.ΦT pre0 (tbl m) c) from rfl,
    show (dats m hO 0 c).Φ t.succ = iprop((carried m c (t.val + 1) ∗ (∃ r, prngReg c r)) ∗ Pipeline.ΦT pre0 (tbl m) c) from rfl,
    tables_eq, show carried m c (t.val + 1) = owns (c : Thread nD τ) scratch fullShare (held_weights m t.val) from if_neg (Nat.succ_ne_zero _)]
  by_cases hv : word (sv m) t.val = 1#32
  · have hv' := (cond_iff _).mpr hv
    rw [show word (sv m) t.val = _ from (read_word c t T4 (tbl m 4) (k0_off1_inb _) (Shape.Idx.first (numel1_S1.symm ▸ Nat.one_pos))).symm] at hv'
    have hw3 := read_word c t T3 (tbl m 3) (k0_off1_inb _) (Shape.Idx.first (numel1_S1.symm ▸ Nat.one_pos))
    by_cases hf : word (sf m) t.val = 1#32
    · have hf' := (loads_iff _).mpr hf
      rw [show word (sf m) t.val = _ from hw3.symm] at hf'
      iintro ⟨⟨⟨HS, Hg⟩, ⟨HT0, HT1, HT2, HT3, HT4⟩⟩, Ho, ⟨%d0, H0⟩, ⟨%d1, H1⟩, ⟨%d2, H2⟩, ⟨%d3, H3⟩⟩
      iapply (run_load c (grid0.coords t) (st0 m hO t) _ (st1 m hO t) _ (st2 m hO t) _ (st3 m hO t) _ scratch _ (tbl m 3) (tbl m 4) _ _ _ hv' hf' Set.univ _)
      isplitl [HT3]; · iexact HT3
      isplitl [HT4]; · iexact HT4
      isplitl [H0]; · iexact H0
      isplitl [H1]; · iexact H1
      isplitl [H2]; · iexact H2
      isplitl [H3]; · iexists _; iexact H3
      isplitl [HS]
      · unfold carried
        split
        · iexact HS
        · iexists _; iexact HS
      iintro ⟨HT3, HT4, H0, H1, H2, H3, HS⟩
      isplitl [HS Hg HT0 HT1 HT2 HT3 HT4]
      · isplitl [HS Hg]
        · isplitl [HS]
          · iexact HS
          iexact Hg
        isplitl [HT0]; · iexact HT0
        isplitl [HT1]; · iexact HT1
        isplitl [HT2]; · iexact HT2
        isplitl [HT3]; · iexact HT3
        iexact HT4
      isplitl [Ho]; · iexact Ho
      isplitl [H0]; · iexact H0
      isplitl [H1]; · iexact H1
      isplitl [H2]; · iexact H2
      iexact H3
    · have hf' := (not_congr (loads_iff _)).mpr hf
      rw [show word (sf m) t.val = _ from hw3.symm] at hf'
      obtain ⟨h0, hk⟩ := keeps_weights h t.val ht hv hf
      rw [show carried m c t.val = owns (c : Thread nD τ) scratch fullShare (held_weights m t.val) from
        (if_neg h0).trans (by rw [hk])]
      iintro ⟨⟨⟨HS, Hg⟩, ⟨HT0, HT1, HT2, HT3, HT4⟩⟩, Ho, ⟨%d0, H0⟩, ⟨%d1, H1⟩, ⟨%d2, H2⟩, ⟨%d3, H3⟩⟩
      iapply (run_keep c (grid0.coords t) (st0 m hO t) _ (st1 m hO t) _ (st2 m hO t) _ (st3 m hO t) _ scratch _ (tbl m 3) (tbl m 4) _ _ _ hv' hf' Set.univ _)
      isplitl [HT3]; · iexact HT3
      isplitl [HT4]; · iexact HT4
      isplitl [H0]; · iexact H0
      isplitl [H2]; · iexact H2
      isplitl [H3]; · iexists _; iexact H3
      isplitl [HS]; · iexact HS
      iintro ⟨HT3, HT4, H0, H2, H3, HS⟩
      isplitl [HS Hg HT0 HT1 HT2 HT3 HT4]
      · isplitl [HS Hg]
        · isplitl [HS]
          · iexact HS
          iexact Hg
        isplitl [HT0]; · iexact HT0
        isplitl [HT1]; · iexact HT1
        isplitl [HT2]; · iexact HT2
        isplitl [HT3]; · iexact HT3
        iexact HT4
      isplitl [Ho]; · iexact Ho
      isplitl [H0]; · iexact H0
      isplitl [H1]; · iexact H1
      isplitl [H2]; · iexact H2
      iexact H3
  · have hv' := (not_congr (cond_iff _)).mpr hv
    rw [show word (sv m) t.val = _ from (read_word c t T4 (tbl m 4) (k0_off1_inb _) (Shape.Idx.first (numel1_S1.symm ▸ Nat.one_pos))).symm] at hv'
    obtain ⟨h0, h1, h2, h3⟩ := skips_words h t.val ht hv
    rw [show carried m c t.val = owns (c : Thread nD τ) scratch fullShare (held_weights m t.val) from
      (if_neg h0).trans (by unfold held_weights; rw [h1, h3])]
    simp only [before3_skip h hO c t hv]
    iintro ⟨⟨⟨HS, Hg⟩, ⟨HT0, HT1, HT2, HT3, HT4⟩⟩, Ho, ⟨%d0, H0⟩, ⟨%d1, H1⟩, ⟨%d2, H2⟩, ⟨%d3, H3⟩⟩
    iapply (run_skip c (grid0.coords t) (st0 m hO t) _ (st1 m hO t) _ (st2 m hO t) _ (st3 m hO t) _ scratch _ (tbl m 4) hv' Set.univ _)
    isplitl [HT4]; · iexact HT4
    iintro HT4
    isplitl [HS Hg HT0 HT1 HT2 HT3 HT4]
    · isplitl [HS Hg]
      · isplitl [HS]
        · iexact HS
        iexact Hg
      isplitl [HT0]; · iexact HT0
      isplitl [HT1]; · iexact HT1
      isplitl [HT2]; · iexact HT2
      isplitl [HT3]; · iexact HT3
      iexact HT4
    isplitl [Ho]; · iexact Ho
    isplitl [H0]; · iexact H0
    isplitl [H1]; · iexact H1
    isplitl [H2]; · iexact H2
    iexact H3

theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

variable {m} in
/-- The output's buffer at its tile is what the pipeline asks for, at a skipped step or not. -/
theorem hand_back (h : Sched m) (hO : Ok m) (c : Dev nD) (t : Fin (cfgM m hO).N) :
    owns (c : Thread nD τ) (st3 m hO t) fullShare (made m t.val) ⊢
      (match (cfgM m hO).idle 3 ((cfgM m hO).grid.coords t) with
        | true =>
          match ((cfgM m hO).win 3).flush t with
          | false => iprop(∃ d, owns (c : Thread nD τ) (st3 m hO t) fullShare ((dats m hO 0 c).before 3 t d))
          | true => owns (c : Thread nD τ) (st3 m hO t) fullShare ((dats m hO 0 c).after 3 t)
        | false => owns (c : Thread nD τ) (st3 m hO t) fullShare ((dats m hO 0 c).after 3 t) : sProp 𝕄) := by
  split
  · rename_i hi
    split
    · simp only [before3_skip h hO c t ((idle3_iff hO t).mp hi)]
      iintro H; iexists (made m t.val); iexact H
    · rw [after3]
  · rw [after3]

theorem body_obligation (h : Sched m) (hO : Ok m) (c : Dev nD) :
    BodyObligation (dats (F := F) m hO 0 c) (defs₀ (F := F)) Variants.none () Set.univ := fun t => by
  rw [bigSep_W0, bigSep_W0, body_row m hO]
  refine triple_restated (sound_body m h hO c t) rfl .rfl fun _ => ?_
  exact sep_mono .rfl (sep_mono .rfl (sep_mono .rfl (sep_mono .rfl (sep_mono .rfl (hand_back h hO c t)))))

-- the implicit arguments of the launch theorem are found by unifying its conclusion with this one
set_option backward.isDefEq.respectTransparency.types false in
/-- The program runs to its end from any launch on a schedule: the arrays end as the data say, no counter is left. -/
theorem run_main (h : Sched m) (hO : Ok m) : θ_run defs (onTc (τ := τ) (main (F := F))) (s₀ m ρ) (fun r =>
    Pipeline.FramePost (Pipeline.pin pcfgs fun _ => adm m hO) (dats m hO) 0 (entry m) r ∧ r.2.sem = fun _ => 0) :=
  Pipeline.θ_run_frameP_track (Q' := _) pcfgs (fun _ => adm m hO) (dats m hO) (0 : Fin 1) launch0 defs₀ Variants.none m ρ main
    (hbody := fun c => (body_obligation m h hO c).loose) (hshare := fun c => (dats m hO 0 c).share_full fun _ => rfl)
    (howed := fun _ _ => rfl) (V := entry m) (hmain := main_run m Variants.none) (hA := A_eq m hO) (hpf := entry_tables m)
    (hin := fun c => by
      rw [show (dats m hO 0 c).Φ 0 = iprop((carried m c 0 ∗ (∃ r, prngReg c r)) ∗ Pipeline.ΦT pre0 (tbl m) c) from rfl,
        show carried m c 0 = iprop(∃ d, owns (c : Thread nD τ) scratch fullShare d) from if_pos rfl]
      show iprop(Pipeline.ΦA spec0 c ∗ Pipeline.ΦT pre0 (tbl m) c) ⊢ _
      rw [rest_eq])
    (hout := fun c => by
      rw [show (dats m hO 0 c).Φ (Fin.last (cfgM m hO).N) = iprop((carried m c 896 ∗ (∃ r, prngReg c r)) ∗ Pipeline.ΦT pre0 (tbl m) c) from rfl,
        show carried m c 896 = owns (c : Thread nD τ) scratch fullShare (held_weights m 895) from if_neg (by decide)]
      show _ ⊢ (Pipeline.ΦA spec0 c : sProp 𝕄)
      rw [rest_eq]
      iintro ⟨⟨HS, Hg⟩, -⟩
      isplitl [HS]
      · iexists _; iexact HS
      iexact Hg)

variable {m} in
/-- What a final state of the run holds: the output array the data's, the arguments as they were. -/
theorem post_args (hO : Ok m) (r : PUnit × MemSt nD τ sig (Elt F))
    (hr : Pipeline.FramePost (Pipeline.pin pcfgs fun _ => adm m hO) (dats m hO) 0 (entry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  have ha := (hr c).1
  have hb := (hr c).2
  refine ⟨hb main_arg0 (by decide : main_arg0 ∈ Pipeline.restRefs sig spec0), hb main_arg1 (by decide : main_arg1 ∈ Pipeline.restRefs sig spec0),
    hb main_arg2 (by decide : main_arg2 ∈ Pipeline.restRefs sig spec0), hb main_arg3 (by decide : main_arg3 ∈ Pipeline.restRefs sig spec0),
    hb main_arg4 (by decide : main_arg4 ∈ Pipeline.restRefs sig spec0), ?_, ?_, ?_⟩
  · exact (ha 0).trans (((dats m hO 0 c).arrAt_in 0 rfl _).trans (A_eq m hO c 0))
  · exact (ha 1).trans (((dats m hO 0 c).arrAt_in 1 rfl _).trans (A_eq m hO c 1))
  · exact (ha 2).trans (((dats m hO 0 c).arrAt_in 2 rfl _).trans (A_eq m hO c 2))

/-- The program runs to its end from any launch on a schedule, its arguments unchanged and no counter left. -/
theorem frame (h : Sched m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r hr => ⟨post_args (ok_of m h) r hr.1, hr.2⟩) (run_main m ρ h (ok_of m h))

end Cert.Kernel6Ideal.Step

end
-- ==== Proof.Value6.lean ====
module

public import proofs.«01_k».proof.Proof.Frame6
public import Idealize.ShloMosaic.Lib.Pipeline.Value

@[expose] public section

set_option maxRecDepth 16384

noncomputable section

/-! ## What the first matmul leaves in its output array -/

namespace Cert.Kernel6Ideal.Step

open Cert.Kernel6Ideal Cert.Kernel6Ideal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ)

/-- From any step on, the tile in the output's buffer is written back before the buffer moves to another. -/
theorem flush_exists (hO : Ok m) : ∀ (k n : ℕ), k + n = 895 → ∃ t : Fin (cfgM m hO).N,
    ((cfgM m hO).win 3).flush t = true ∧ word (sb m) t.val = word (sb m) n ∧ word (sj m) t.val = word (sj m) n
  | 0, n, hk => ⟨⟨n, show n < 896 by omega⟩, by
      unfold Window.flush
      rw [Bool.and_eq_true, Bool.or_eq_true, decide_eq_true_eq, decide_eq_true_eq]
      exact ⟨rfl, .inl (show n + 1 = 896 by omega)⟩, rfl, rfl⟩
  | k + 1, n, hk => by
    have hn : n < 896 := by omega
    have hn' : n + 1 < 896 := by omega
    by_cases hf : ((cfgM m hO).win 3).flush ⟨n, hn⟩ = true
    · exact ⟨⟨n, hn⟩, hf, rfl, rfl⟩
    · obtain ⟨t, ht, h1, h2⟩ := flush_exists hO k (n + 1) (by omega)
      unfold Window.flush at hf
      rw [Bool.and_eq_true, Bool.or_eq_true, decide_eq_true_eq, decide_eq_true_eq] at hf
      have he : ((cfgM m hO).win 3).index ⟨n + 1, hn'⟩ = ((cfgM m hO).win 3).index ⟨n, hn⟩ := by
        by_contra hne
        exact hf ⟨rfl, .inr ⟨hn', hne⟩⟩
      have he' : cc0_transform_3 (F := F) k0_off1_inb numel1_S1 (tbl m) (grid0.coords ⟨n + 1, hn'⟩) = cc0_transform_3 (F := F) k0_off1_inb numel1_S1 (tbl m) (grid0.coords ⟨n, hn⟩) := he
      rw [map3, map3] at he'
      have e0 : (word (sb m) (n + 1)).toNat = (word (sb m) n).toNat := congrFun he' 0
      have e1 : (word (sj m) (n + 1)).toNat = (word (sj m) n).toNat := congrFun he' 1
      exact ⟨t, ht, h1.trans (BitVec.eq_of_toNat_eq e0), h2.trans (BitVec.eq_of_toNat_eq e1)⟩

/-- The expert of a block of rows, by any step that visits the block. -/
def expertOf (b : ℕ) : ℕ := by
  classical
  exact if h : ∃ s : Fin 896, (sb m (ix1 s)).toNat = b then (se m (ix1 h.choose)).toNat else 0

variable {m} in
theorem expertOf_eq (h : Sched m) (s : Fin 896) : expertOf m (sb m (ix1 s)).toNat = (se m (ix1 s)).toNat := by
  have hx : ∃ r : Fin 896, (sb m (ix1 r)).toNat = (sb m (ix1 s)).toNat := ⟨s, rfl⟩
  unfold expertOf
  rw [dif_pos hx]
  exact congrArg BitVec.toNat (h.owner _ _ (BitVec.eq_of_toNat_eq hx.choose_spec))

/-- The array the visited tiles agree with: at each index its block's and its column's tile. -/
def whole : Vec F S57344x2048 .bf16 := fun i =>
  tile m ((i 0).val / 256) (expertOf m ((i 0).val / 256)) ((i 1).val / 512)
    (ix2 ⟨(i 0).val % 256, Nat.mod_lt _ (by decide)⟩ ⟨(i 1).val % 512, Nat.mod_lt _ (by decide)⟩)

/-- Where element `y` of step `t`'s tile lies in the output array. -/
abbrev place (hO : Ok m) (t : Fin (cfgM m hO).N) (y : S256x512.Idx) : S57344x2048.Idx := (((cfgM m hO).win 3).blk t).view.emb y

variable {m} in
theorem flushed_eq (h : Sched m) (hO : Ok m) (c : Dev nD) (t : Fin (cfgM m hO).N) :
    (dats m hO 0 c).flushed 3 t = (((cfgM m hO).win 3).blk t).view.read (Elt F) (whole m) := by
  have ht : t.val < 896 := t.isLt
  have hb := h.block (ix1 (Fin.ofNat 896 t.val))
  have hj := h.column (ix1 (Fin.ofNat 896 t.val))
  have hE := expertOf_eq h (Fin.ofNat 896 t.val)
  have e := map3 m t
  unfold word at e
  refine funext fun (y : S256x512.Idx) => ?_
  have y0 : (y 0).val < 256 := (y 0).isLt
  have y1 : (y 1).val < 512 := (y 1).isLt
  show (dats m hO 0 c).after 3 t y = whole m (place m hO t y)
  rw [after3]
  have e0 : (place m hO t y 0).val = (sb m (ix1 (Fin.ofNat 896 t.val))).toNat * 256 + (y 0).val := by
    show cc0_transform_3 (F := F) k0_off1_inb numel1_S1 (tbl m) (grid0.coords t) 0 * 256 + 1 * (y 0).val = _
    rw [e, Nat.one_mul]; rfl
  have e1 : (place m hO t y 1).val = (sj m (ix1 (Fin.ofNat 896 t.val))).toNat * 512 + (y 1).val := by
    show cc0_transform_3 (F := F) k0_off1_inb numel1_S1 (tbl m) (grid0.coords t) 1 * 512 + 1 * (y 1).val = _
    rw [e, Nat.one_mul]; rfl
  have q0 : (place m hO t y 0).val / 256 = (sb m (ix1 (Fin.ofNat 896 t.val))).toNat := by omega
  have q1 : (place m hO t y 1).val / 512 = (sj m (ix1 (Fin.ofNat 896 t.val))).toNat := by omega
  unfold whole made word
  rw [q0, q1, hE]
  refine congrArg _ (funext fun (a : Fin 2) => Fin.ext ?_)
  match a with
  | 0 => show (y 0).val = (place m hO t y 0).val % 256; omega
  | 1 => show (y 1).val = (place m hO t y 1).val % 512; omega

variable {m} in
/-- An index in a tile some step visits ends holding that tile's value. -/
theorem out_at (h : Sched m) (hO : Ok m) (c : Dev nD) (s : Fin 896) (i : S57344x2048.Idx)
    (h0 : (sb m (ix1 s)).toNat = (i 0).val / 256) (h1 : (sj m (ix1 s)).toNat = (i 1).val / 512) :
    ((dats m hO 0 c).arrAt 3 (cfgM m hO).N : Vec F S57344x2048 .bf16) i
      = tile m ((i 0).val / 256) (se m (ix1 s)).toNat ((i 1).val / 512)
        (ix2 ⟨(i 0).val % 256, Nat.mod_lt _ (by decide)⟩ ⟨(i 1).val % 512, Nat.mod_lt _ (by decide)⟩) := by
  have hs : s.val < 896 := s.isLt
  obtain ⟨t, hf, e0, e1⟩ := flush_exists m hO (895 - s.val) s.val (by omega)
  rw [word_eq_at _ s.val hs] at e0 e1
  have e := map3 m t
  rw [e0, e1] at e
  have hm : i ∈ (((cfgM m hO).win 3).blk t).view.set := by
    refine (((cfgM m hO).win 3).emb_mem_blk_iff t i rfl).mpr fun (a : Fin 2) => ?_
    match a with
    | 0 =>
      show cc0_transform_3 (F := F) k0_off1_inb numel1_S1 (tbl m) (grid0.coords t) 0 * 256 ≤ (i 0).val ∧ (i 0).val < cc0_transform_3 (F := F) k0_off1_inb numel1_S1 (tbl m) (grid0.coords t) 0 * 256 + 256
      rw [e]
      show (sb m (ix1 s)).toNat * 256 ≤ (i 0).val ∧ (i 0).val < (sb m (ix1 s)).toNat * 256 + 256
      omega
    | 1 =>
      show cc0_transform_3 (F := F) k0_off1_inb numel1_S1 (tbl m) (grid0.coords t) 1 * 512 ≤ (i 1).val ∧ (i 1).val < cc0_transform_3 (F := F) k0_off1_inb numel1_S1 (tbl m) (grid0.coords t) 1 * 512 + 512
      rw [e]
      show (sj m (ix1 s)).toNat * 512 ≤ (i 1).val ∧ (i 1).val < (sj m (ix1 s)).toNat * 512 + 512
      omega
  refine ((dats m hO 0 c).arrAt_apply_of_mem 3 (whole m) (fun t _ => flushed_eq h hO c t) _ t i t.isLt hf hm).trans ?_
  unfold whole
  rw [← h0, expertOf_eq h s]

end Cert.Kernel6Ideal.Step

end
-- ==== Proof.Lanes.lean ====
module

public import proofs.«01_k».proof.Proof.Step6
public import Idealize.ShloMosaic.Lib.Pointwise

@[expose] public section

set_option maxRecDepth 16384

noncomputable section

open Idealize.ShloMosaic Idealize.ShloMosaic.TcCoe Idealize.SL.Sem

/-! ## How a step parts the even columns from the odd ones

A group of 256 columns is two vectors of 128 lanes. In each, a gather brings the 64 even columns to the front and the 64 odd
ones to the back; a rotation by 64 lanes and a choice by lane then joins the fronts of both, and their backs. -/

namespace Cert.Kernel6Ideal.Step

open Cert.Kernel6Ideal Cert.Kernel6Ideal.Gen

variable {F : FTy → Type} [FloatOps F]

/-- The column that lane `l` is gathered from. -/
def lane (l : Fin 128) : Fin 128 := ⟨if l.val < 64 then 2 * l.val else 2 * (l.val - 64) + 1, by have := l.isLt; split <;> omega⟩

/-- The word that lane `l` is gathered by, before a negative one would be wrapped. -/
def laneWord (w : BitVec 32) : BitVec 32 :=
  Scalar.select (IntOp.cmpi .slt w 64#32) (IntOp.muli 2#32 w) (IntOp.addi (IntOp.muli 2#32 (IntOp.subi w 64#32)) 1#32)

theorem laneWord_toNat : ∀ l : Fin 128,
    (Scalar.select (IntOp.cmpi .slt (laneWord (BitVec.ofNat 32 l.val)) 0#32) (IntOp.addi (laneWord (BitVec.ofNat 32 l.val)) 128#32)
      (laneWord (BitVec.ofNat 32 l.val))).toNat % 128 = (lane l).val := by decide

theorem front : ∀ l : Fin 128, IntOp.cmpi .slt (BitVec.ofNat 32 l.val) 64#32 = if l.val < 64 then 1#1 else 0#1 := by decide

theorem pay4_at (r : Fin 256) (l : Fin 128) : k0_pay4 (ix2 r l) = laneWord (BitVec.ofNat 32 l.val) := by
  pointwise [k0_pay4]
  rfl

/-- A gathered vector, at a lane. -/
theorem gathered (y : FVec F S256x128 .f32) (r : Fin 256) (l : Fin 128) :
    dynamicGather 1 y (shapeCast S256x128 (shapeCast S256x128x1 (select (cmpi .slt k0_pay4 (broadcast S256x128 0#32))
      (addi k0_pay4 (broadcast S256x128 128#32)) k0_pay4) shapeCasts_S256x128_S256x128x1) shapeCasts_S256x128x1_S256x128) (ix2 r l)
      = y (ix2 r (lane l)) := by
  generalize hW : k0_pay4 = W
  pointwise []
  subst hW
  refine congrArg (fun a => y (ix2 r a)) (Fin.ext (Eq.trans ?_ (laneWord_toNat l)))
  rw [← pay4_at r l]

/-- The fronts of two gathered vectors, joined: the even columns of the two. -/
theorem fronts (ga gb : FVec F S256x128 .f32) (a b : FVec F S256x128 .f32) (ha : ∀ r l, ga (ix2 r l) = a (ix2 r (lane l)))
    (hb : ∀ r l, gb (ix2 r l) = b (ix2 r (lane l))) (y : Fin 256 → ℕ → F .f32)
    (ya : ∀ r (l : Fin 128), a (ix2 r l) = y r l.val) (yb : ∀ r (l : Fin 128), b (ix2 r l) = y r (128 + l.val)) (r : Fin 256) (l : Fin 128) :
    select (cmpi .slt (iota .tc S256x128 32 [1] iota_S256x128_d1_w32) (broadcast S256x128 64#32)) ga
      (dynamicRotate 1 64#32 none gb rotates_S256x128_d1) (ix2 r l) = y r (2 * l.val) := by
  have hl := l.isLt
  pointwise []
  rw [show BitVec.ofNat 32 (l.val) = BitVec.ofNat 32 l.val from rfl, front]
  by_cases h : l.val < 64
  · rw [if_pos h]
    refine (ha r l).trans ((ya _ _).trans (congrArg (y r) ?_))
    show (if l.val < 64 then 2 * l.val else 2 * (l.val - 64) + 1) = _
    rw [if_pos h]
  · rw [if_neg h]
    refine (hb r _).trans ((yb _ _).trans (congrArg (y r) ?_))
    show 128 + (if (l.val + 128 - 64) % 128 < 64 then 2 * ((l.val + 128 - 64) % 128) else 2 * ((l.val + 128 - 64) % 128 - 64) + 1) = _
    rw [if_pos (by omega)]
    omega

/-- The backs of two gathered vectors, joined: the odd columns of the two. -/
theorem backs (ga gb : FVec F S256x128 .f32) (a b : FVec F S256x128 .f32) (ha : ∀ r l, ga (ix2 r l) = a (ix2 r (lane l)))
    (hb : ∀ r l, gb (ix2 r l) = b (ix2 r (lane l))) (y : Fin 256 → ℕ → F .f32)
    (ya : ∀ r (l : Fin 128), a (ix2 r l) = y r l.val) (yb : ∀ r (l : Fin 128), b (ix2 r l) = y r (128 + l.val)) (r : Fin 256) (l : Fin 128) :
    select (cmpi .slt (iota .tc S256x128 32 [1] iota_S256x128_d1_w32) (broadcast S256x128 64#32))
      (dynamicRotate 1 64#32 none ga rotates_S256x128_d1) gb (ix2 r l) = y r (2 * l.val + 1) := by
  have hl := l.isLt
  pointwise []
  rw [front]
  by_cases h : l.val < 64
  · rw [if_pos h]
    refine (ha r _).trans ((ya _ _).trans (congrArg (y r) ?_))
    show (if (l.val + 128 - 64) % 128 < 64 then 2 * ((l.val + 128 - 64) % 128) else 2 * ((l.val + 128 - 64) % 128 - 64) + 1) = _
    rw [if_neg (by omega)]
    omega
  · rw [if_neg h]
    refine (hb r l).trans ((yb _ _).trans (congrArg (y r) ?_))
    show 128 + (if l.val < 64 then 2 * l.val else 2 * (l.val - 64) + 1) = _
    rw [if_neg h]
    omega

/-- Four vectors of 128 lanes side by side, at a column. -/
theorem beside (v0 v1 v2 v3 : FVec F S256x128 .f32) (z : Fin 256 → ℕ → F .f32) (h0 : ∀ r (l : Fin 128), v0 (ix2 r l) = z r l.val)
    (h1 : ∀ r (l : Fin 128), v1 (ix2 r l) = z r (128 + l.val)) (h2 : ∀ r (l : Fin 128), v2 (ix2 r l) = z r (256 + l.val))
    (h3 : ∀ r (l : Fin 128), v3 (ix2 r l) = z r (384 + l.val)) (r : Fin 256) (q : Fin 512) :
    concatenate S256x512 1 [⟨S256x128, v0⟩, ⟨S256x128, v1⟩, ⟨S256x128, v2⟩, ⟨S256x128, v3⟩]
      concatenates_S256x128_S256x128_S256x128_S256x128_S256x512_d1 (ix2 r q) = z r q.val := by
  have hq := q.isLt
  pointwise []
  by_cases a : q.val < 128
  · rw [dif_pos a]
    exact h0 r _
  rw [dif_neg a]
  by_cases b : q.val - 128 < 128
  · rw [dif_pos b]
    exact (h1 r _).trans (congrArg (z r) (show 128 + (q.val - 128) = q.val by omega))
  rw [dif_neg b]
  by_cases c : q.val - 128 - 128 < 128
  · rw [dif_pos c]
    exact (h2 r _).trans (congrArg (z r) (show 256 + (q.val - 128 - 128) = q.val by omega))
  rw [dif_neg c]
  exact (h3 r _).trans (congrArg (z r) (show 384 + (q.val - 128 - 128 - 128) = q.val by omega))

/-- The column of the step's product with this number. -/
def column (y : FVec F S256x1024 .f32) (r : Fin 256) (n : ℕ) : F .f32 := y (ix2 r (Fin.ofNat 1024 n))

variable (x : Vec F S256x4096 .bf16) (w : Vec F S4096x1024 .bf16) (b : Vec F S1x1x1x1024 .f32)

/-- A vector of 128 lanes cut out of the product from column `o` on. -/
theorem cut (y : FVec F S256x1024 .f32) (o : ℕ) (ho : o + 128 ≤ 1024) (hs) (r : Fin 256) (l : Fin 128) :
    extractStridedSlice S256x128 ![0, o] y hs (ix2 r l) = column y r (o + l.val) := by
  have hl := l.isLt
  pointwise []
  refine congrArg y (funext fun (a : Fin 2) => Fin.ext ?_)
  match a with
  | 0 => rfl
  | 1 => show o + l.val = (o + l.val) % 1024; omega

/-- A vector of 128 lanes with its even columns brought to the front. -/
def parted (v : FVec F S256x128 .f32) : FVec F S256x128 .f32 :=
  dynamicGather 1 v (shapeCast S256x128 (shapeCast S256x128x1 (select (cmpi .slt k0_pay4 (broadcast S256x128 0#32))
    (addi k0_pay4 (broadcast S256x128 128#32)) k0_pay4) shapeCasts_S256x128_S256x128x1) shapeCasts_S256x128x1_S256x128)

/-- The even columns of the 256 from column `o` on. -/
theorem evens (y : FVec F S256x1024 .f32) (o p : ℕ) (hp : p = o + 128) (ho : o + 256 ≤ 1024) (ha : S256x1024.Slices ![0, o] S256x128)
    (hb : S256x1024.Slices ![0, p] S256x128) (r : Fin 256) (l : Fin 128) :
    select (cmpi .slt (iota .tc S256x128 32 [1] iota_S256x128_d1_w32) (broadcast S256x128 64#32))
      (parted (extractStridedSlice S256x128 ![0, o] y ha))
      (dynamicRotate 1 64#32 none (parted (extractStridedSlice S256x128 ![0, p] y hb)) rotates_S256x128_d1) (ix2 r l)
      = column y r (o + 2 * l.val) :=
  fronts _ _ _ _ (gathered _) (gathered _) (fun r n => column y r (o + n)) (cut y o (by omega) ha)
    (fun r l => (cut y p (by omega) hb r l).trans (congrArg (column y r) (by omega))) r l

/-- The odd columns of the 256 from column `o` on. -/
theorem odds (y : FVec F S256x1024 .f32) (o p : ℕ) (hp : p = o + 128) (ho : o + 256 ≤ 1024) (ha : S256x1024.Slices ![0, o] S256x128)
    (hb : S256x1024.Slices ![0, p] S256x128) (r : Fin 256) (l : Fin 128) :
    select (cmpi .slt (iota .tc S256x128 32 [1] iota_S256x128_d1_w32) (broadcast S256x128 64#32))
      (dynamicRotate 1 64#32 none (parted (extractStridedSlice S256x128 ![0, o] y ha)) rotates_S256x128_d1)
      (parted (extractStridedSlice S256x128 ![0, p] y hb)) (ix2 r l)
      = column y r (o + (2 * l.val + 1)) :=
  backs _ _ _ _ (gathered _) (gathered _) (fun r n => column y r (o + n)) (cut y o (by omega) ha)
    (fun r l => (cut y p (by omega) hb r l).trans (congrArg (column y r) (by omega))) r l

/-- The even columns, side by side. -/
theorem evens_at (r : Fin 256) (q : Fin 512) :
    k0_pay19 (k0_pay3 x w b) (iota .tc S256x128 32 [1] iota_S256x128_d1_w32) k0_pay4
      (k0_pay9 (iota .tc S256x128 32 [1] iota_S256x128_d1_w32) (k0_pay5 x w b) (k0_pay6 x w b) k0_pay7)
      (k0_pay13 (k0_pay3 x w b) (iota .tc S256x128 32 [1] iota_S256x128_d1_w32) k0_pay4) (k0_pay15 (k0_pay3 x w b) k0_pay4) (ix2 r q)
      = column (k0_pay3 x w b) r (2 * q.val) := by
  refine beside _ _ _ _ (fun r n => column (k0_pay3 x w b) r (2 * n)) (fun r l => ?_) (fun r l => ?_) (fun r l => ?_) (fun r l => ?_) r q
  · exact (evens (k0_pay3 x w b) 0 128 rfl (by decide) slices_S256x1024_o0_0_S256x128 slices_S256x1024_o0_128_S256x128 r l).trans
      (congrArg (column _ r) (by omega))
  · exact (evens (k0_pay3 x w b) 256 384 rfl (by decide) slices_S256x1024_o0_256_S256x128 slices_S256x1024_o0_384_S256x128 r l).trans
      (congrArg (column _ r) (by omega))
  · exact (evens (k0_pay3 x w b) 512 640 rfl (by decide) slices_S256x1024_o0_512_S256x128 slices_S256x1024_o0_640_S256x128 r l).trans
      (congrArg (column _ r) (by omega))
  · exact (evens (k0_pay3 x w b) 768 896 rfl (by decide) slices_S256x1024_o0_768_S256x128 slices_S256x1024_o0_896_S256x128 r l).trans
      (congrArg (column _ r) (by omega))

/-- The odd columns, side by side. -/
theorem odds_at (r : Fin 256) (q : Fin 512) :
    k0_pay20 (k0_pay3 x w b) (iota .tc S256x128 32 [1] iota_S256x128_d1_w32) k0_pay4
      (k0_pay10 (iota .tc S256x128 32 [1] iota_S256x128_d1_w32) (k0_pay5 x w b) (k0_pay6 x w b) k0_pay7)
      (k0_pay14 (k0_pay3 x w b) (iota .tc S256x128 32 [1] iota_S256x128_d1_w32) k0_pay4) (k0_pay15 (k0_pay3 x w b) k0_pay4) (ix2 r q)
      = column (k0_pay3 x w b) r (2 * q.val + 1) := by
  refine beside _ _ _ _ (fun r n => column (k0_pay3 x w b) r (2 * n + 1)) (fun r l => ?_) (fun r l => ?_) (fun r l => ?_) (fun r l => ?_) r q
  · exact (odds (k0_pay3 x w b) 0 128 rfl (by decide) slices_S256x1024_o0_0_S256x128 slices_S256x1024_o0_128_S256x128 r l).trans
      (congrArg (column _ r) (by omega))
  · exact (odds (k0_pay3 x w b) 256 384 rfl (by decide) slices_S256x1024_o0_256_S256x128 slices_S256x1024_o0_384_S256x128 r l).trans
      (congrArg (column _ r) (by omega))
  · exact (odds (k0_pay3 x w b) 512 640 rfl (by decide) slices_S256x1024_o0_512_S256x128 slices_S256x1024_o0_640_S256x128 r l).trans
      (congrArg (column _ r) (by omega))
  · exact (odds (k0_pay3 x w b) 768 896 rfl (by decide) slices_S256x1024_o0_768_S256x128 slices_S256x1024_o0_896_S256x128 r l).trans
      (congrArg (column _ r) (by omega))

end Cert.Kernel6Ideal.Step

end
-- ==== Proof.Same6.lean ====
module

public import proofs.«01_k».proof.Proof.Frame6
public import proofs.«01_k».proof.Proof.Gen.Kernel6
public import proofs.«01_k».proof.Defs

@[expose] public section

set_option maxRecDepth 16384

noncomputable section

/-! ## The program as compiled is the program as idealized: no operation was replaced -/

namespace Cert.Kernel6Ideal.Step

open Idealize.ShloMosaic Idealize.ShloMosaic.TcCoe
open Idealize.SL Idealize.SL.Sem

theorem sched_bits (m : (ℓ : Loc Cert.Kernel6.nD Cert.Kernel6.τ Cert.Kernel6.sig) → Buf (Elt Bits) ℓ)
    (h : Cert.Pre_Kernel6 m) : Sched (F := Bits) m := Schedule.good_of_pre6 _ _ _ _ _ _ _ _ (h 0)

theorem sched_ideal (m : (ℓ : Loc Cert.Kernel6Ideal.nD Cert.Kernel6Ideal.τ Cert.Kernel6Ideal.sig) → Buf (Elt Ideal) ℓ)
    (h : Cert.Pre_Kernel6Ideal m) : Sched (F := Ideal) m := Schedule.good_of_pre6 _ _ _ _ _ _ _ _ (h 0)

variable {F : FTy → Type} [FloatOps F]

theorem same_body : @Kernel6.cc0_moe_w1 F _ _ = @Kernel6Ideal.cc0_moe_w1 F _ _ := rfl

set_option maxHeartbeats 4000000 in
theorem same_table : @Kernel6.defs₀ F _ _ = @Kernel6Ideal.defs₀ F _ _ := by
  unfold Kernel6.defs₀ Kernel6Ideal.defs₀
  refine congrArg Defs.onTc (funext fun l => funext fun x => ?_)
  match l, x with
  | ⟨0, _⟩, (t, s) => exact congrFun (congrFun (congrFun (congrFun (congrFun (congrFun (congrFun (congrFun (congrFun (congrFun (congrFun (congrFun (congrFun (congrFun (congrFun (congrFun (congrFun (congrFun (congrFun (congrFun (congrFun same_body _) _) _) _) _) _) _) _) _) _) _) _) _) _) _) _) _) _) _) _) _

theorem same_defs : @Kernel6.defs F _ _ = @Kernel6Ideal.defs F _ _ :=
  congrArg (Pipeline.defs (Kernel6Ideal.pcfgs (F := F))) same_table

theorem frame_bits : Cert.quiescent_Kernel6 := fun m ρ h => by
  rw [same_defs]
  exact frame (F := Bits) m ρ (sched_bits m h)

theorem frame_ideal : Cert.quiescent_Kernel6Ideal := fun m ρ h => frame (F := Ideal) m ρ (sched_ideal m h)

end Cert.Kernel6Ideal.Step

end
-- ==== Proof.Pages.lean ====
module

public import Idealize.ShloMosaic.Lib.ValueIdxCore
public import Idealize.ShloMosaic.Lib.WordCmp
public import Idealize.ShloMosaic.Lib.Pointwise
public import Idealize.ShloMosaic.PureOps.Reduce

@[expose] public section

set_option maxRecDepth 16384

noncomputable section

/-! ## Taking one expert's page of a stack of weights, and finding a block's expert -/

namespace Cert.Pages

open Idealize.ShloMosaic

/-- The numbers of `stack[e]`, for a vector `e` of `n` page numbers and a stack of `N` pages of `A` rows and `B` columns. -/
abbrev dims (N A B n : ℕ) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Entry `(c, y, z)` of what is taken is entry `(y, z)` of the page that the `c`-th number names. -/
theorem take {α : Type} {N A B n : ℕ} (wf) (x : (⟨3, ![N, A, B]⟩ : Shape).Idx → α) (idx : IVec ⟨2, ![n, 1]⟩ 32)
    (c : Fin n) (y : Fin A) (z : Fin B) (b : Fin N) (hb : (idx (ix2 c 0)).toInt.toNat = b.val) :
    Host.gather (dims N A B n wf) x idx (ix3 c y z) = x (ix3 b y z) := by
  unfold Host.gather
  refine congrArg x (funext fun (a : Fin 3) => Fin.ext ?_)
  show (dims N A B n wf).start (ix3 c y z) idx a + (dims N A B n wf).batchCoord (ix3 c y z) a + (dims N A B n wf).offCoord (ix3 c y z) a = _
  rw [GatherDims.batchCoord_eq_zero _ _ _ List.not_mem_nil, Nat.add_zero]
  match a with
  | 0 =>
    rw [GatherDims.offCoord_eq_zero _ _ _ (fun h => ((GatherDims.mem_sKept _ _).mp h).1 (List.mem_singleton.mpr rfl)), Nat.add_zero]
    unfold GatherDims.start
    rw [dif_pos (show (0 : Fin 3) ∈ (dims N A B n wf).startIndexMap from List.mem_singleton.mpr rfl)]
    have hs : (dims N A B n wf).siIdx (ix3 c y z) ⟨List.idxOf (0 : Fin 3) (dims N A B n wf).startIndexMap,
        List.idxOf_lt_length_iff.2 (List.mem_singleton.mpr rfl)⟩ = ix2 c 0 := by
      funext (i : Fin 2); refine Fin.ext ?_
      match i with
      | 0 => rfl
      | 1 => rfl
    rw [hs, hb]
    show min b.val (N - 1) = b.val
    have := b.isLt
    omega
  | 1 =>
    unfold GatherDims.start GatherDims.offCoord
    rw [dif_neg (show (1 : Fin 3) ∉ (dims N A B n wf).startIndexMap from fun h => absurd (List.mem_singleton.mp h) (by decide : (1 : Fin 3) ≠ 0)),
      dif_pos (show (1 : Fin 3) ∈ (dims N A B n wf).sKept from (GatherDims.mem_sKept _ _).mpr ⟨fun h => absurd (List.mem_singleton.mp h) (by decide : (1 : Fin 3) ≠ 0), List.not_mem_nil⟩), Nat.zero_add]
    rfl
  | 2 =>
    unfold GatherDims.start GatherDims.offCoord
    rw [dif_neg (show (2 : Fin 3) ∉ (dims N A B n wf).startIndexMap from fun h => absurd (List.mem_singleton.mp h) (by decide : (2 : Fin 3) ≠ 0)),
      dif_pos (show (2 : Fin 3) ∈ (dims N A B n wf).sKept from (GatherDims.mem_sKept _ _).mpr ⟨fun h => absurd (List.mem_singleton.mp h) (by decide : (2 : Fin 3) ≠ 0), List.not_mem_nil⟩), Nat.zero_add]
    rfl

theorem small_max : ∀ k : Fin 32, (∀ v : Fin 3, IntOp.maxsi (BitVec.ofNat 32 k.val) (![2147483648#32, 0#32, BitVec.ofNat 32 k.val] v) = BitVec.ofNat 32 k.val)
    ∧ IntOp.maxsi 0#32 (BitVec.ofNat 32 k.val) = BitVec.ofNat 32 k.val ∧ IntOp.maxsi 0#32 2147483648#32 = 0#32 ∧ IntOp.maxsi 0#32 0#32 = 0#32 := by
  decide

/-- The greatest of words that are each zero or one and the same small word, which some of them are. -/
theorem fold_max (x : Fin 896 → BitVec 32) (e : BitVec 32) (he : e.toNat < 32) (hx : ∀ s, x s = e ∨ x s = 0#32) (s : Fin 896) (hs : x s = e) :
    (Finset.univ : Finset (Fin 896)).fold IntOp.maxsi 2147483648#32 x = e := by
  obtain ⟨k, rfl⟩ : ∃ k : Fin 32, e = BitVec.ofNat 32 k.val := ⟨⟨e.toNat, he⟩, by simp⟩
  obtain ⟨h1, h2, h3, h4⟩ := small_max k
  have H : ∀ S : Finset (Fin 896), (S.fold IntOp.maxsi 2147483648#32 x = 2147483648#32 ∨ S.fold IntOp.maxsi 2147483648#32 x = 0#32
      ∨ S.fold IntOp.maxsi 2147483648#32 x = BitVec.ofNat 32 k.val) ∧ (s ∈ S → S.fold IntOp.maxsi 2147483648#32 x = BitVec.ofNat 32 k.val) := by
    intro S
    induction S using Finset.induction_on with
    | empty => exact ⟨.inl rfl, fun h => absurd h (Finset.notMem_empty _)⟩
    | insert a S ha ih =>
      rw [Finset.fold_insert ha]
      generalize S.fold IntOp.maxsi 2147483648#32 x = v at ih
      obtain ⟨ih, ihs⟩ := ih
      by_cases hxa : x a = BitVec.ofNat 32 k.val
      · have : IntOp.maxsi (x a) v = BitVec.ofNat 32 k.val := by
          rw [hxa]
          rcases ih with rfl | rfl | rfl
          · exact h1 0
          · exact h1 1
          · exact h1 2
        exact ⟨.inr (.inr this), fun _ => this⟩
      · have hz : x a = 0#32 := (hx a).resolve_left hxa
        rw [hz]
        refine ⟨?_, fun h => ?_⟩
        · rcases ih with rfl | rfl | rfl
          · exact .inr (.inl h3)
          · exact .inr (.inl h4)
          · exact .inr (.inr h2)
        · rcases Finset.mem_insert.mp h with rfl | h
          · exact absurd hs hxa
          · rw [ihs h, h2]
  exact (H _).2 (Finset.mem_univ _)

/-- A disjunction of truth values that holds has one that does. -/
theorem fold_or (x : Fin 896 → BitVec 1) (h : (Finset.univ : Finset (Fin 896)).fold IntOp.ori 0#1 x = 1#1) : ∃ s, x s = 1#1 := by
  have two : ∀ a b : BitVec 1, IntOp.ori a b = 1#1 → a = 1#1 ∨ b = 1#1 := by decide
  have H : ∀ S : Finset (Fin 896), S.fold IntOp.ori 0#1 x = 1#1 → ∃ s, x s = 1#1 := by
    intro S
    induction S using Finset.induction_on with
    | empty =>
      rw [Finset.fold_empty]
      exact fun h => absurd h (by decide)
    | insert a S ha ih =>
      rw [Finset.fold_insert ha]
      intro h
      rcases two _ _ h with h | h
      · exact ⟨a, h⟩
      · exact ih h
  exact H _ h

end Cert.Pages

end
-- ==== Proof.Visited6.lean ====
module

public import proofs.«01_k».proof.Proof.Gen.On_visited6
public import proofs.«01_k».proof.Proof.Tables
public import proofs.«01_k».proof.Proof.Pages

@[expose] public section

set_option maxRecDepth 16384

noncomputable section

/-! ## The tiles the schedule visits, decoded -/

namespace Cert.Schedule

open Idealize.ShloMosaic Cert.On_visited6

/-- An element the mask names lies in a tile that some step visits. -/
theorem visited6 {F : FTy → Type} [FloatOps F] (se sj sb sf sv : IVec S896 32) (a : FVec F S57344x4096 .bf16)
    (w : FVec F S2x32x4096x4096 .f32) (b : FVec F S2x32x1x4096 .f32) (i0 : Fin 57344) (i1 : Fin 2048)
    (h : Cert.On_visited6.fn (F := F) se sj sb sf sv a w b (ix2 i0 i1) = 1#1) :
    ∃ s : Fin 896, (sb (ix1 s)).toNat = i0.val / 256 ∧ (sj (ix1 s)).toNat = i1.val / 512 := by
  unfold fn at h
  dsimp only at h
  generalize hx : (andi _ _ : IVec S224x4x896 1) = x at h
  simp only [pointwise, Nat.reduceEqDiff, OfNat.ofNat_ne_one, reduceDIte] at h
  obtain ⟨s, hs⟩ := Pages.fold_or _ h
  subst hx
  simp only [pointwise, Nat.reduceEqDiff, OfNat.ofNat_ne_one, reduceDIte] at hs
  obtain ⟨h0, h1⟩ := (andi_one _ _).mp hs
  have h0 := (cmp_eq _ _).mp h0
  have h1 := (cmp_eq _ _).mp h1
  have l0 := i0.isLt
  have l1 := i1.isLt
  exact ⟨s, by rw [h0, BitVec.toNat_ofNat]; omega, by rw [h1, BitVec.toNat_ofNat]; omega⟩

end Cert.Schedule

end
-- ==== Proof.Up.lean ====
module

public import proofs.«01_k».proof.Defs
public import proofs.«01_k».proof.Proof.Value6
public import proofs.«01_k».proof.Proof.Lanes
public import proofs.«01_k».proof.Proof.Same6
public import proofs.«01_k».proof.Proof.Visited6
public import proofs.«01_k».proof.Proof.Gen.Reference6Ideal.Read
public import proofs.«01_k».proof.Proof.Gen.Pre_schedule6
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! ## The experts' first matmul, with its gate: a row times its expert's weights, plus the bias, and the two halves joined -/

namespace Cert.Up

/-- Row `r` times column `n` of expert `e`'s weights, plus the bias. -/
def entry (x : FVec Ideal ⟨2, ![57344, 4096]⟩ .bf16) (w : FVec Ideal ⟨4, ![2, 32, 4096, 4096]⟩ .f32) (b : FVec Ideal ⟨4, ![2, 32, 1, 4096]⟩ .f32)
    (e : Fin 32) (r : Fin 57344) (n : Fin 4096) : EReal :=
  (∑ k : Fin 4096, x (ix2 r k) * w (ix4 0 e k n)) + b (ix4 0 e 0 n)

/-- The gate: `g` and `l` clamped, `g` through its sigmoid at slope 1.702, times `l + 1`. The words are 7, 1.702 and -7. -/
def gate (g l : EReal) : EReal :=
  min g (Ideal.ofBits .f32 0x40E00000#32)
    * Ideal.logistic (Ideal.ofBits .f32 0x3FD9DB23#32 * min g (Ideal.ofBits .f32 0x40E00000#32))
    * (min (Ideal.ofBits .f32 0x40E00000#32) (max (Ideal.ofBits .f32 0xC0E00000#32) l) + 1)

/-- Entry `n` of a gated row: the even column `2n` and the odd column `2n + 1`, joined by the gate. -/
def gated (x : FVec Ideal ⟨2, ![57344, 4096]⟩ .bf16) (w : FVec Ideal ⟨4, ![2, 32, 4096, 4096]⟩ .f32) (b : FVec Ideal ⟨4, ![2, 32, 1, 4096]⟩ .f32)
    (e : Fin 32) (r : Fin 57344) (n : Fin 2048) : EReal :=
  gate (entry x w b e r ⟨2 * n.val, by have := n.isLt; omega⟩) (entry x w b e r ⟨2 * n.val + 1, by have := n.isLt; omega⟩)

end Cert.Up

namespace Cert.Kernel6Ideal.Step

open Cert.Kernel6Ideal Cert.Kernel6Ideal.Gen

theorem weights_at (x : Vec Ideal S1x1x4096x1024 .f32) (k : Fin 4096) (q : Fin 1024) : weights x (ix2 k q) = x (ix4 0 0 k q) := by
  unfold weights
  pointwise [k0_pay2]
  refine congrArg x (funext fun (a : Fin 4) => Fin.ext ?_)
  match a with
  | 0 => rfl
  | 1 => rfl
  | 2 => show k.val / 256 * 256 + k.val % 256 = k.val; omega
  | 3 => rfl

/-- What a step writes, at an index: the gate of an even column and the odd one after it. -/
theorem acted_at (x : Vec Ideal S256x4096 .bf16) (w : Vec Ideal S4096x1024 .bf16) (b : Vec Ideal S1x1x1x1024 .f32) (r : Fin 256) (q : Fin 512) :
    acted x w b (ix2 r q) = Up.gate (column (k0_pay3 x w b) r (2 * q.val)) (column (k0_pay3 x w b) r (2 * q.val + 1)) := by
  rw [← evens_at x w b r q, ← odds_at x w b r q]
  unfold acted
  generalize k0_pay19 _ _ _ _ _ _ = X
  generalize k0_pay20 _ _ _ _ _ _ = Y
  pointwise [k0_pay1]
  rfl

variable (m : (ℓ : Loc nD τ sig) → Buf (Elt Ideal) ℓ)

/-- A column of a step's product, from the arrays. -/
theorem column_entry (e : Fin 32) (r : Fin 57344) (j : ℕ) (n : ℕ) (hn : n < 1024) (c : Fin 4096) (hc : c.val = j * 1024 + n) :
    column (k0_pay3 (rows m (r.val / 256)) (weights (wblk m e.val j)) (bblk m e.val j)) ⟨r.val % 256, Nat.mod_lt _ (by decide)⟩ n
      = Up.entry (m (((0 : Dev nD) : Thread nD τ).loc main_arg5)) (m (((0 : Dev nD) : Thread nD τ).loc main_arg6))
        (m (((0 : Dev nD) : Thread nD τ).loc main_arg7)) e r c := by
  have hr := r.isLt
  have hcl := c.isLt
  unfold column
  generalize hw : weights (wblk m e.val j) = W
  pointwise [k0_pay3]
  subst hw
  unfold Up.entry
  refine congrArg₂ (fun a c : EReal => a + c) (Finset.sum_congr rfl fun k _ => ?_) ?_
  · rw [weights_at]
    refine congrArg₂ (fun a c : EReal => a * c) ?_ ?_
    · exact congrArg (fun a => (m (((0 : Dev nD) : Thread nD τ).loc main_arg5) : Vec Ideal S57344x4096 .bf16) (ix2 a k))
        (Fin.ext (show (r.val / 256 * 256 + r.val % 256) % 57344 = r.val by omega))
    · exact congrArg₂ (fun a c => (m (((0 : Dev nD) : Thread nD τ).loc main_arg6) : Vec Ideal S2x32x4096x4096 .f32) (ix4 0 a k c))
        (Fin.ext (Nat.mod_eq_of_lt e.isLt)) (Fin.ext (show (j * 1024 + n % 1024) % 4096 = c.val by omega))
  · exact congrArg₂ (fun a c => (m (((0 : Dev nD) : Thread nD τ).loc main_arg7) : Vec Ideal S2x32x1x4096 .f32) (ix4 0 a 0 c))
      (Fin.ext (Nat.mod_eq_of_lt e.isLt)) (Fin.ext (show (j * 1024 + n % 1024) % 4096 = c.val by omega))

/-- A tile's entry, from the arrays. -/
theorem tile_entry (e : Fin 32) (r : Fin 57344) (n : Fin 2048) :
    tile m (r.val / 256) e.val (n.val / 512) (ix2 ⟨r.val % 256, Nat.mod_lt _ (by decide)⟩ ⟨n.val % 512, Nat.mod_lt _ (by decide)⟩)
      = Up.gated (m (((0 : Dev nD) : Thread nD τ).loc main_arg5)) (m (((0 : Dev nD) : Thread nD τ).loc main_arg6))
        (m (((0 : Dev nD) : Thread nD τ).loc main_arg7)) e r n := by
  have hn := n.isLt
  unfold tile
  refine (acted_at _ _ _ _ _).trans (congrArg₂ Up.gate ?_ ?_)
  · exact column_entry m e r _ _ (show 2 * (n.val % 512) < 1024 by omega) _ (show 2 * n.val = n.val / 512 * 1024 + 2 * (n.val % 512) by omega)
  · exact column_entry m e r _ _ (show 2 * (n.val % 512) + 1 < 1024 by omega) _
      (show 2 * n.val + 1 = n.val / 512 * 1024 + (2 * (n.val % 512) + 1) by omega)

end Cert.Kernel6Ideal.Step

namespace Cert.Reference6Ideal.Meaning

open Cert.Reference6Ideal Cert.Reference6Ideal.Gen Cert.Reference6Ideal.Read

variable (se sj sb sf sv : IVec S896 32)

theorem first_word {k : ℕ} (hk : k < 2 ^ 31) : IntOp.cmpi .slt (BitVec.ofNat 32 k) 0#32 = 0#1 := by
  refine Schedule.zero_of_ne _ fun h => ?_
  rw [WordCmp.cmpi_slt_eq, WordCmp.ofBool_decide_eq_one_iff, WordCmp.toInt_ofNat_of_lt hk] at h
  exact absurd h (by simp)

/-- The expert of a block that step `s` works on. -/
theorem expert_of_block (h : Schedule.Good se sj sb sf sv) (s : Fin 896) (b : Fin 224) (hb : (sb (ix1 s)).toNat = b.val) :
    val_main_v8 (F := Ideal) se sb (ix1 b) = se (ix1 s) := by
  have ew : ∀ r : Fin 896, val_main_v7 (F := Ideal) se sb (ix2 b r)
      = Scalar.select (IntOp.cmpi .eq (sb (ix1 r)) (BitVec.ofNat 32 b.val)) (se (ix1 r)) 0#32 := fun r => by
    unfold val_main_v7 val_main_v5 val_main_v4 val_main_v3 val_main_v2 val_main_v1 val_main_v0 val_main_call0_v1 val_main_v6
      val_main_call0_v2 val_main_call0_v0 val_main_c
    pointwise []
    rfl
  unfold val_main_v8
  have e : Host.reduce IntOp.maxsi (val_main_v7 (F := Ideal) se sb) (val_main_c_0 (F := Ideal)) reducesTo_S224x896_S224_d1 h_S_ (ix1 b) = _ :=
    Host.reduce_eq_fold_single _ (val_main_v7 (F := Ideal) se sb) _ _ (by decide) _ _
  refine e.trans ((Finset.fold_congr (g := fun r : Fin 896 => val_main_v7 (F := Ideal) se sb (ix2 b r)) fun r _ => ?_).trans
    (Pages.fold_max _ (se (ix1 s)) (h.expert _) (fun r => ?_) s ?_))
  · refine congrArg (val_main_v7 (F := Ideal) se sb) (funext fun a => Fin.ext ?_)
    match a with | ⟨0, _⟩ => rfl | ⟨1, _⟩ => rfl
  · rw [ew]
    by_cases hr : IntOp.cmpi .eq (sb (ix1 r)) (BitVec.ofNat 32 b.val) = 1#1
    · left
      rw [hr]
      have hr := (Schedule.cmp_eq _ _).mp hr
      exact h.owner _ _ (by rw [hr]; exact BitVec.eq_of_toNat_eq (by rw [hb, BitVec.toNat_ofNat]; have := b.isLt; omega))
    · right
      rw [Schedule.zero_of_ne _ hr]
      rfl
  · rw [ew, (Schedule.cmp_eq _ _).mpr (BitVec.eq_of_toNat_eq (by rw [hb, BitVec.toNat_ofNat]; have := b.isLt; omega))]
    rfl

/-- The page number the reference takes a block's weights by: the block's expert, which is not below zero. -/
theorem page (h : Schedule.Good se sj sb sf sv) (s : Fin 896) (b : Fin 224) (hb : (sb (ix1 s)).toNat = b.val) :
    val_main_v18 (F := Ideal) se sb (ix2 b 0) = se (ix1 s) ∧ val_main_v28 (F := Ideal) se sb (ix2 b 0) = se (ix1 s) := by
  have e := expert_of_block se sj sb sf sv h s b hb
  have hs : IntOp.cmpi .slt (se (ix1 s)) 0#32 = 0#1 := by
    have h := first_word (k := (se (ix1 s)).toNat) (by have := h.expert (ix1 s); omega)
    rwa [BitVec.ofNat_toNat, BitVec.setWidth_eq] at h
  have i0 : idx_main_v18 (ix2 b 0) = ix1 b := funext fun a => by match a with | ⟨0, _⟩ => rfl
  have i1 : idx_main_v28 (ix2 b 0) = ix1 b := funext fun a => by match a with | ⟨0, _⟩ => rfl
  constructor
  · rw [val_main_v18_apply, i0, val_main_v17_apply, val_main_v14_apply, val_main_v13_apply, val_main_c_1_apply, e, hs]
    rfl
  · rw [val_main_v28_apply, i1, val_main_v27_apply, val_main_v24_apply, val_main_v23_apply, val_main_c_3_apply, e, hs]
    rfl

/-- The reference's product plus bias, at a row of a block that step `s` works on. -/
theorem product (h : Schedule.Good se sj sb sf sv) (x : FVec Ideal S57344x4096 .bf16) (w : FVec Ideal S2x32x4096x4096 .f32)
    (b : FVec Ideal S2x32x1x4096 .f32) (s : Fin 896) (r : Fin 57344) (n : Fin 4096) (hb : (sb (ix1 s)).toNat = r.val / 256) :
    val_main_v31 (F := Ideal) se sb x w b (ix3 ⟨r.val / 256, by have := r.isLt; omega⟩ ⟨r.val % 256, by omega⟩ n)
      = Up.entry x w b ⟨(se (ix1 s)).toNat, h.expert _⟩ r n := by
  have hr := r.isLt
  have hn := n.isLt
  have he := h.expert (ix1 s)
  obtain ⟨p0, p1⟩ := page se sj sb sf sv h s ⟨r.val / 256, by omega⟩ hb
  have hw : (se (ix1 s)).toInt.toNat = (se (ix1 s)).toNat := by
    rw [WordCmp.toInt_eq_toNat_of_lt_half (by omega)]; rfl
  rw [val_main_v31_apply, val_main_v20_apply, val_main_v30_apply]
  refine congrArg₂ (fun a c : EReal => a + c) (Finset.sum_congr rfl fun k _ => congrArg₂ (fun a c : EReal => a * c) ?_ ?_) ?_
  · rw [val_main_v10_apply, val_main_v9_apply]
    have hk := k.isLt
    refine congrArg x (funext fun a => Fin.ext ?_)
    match a with
    | ⟨0, _⟩ => show ((r.val / 256 * 256 + r.val % 256) * 4096 + k.val) / 4096 = r.val; omega
    | ⟨1, _⟩ => show ((r.val / 256 * 256 + r.val % 256) * 4096 + k.val) % 4096 = k.val; omega
  · have hk := k.isLt
    rw [show ridx_main_v20 (ix3 ⟨r.val / 256, by omega⟩ ⟨r.val % 256, by omega⟩ n) k = ix3 ⟨r.val / 256, by omega⟩ k n from
      funext fun a => by match a with | ⟨0, _⟩ => rfl | ⟨1, _⟩ => rfl | ⟨2, _⟩ => rfl]
    unfold val_main_v19
    refine (Pages.take _ _ _ _ k n ⟨(se (ix1 s)).toNat, he⟩ (by rw [p0]; exact hw)).trans ?_
    rw [val_main_v12_apply, val_main_v11_apply]
    refine congrArg w (funext fun a => Fin.ext ?_)
    match a with
    | ⟨0, _⟩ => rfl
    | ⟨1, _⟩ => show (((se (ix1 s)).toNat * 4096 + k.val) * 4096 + n.val) / 16777216 % 32 = (se (ix1 s)).toNat; omega
    | ⟨2, _⟩ => show (((se (ix1 s)).toNat * 4096 + k.val) * 4096 + n.val) / 4096 % 4096 = k.val; omega
    | ⟨3, _⟩ => show (((se (ix1 s)).toNat * 4096 + k.val) * 4096 + n.val) % 4096 = n.val; omega
  · rw [show idx_main_v30 (ix3 ⟨r.val / 256, by omega⟩ ⟨r.val % 256, by omega⟩ n) = ix3 ⟨r.val / 256, by omega⟩ 0 n from
      funext fun a => by match a with | ⟨0, _⟩ => rfl | ⟨1, _⟩ => rfl | ⟨2, _⟩ => rfl]
    unfold val_main_v29
    refine (Pages.take _ _ _ _ 0 n ⟨(se (ix1 s)).toNat, he⟩ (by rw [p1]; exact hw)).trans ?_
    rw [val_main_v22_apply, val_main_v21_apply]
    refine congrArg b (funext fun a => Fin.ext ?_)
    match a with
    | ⟨0, _⟩ => rfl
    | ⟨1, _⟩ => show (((se (ix1 s)).toNat * 1 + 0) * 4096 + n.val) / 4096 % 32 = (se (ix1 s)).toNat; omega
    | ⟨2, _⟩ => rfl
    | ⟨3, _⟩ => show (((se (ix1 s)).toNat * 1 + 0) * 4096 + n.val) % 4096 = n.val; omega

variable (x : FVec Ideal S57344x4096 .bf16) (w : FVec Ideal S2x32x4096x4096 .f32) (b : FVec Ideal S2x32x1x4096 .f32)

/-- The reference's even columns. -/
theorem even_at (i : Fin 224) (r : Fin 256) (n : Fin 2048) : val_main_v32 (F := Ideal) se sb x w b (ix3 i r n)
    = val_main_v31 (F := Ideal) se sb x w b (ix3 i r ⟨2 * n.val, by have := n.isLt; omega⟩) := by
  unfold val_main_v32
  generalize val_main_v31 (F := Ideal) se sb x w b = X
  pointwise []

/-- The reference's odd columns. -/
theorem odd_at (i : Fin 224) (r : Fin 256) (n : Fin 2048) : val_main_v35 (F := Ideal) se sb x w b (ix3 i r n)
    = val_main_v31 (F := Ideal) se sb x w b (ix3 i r ⟨2 * n.val + 1, by have := n.isLt; omega⟩) := by
  unfold val_main_v35
  generalize val_main_v31 (F := Ideal) se sb x w b = X
  pointwise []
  exact congrArg (fun a => X (ix3 i r a)) (Fin.ext (show 1 + 2 * n.val = 2 * n.val + 1 by omega))

/-- The reference's gate. -/
theorem gate_at (i : S224x256x2048.Idx) : val_main_v48 (F := Ideal) se sb x w b i
    = Up.gate (val_main_v32 (F := Ideal) se sb x w b i) (val_main_v35 (F := Ideal) se sb x w b i) := by
  unfold val_main_v48 val_main_v47 val_main_v46 val_main_v45 val_main_v44 val_main_v43 val_main_v42 val_main_v41 val_main_v40 val_main_v39
    val_main_v38 val_main_v37 val_main_v36 val_main_v34 val_main_v33 val_main_call1_v4 val_main_call1_v3 val_main_call1_v2 val_main_call1_v1
    val_main_call1_v0 val_main_cst val_main_cst_5 val_main_cst_6 val_main_cst_7 val_main_cst_8 val_main_cst_9 val_main_cst_10
  generalize val_main_v32 (F := Ideal) se sb x w b = X
  generalize val_main_v35 (F := Ideal) se sb x w b = Y
  pointwise []
  rfl

/-- The reference at an index of a block that step `s` works on. -/
theorem result (h : Schedule.Good se sj sb sf sv) (s : Fin 896) (r : Fin 57344) (n : Fin 2048) (hb : (sb (ix1 s)).toNat = r.val / 256) :
    val_main_v50 (F := Ideal) se sb x w b (ix2 r n) = Up.gated x w b ⟨(se (ix1 s)).toNat, h.expert _⟩ r n := by
  have hr := r.isLt
  have hn := n.isLt
  have i : idx_main_v49 (ix2 r n) = ix3 ⟨r.val / 256, by omega⟩ ⟨r.val % 256, by omega⟩ n := funext fun a => Fin.ext (by
    match a with
    | ⟨0, _⟩ => show (r.val * 2048 + n.val) / 524288 = r.val / 256; omega
    | ⟨1, _⟩ => show (r.val * 2048 + n.val) / 2048 % 256 = r.val % 256; omega
    | ⟨2, _⟩ => show (r.val * 2048 + n.val) % 2048 = n.val; omega)
  have e : val_main_v50 (F := Ideal) se sb x w b (ix2 r n) = val_main_v49 (F := Ideal) se sb x w b (ix2 r n) := rfl
  rw [e, val_main_v49_apply, i, gate_at, even_at, odd_at]
  exact congrArg₂ Up.gate (product se sj sb sf sv h x w b s r _ hb) (product se sj sb sf sv h x w b s r _ hb)

end Cert.Reference6Ideal.Meaning

namespace Cert.Proof.Up

open Cert.Kernel6Ideal.Step

theorem reference_frame : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

theorem reference_frame_schedule6 : Cert.quiescent_Reference6Ideal_pre_schedule6 := fun m ρ _ =>
  reference_frame m ρ trivial

theorem algebraic : Cert.algebraic_Kernel6Ideal_Reference6Ideal_on_visited6 := fun m ρ m' ρ' hpre hag =>
  have h := sched_ideal m hpre
  ⟨fun c => Cert.Reference6Ideal.Read.val_main_v50 (F := Ideal) (se m) (sb m) (m ((c.tc : Thread Cert.Kernel6Ideal.nD Cert.Kernel6Ideal.τ).loc Cert.Kernel6Ideal.main_arg5))
      (m ((c.tc : Thread Cert.Kernel6Ideal.nD Cert.Kernel6Ideal.τ).loc Cert.Kernel6Ideal.main_arg6))
      (m ((c.tc : Thread Cert.Kernel6Ideal.nD Cert.Kernel6Ideal.τ).loc Cert.Kernel6Ideal.main_arg7)),
    (θ_run Cert.Kernel6Ideal.defs _ _).mono (fun r hr c => by
      obtain rfl : c = 0 := Subsingleton.elim _ _
      refine ⟨fun i hi => ?_, post_args (ok_of m h) r hr.1 0⟩
      obtain ⟨i0, i1, rfl⟩ : ∃ (i0 : Fin 57344) (i1 : Fin 2048), i = ix2 i0 i1 := ⟨i 0, i 1, eq_ix2 i⟩
      obtain ⟨s, h0, h1⟩ := Schedule.visited6 _ _ _ _ _ _ _ _ i0 i1 hi
      refine (congrFun ((hr.1 0).1 3) (ix2 i0 i1)).trans ((out_at h (ok_of m h) 0 s (ix2 i0 i1) h0 h1).trans ?_)
      exact (tile_entry m ⟨(se m (ix1 s)).toNat, h.expert _⟩ i0 i1).trans
        (Cert.Reference6Ideal.Meaning.result _ _ _ _ _ _ _ _ h s i0 i1 h0).symm) (run_main m ρ h (ok_of m h)),
    (θ_run Cert.Reference6Ideal.defs _ _).mono (fun r hr c => by
      obtain rfl : c = 0 := Subsingleton.elim _ _
      obtain ⟨a0, a1, a2, a3, a4, a5, a6, a7⟩ := hag 0
      refine ⟨fun i _ => ?_, (hr 0).2⟩
      refine (congrFun ((hr 0).1.trans (Cert.Reference6Ideal.Read.val_main_v50_eq m' 0)) i).trans ?_
      rw [a0, a2, a5, a6, a7]
      rfl) (Cert.Reference6Ideal.Value.run (F := Ideal) m' ρ')⟩

end Cert.Proof.Up

end
-- ==== Proof.Step7.lean ====
module

public import proofs.«01_k».proof.Proof.Gen.Kernel7Ideal.Loops
public import proofs.«01_k».proof.Proof.Gen.Kernel7Ideal.Launch
public import proofs.«01_k».proof.Proof.Gen.Kernel7Ideal.Skeleton
public import Idealize.ShloMosaic.Lib.Pipeline.FrameBody
public import Idealize.ShloMosaic.Lib.Pipeline.ValueKit
public import Idealize.ShloMosaic.Lib.Ring
public import Idealize.ShloMosaic.Lib.Tactic
public import Idealize.ShloMosaic.Lib.WordCmp
public import Idealize.ShloMosaic.Lib.WritesUnit
public import Idealize.ShloMosaic.Lib.VecWindow

@[expose] public section

set_option maxRecDepth 16384

noncomputable section

/-! ## One step of the experts' second matmul, on whichever buffers it is given -/

namespace Cert.Kernel7Ideal.Step

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A table, as the step reads it. -/

abbrev T0 : Memref sig .tc .smem S896 .i32 := Memref.whole main_arg0
abbrev T1 : Memref sig .tc .smem S896 .i32 := Memref.whole main_arg1
abbrev T2 : Memref sig .tc .smem S896 .i32 := Memref.whole main_arg2
abbrev T3 : Memref sig .tc .smem S896 .i32 := Memref.whole main_arg3
abbrev T4 : Memref sig .tc .smem S896 .i32 := Memref.whole main_arg4
abbrev hT (a : Ref sig .tc) : (Memref.whole a).IsWhole := Memref.isWhole_whole _

/-- A table's buffer held at half the share, read only. -/
abbrev held (c : Dev nD) (M : Memref sig .tc .smem S896 .i32) (f : Buf (Elt F) (M.view.loc (c : Thread nD τ))) : sProp 𝕄 :=
  M.view.loc (c : Thread nD τ) ↦{fullShare.right} f

/-- The weights the scratch holds once the loop has cast a block of them, 256 rows a trip. -/
def weights (x : Vec F S1x1x2048x1024 .f32) : Vec F S2048x1024 .bf16 := fun y =>
  k0_pay1 (fun z => x (ix4 0 0 ⟨(y 0).val / 256 * 256 + (z 2).val, by
    have h : (y 0).val < 2048 := (y 0).isLt; have h' : (z 2).val < 256 := (z 2).isLt; omega⟩ (z 3)))
    (ix2 ⟨(y 0).val % 256, Nat.mod_lt _ (by decide)⟩ (y 1))

section loop

variable (𝒱 : Variants) (c : Dev nD) (bd : Option 𝒱.V) (i : grid0.Coords) (arg1 : Memref sig .tc .smem S896 .i32) (harg1 : arg1.IsWhole) (arg2 : Memref sig .tc .smem S896 .i32) (harg2 : arg2.IsWhole) (arg3 : Memref sig .tc .smem S896 .i32) (harg3 : arg3.IsWhole) (arg4 : Memref sig .tc .smem S896 .i32) (harg4 : arg4.IsWhole) (arg5 : Memref sig .tc .smem S896 .i32) (harg5 : arg5.IsWhole) (arg6 : Memref sig .tc .vmem S256x2048 .bf16) (harg6 : arg6.IsWhole) (arg7 : Memref sig .tc .vmem S1x1x2048x1024 .f32) (harg7 : arg7.IsWhole) (arg8 : Memref sig .tc .vmem S1x1x1x1024 .f32) (harg8 : arg8.IsWhole) (arg9 : Memref sig .tc .vmem S256x1024 .f32) (harg9 : arg9.IsWhole) (arg10 : Memref sig .tc .vmem S2048x1024 .bf16) (harg10 : arg10.IsWhole)
  (X : BufTy.Contents (Elt F) arg7.view.ty)

theorem trip_eq (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 X k
      = [⟨Rect.unit (s := S2048x1024) (k0_off4 k) S256x1024.size (k0_off4_inb k),
          k0_pay1 (View.readAt (Elt F) arg7.view (Rect.unit (s := S1x1x2048x1024) (k0_off3 k) S1x1x256x1024.size (k0_off3_inb k)).toLoadRect X)⟩] := by
  unfold tripL_k0_t1
  unfold trip_k0_t1
  rfl

theorem offs : ∀ k : Fin k0_t1_loop.trips, k0_off4 k = ![k.val * 256, 0] ∧ k0_off3 k = ![0, 0, k.val * 256, 0] := by
  decide +kernel

end loop

/-- What the body reads of a table at its step. -/
theorem word_eq (c : Dev nD) (i : grid0.Coords) (M : Memref sig .tc .smem S896 .i32)
  (f : Buf (Elt F) (M.view.loc (c : Thread nD τ))) (h) (x) :
    View.readAt (Elt F) M.view (Rect.unit (s := S896) (k0_off1 i) S1.size h).toLoadRect f x = M.view.read (Elt F) f (ix1 (i 0)) := by
  have e : k0_off1 i = ![(i 0).val] := by
    revert i; decide +kernel
  rw [View.readAt_apply]
  refine congrArg (View.read (Elt F) M.view f) (funext fun a => Fin.ext ?_)
  obtain rfl : a = 0 := Subsingleton.elim _ _
  have hx : (x 0).val < 1 := (x 0).isLt
  show k0_off1 i 0 + 1 * (x 0).val = (i 0).val
  have e0 : k0_off1 i 0 = (i 0).val := congrFun e 0
  omega

theorem weights_read (𝒱 : Variants) (c : Dev nD) (bd : Option 𝒱.V) (i : grid0.Coords) (arg1 : Memref sig .tc .smem S896 .i32) (harg1 : arg1.IsWhole) (arg2 : Memref sig .tc .smem S896 .i32) (harg2 : arg2.IsWhole) (arg3 : Memref sig .tc .smem S896 .i32) (harg3 : arg3.IsWhole) (arg4 : Memref sig .tc .smem S896 .i32) (harg4 : arg4.IsWhole) (arg5 : Memref sig .tc .smem S896 .i32) (harg5 : arg5.IsWhole) (arg6 : Memref sig .tc .vmem S256x2048 .bf16) (harg6 : arg6.IsWhole) (arg7 : Memref sig .tc .vmem S1x1x2048x1024 .f32) (harg7 : arg7.IsWhole) (arg8 : Memref sig .tc .vmem S1x1x1x1024 .f32) (harg8 : arg8.IsWhole) (arg9 : Memref sig .tc .vmem S256x1024 .f32) (harg9 : arg9.IsWhole) (arg10 : Memref sig .tc .vmem S2048x1024 .bf16) (harg10 : arg10.IsWhole)
    (x : Vec F S1x1x2048x1024 .f32) (G : BufTy.Contents (Elt F) arg10.view.ty) :
    View.read (Elt F) arg10.view (arg10.view.writes (Elt F) G (pb_k0_t1 (F := F) 𝒱 c bd i arg1 harg1 arg2 harg2 arg3 harg3 arg4 harg4 arg5 harg5 arg6 harg6 arg7 harg7 arg8 harg8 arg9 harg9 arg10 harg10 (harg7.unread x) k0_t1_loop.trips)) = weights x := by
  have H : ∀ n, n ≤ k0_t1_loop.trips → ∀ y : S2048x1024.Idx, (y 0).val < n * 256 →
      View.read (Elt F) arg10.view (arg10.view.writes (Elt F) G (pb_k0_t1 (F := F) 𝒱 c bd i arg1 harg1 arg2 harg2 arg3 harg3 arg4 harg4 arg5 harg5 arg6 harg6 arg7 harg7 arg8 harg8 arg9 harg9 arg10 harg10 (harg7.unread x) n)) y = weights x y := by
    intro n
    induction n with
    | zero => intro _ y hy; omega
    | succ n ih =>
      intro hn y hy
      rw [pb_k0_t1_succ (k := ⟨n, hn⟩), trip_eq, List.singleton_append]
      by_cases hlt : (y 0).val < n * 256
      · rw [View.read_writes_cons_rows_of_not_mem (hoff := (offs ⟨n, hn⟩).1) (hW := rfl) (h := Or.inl hlt)]
        exact ih (Nat.le_of_succ_le hn) y hlt
      · have hq : (y 0).val / 256 = n := by omega
        refine (View.read_writes_cons_rows_of_mem (d := S2048x1024.size) _ _ (o := n * 256) (k0_off4_inb ⟨n, hn⟩) _ _ y
          (ix2 ⟨(y 0).val % 256, Nat.mod_lt _ (by decide)⟩ (y 1)) (offs ⟨n, hn⟩).1
          (show (y 0).val = n * 256 + (y 0).val % 256 by omega) rfl).trans ?_
        refine congrFun (congrArg k0_pay1 (funext fun z => ?_)) _
        rw [View.readAt_apply, harg7.read_unread]
        refine congrArg x (funext fun a => Fin.ext ?_)
        have h3 := (offs ⟨n, hn⟩).2
        have z0 : (z 0).val < 1 := (z 0).isLt
        have z1 : (z 1).val < 1 := (z 1).isLt
        show k0_off3 ⟨n, hn⟩ a + 1 * (z a).val = _
        rw [h3]
        match a with
        | 0 => show 0 + 1 * (z 0).val = 0; omega
        | 1 => show 0 + 1 * (z 1).val = 0; omega
        | 2 => show n * 256 + 1 * (z 2).val = (y 0).val / 256 * 256 + (z 2).val; rw [hq]; omega
        | 3 => show 0 + 1 * (z 3).val = (z 3).val; omega
  exact funext fun y => H _ le_rfl y (y 0).isLt

set_option maxHeartbeats 1000000 in
theorem run_skip (c : Dev nD) (i : grid0.Coords) (arg6 : Memref sig .tc .vmem S256x2048 .bf16) (harg6 : arg6.IsWhole) (arg7 : Memref sig .tc .vmem S1x1x2048x1024 .f32) (harg7 : arg7.IsWhole) (arg8 : Memref sig .tc .vmem S1x1x1x1024 .f32) (harg8 : arg8.IsWhole) (arg9 : Memref sig .tc .vmem S256x1024 .f32) (harg9 : arg9.IsWhole) (arg10 : Memref sig .tc .vmem S2048x1024 .bf16) (harg10 : arg10.IsWhole)
    (t4 : Buf (Elt F) (T4.view.loc (c : Thread nD τ)))
    (hv : ¬ k0_cond1 (View.readAt (Elt F) T4.view (Rect.unit (s := S896) (k0_off1 i) S1.size (k0_off1_inb i)).toLoadRect t4 (Shape.Idx.first (numel1_S1.symm ▸ Nat.one_pos))) = 1#1)
    (E : Set ℕ) (K : PUnit → sProp 𝕄) :
    iprop(held c T4 t4 ∗ (held c T4 t4 -∗ K ⟨⟩))
      ⊢ wp frame (wpE (defs₀ (F := F)) Variants.none c none) E (cc0_moe_w2 i T0 (hT _) T1 (hT _) T2 (hT _) T3 (hT _) T4 (hT _) arg6 harg6 arg7 harg7 arg8 harg8 arg9 harg9 arg10 harg10) K := by
  rw [cc0_moe_w2_eq_skeleton]; unfold cc0_moe_w2_skel
  iintro ⟨H4, Hk⟩
  sl_exec! (disch := first | (guard_target = ¬ (k0_cond1 _ = _); exact hv))
  sl_step
  iapply Hk
  iexact H4

set_option maxHeartbeats 1000000 in
theorem run_keep (c : Dev nD) (i : grid0.Coords) (arg6 : Memref sig .tc .vmem S256x2048 .bf16) (harg6 : arg6.IsWhole) (arg7 : Memref sig .tc .vmem S1x1x2048x1024 .f32) (harg7 : arg7.IsWhole) (arg8 : Memref sig .tc .vmem S1x1x1x1024 .f32) (harg8 : arg8.IsWhole) (arg9 : Memref sig .tc .vmem S256x1024 .f32) (harg9 : arg9.IsWhole) (arg10 : Memref sig .tc .vmem S2048x1024 .bf16) (harg10 : arg10.IsWhole)
    (t3 : Buf (Elt F) (T3.view.loc (c : Thread nD τ))) (t4 : Buf (Elt F) (T4.view.loc (c : Thread nD τ)))
    (x0 : Vec F S256x2048 .bf16) (w : Vec F S2048x1024 .bf16) (x2 : Vec F S1x1x1x1024 .f32)
    (hv : k0_cond1 (View.readAt (Elt F) T4.view (Rect.unit (s := S896) (k0_off1 i) S1.size (k0_off1_inb i)).toLoadRect t4 (Shape.Idx.first (numel1_S1.symm ▸ Nat.one_pos))) = 1#1)
    (hf : ¬ (Scalar.cmpi .ne (Scalar.extui (Scalar.cmpi .eq (View.readAt (Elt F) T3.view (Rect.unit (s := S896) (k0_off2 i) S1.size (k0_off2_inb i)).toLoadRect t3 (Shape.Idx.first (numel1_S1.symm ▸ Nat.one_pos))) 1#32) : BitVec 32) 0#32) = 1#1)
    (E : Set ℕ) (K : PUnit → sProp 𝕄) :
    iprop(held c T3 t3 ∗ held c T4 t4 ∗ owns (c : Thread nD τ) arg6 fullShare x0 ∗ owns (c : Thread nD τ) arg8 fullShare x2 ∗ (∃ d, owns (c : Thread nD τ) arg9 fullShare d) ∗ owns (c : Thread nD τ) arg10 fullShare w
        ∗ (iprop(held c T3 t3 ∗ held c T4 t4 ∗ owns (c : Thread nD τ) arg6 fullShare x0 ∗ owns (c : Thread nD τ) arg8 fullShare x2 ∗ owns (c : Thread nD τ) arg9 fullShare (k0_pay2 x0 w x2) ∗ owns (c : Thread nD τ) arg10 fullShare w) -∗ K ⟨⟩))
      ⊢ wp frame (wpE (defs₀ (F := F)) Variants.none c none) E (cc0_moe_w2 i T0 (hT _) T1 (hT _) T2 (hT _) T3 (hT _) T4 (hT _) arg6 harg6 arg7 harg7 arg8 harg8 arg9 harg9 arg10 harg10) K := by
  rw [cc0_moe_w2_eq_skeleton]; unfold cc0_moe_w2_skel
  unfold owns
  iintro ⟨H3, H4, ⟨%f0, %hf0, HX⟩, ⟨%f2, %hf2, HB⟩, ⟨%d9, %f9, -, HO⟩, ⟨%f10, %hf10, HW⟩, Hk⟩
  obtain rfl := harg6.eq_unread hf0; obtain rfl := harg8.eq_unread hf2; obtain rfl := harg10.eq_unread hf10
  sl_exec! (disch := first | (guard_target = k0_cond1 _ = _; exact hv) | (guard_target = ¬ (Scalar.cmpi _ _ _ = _); exact hf))
  sl_step
  iapply Hk
  isplitl [H3]; · iexact H3
  isplitl [H4]; · iexact H4
  isplitl [HX]
  · iexists _; isplitr; · ipureintro; exact hf0
    iexact HX
  isplitl [HB]
  · iexists _; isplitr; · ipureintro; exact hf2
    iexact HB
  isplitl [HO]
  · iexists _; isplitr; swap; · iexact HO
    ipureintro
    unfold run_keep.sl.HO_1
    rw [View.read_writes_full, View.readAt_full, View.readAt_full, View.readAt_full, hf0, hf2, hf10]
  · iexists _; isplitr; · ipureintro; exact hf10
    iexact HW

set_option maxHeartbeats 1000000 in
theorem run_load (c : Dev nD) (i : grid0.Coords) (arg6 : Memref sig .tc .vmem S256x2048 .bf16) (harg6 : arg6.IsWhole) (arg7 : Memref sig .tc .vmem S1x1x2048x1024 .f32) (harg7 : arg7.IsWhole) (arg8 : Memref sig .tc .vmem S1x1x1x1024 .f32) (harg8 : arg8.IsWhole) (arg9 : Memref sig .tc .vmem S256x1024 .f32) (harg9 : arg9.IsWhole) (arg10 : Memref sig .tc .vmem S2048x1024 .bf16) (harg10 : arg10.IsWhole)
    (t3 : Buf (Elt F) (T3.view.loc (c : Thread nD τ))) (t4 : Buf (Elt F) (T4.view.loc (c : Thread nD τ)))
    (x0 : Vec F S256x2048 .bf16) (x1 : Vec F S1x1x2048x1024 .f32) (x2 : Vec F S1x1x1x1024 .f32)
    (hv : k0_cond1 (View.readAt (Elt F) T4.view (Rect.unit (s := S896) (k0_off1 i) S1.size (k0_off1_inb i)).toLoadRect t4 (Shape.Idx.first (numel1_S1.symm ▸ Nat.one_pos))) = 1#1)
    (hf : (Scalar.cmpi .ne (Scalar.extui (Scalar.cmpi .eq (View.readAt (Elt F) T3.view (Rect.unit (s := S896) (k0_off2 i) S1.size (k0_off2_inb i)).toLoadRect t3 (Shape.Idx.first (numel1_S1.symm ▸ Nat.one_pos))) 1#32) : BitVec 32) 0#32) = 1#1)
    (E : Set ℕ) (K : PUnit → sProp 𝕄) :
    iprop(held c T3 t3 ∗ held c T4 t4 ∗ owns (c : Thread nD τ) arg6 fullShare x0 ∗ owns (c : Thread nD τ) arg7 fullShare x1 ∗ owns (c : Thread nD τ) arg8 fullShare x2 ∗ (∃ d, owns (c : Thread nD τ) arg9 fullShare d) ∗ (∃ d, owns (c : Thread nD τ) arg10 fullShare d)
        ∗ (iprop(held c T3 t3 ∗ held c T4 t4 ∗ owns (c : Thread nD τ) arg6 fullShare x0 ∗ owns (c : Thread nD τ) arg7 fullShare x1 ∗ owns (c : Thread nD τ) arg8 fullShare x2 ∗ owns (c : Thread nD τ) arg9 fullShare (k0_pay2 x0 (weights x1) x2) ∗ owns (c : Thread nD τ) arg10 fullShare (weights x1)) -∗ K ⟨⟩))
      ⊢ wp frame (wpE (defs₀ (F := F)) Variants.none c none) E (cc0_moe_w2 i T0 (hT _) T1 (hT _) T2 (hT _) T3 (hT _) T4 (hT _) arg6 harg6 arg7 harg7 arg8 harg8 arg9 harg9 arg10 harg10) K := by
  rw [cc0_moe_w2_eq_skeleton]; unfold cc0_moe_w2_skel
  unfold owns
  iintro ⟨H3, H4, ⟨%f0, %hf0, HX⟩, ⟨%f1, %hf1, HV⟩, ⟨%f2, %hf2, HB⟩, ⟨%d9, %f9, -, HO⟩, ⟨%d10, %f10, -, HW⟩, Hk⟩
  obtain rfl := harg6.eq_unread hf0; obtain rfl := harg7.eq_unread hf1; obtain rfl := harg8.eq_unread hf2
  sl_exec! (disch := first | (guard_target = k0_cond1 _ = _; exact hv) | (guard_target = Scalar.cmpi _ _ _ = _; exact hf))
  sl_step
  iapply Hk
  isplitl [H3]; · iexact H3
  isplitl [H4]; · iexact H4
  isplitl [HX]
  · iexists _; isplitr; · ipureintro; exact hf0
    iexact HX
  isplitl [HV]
  · iexists _; isplitr; · ipureintro; exact hf1
    iexact HV
  isplitl [HB]
  · iexists _; isplitr; · ipureintro; exact hf2
    iexact HB
  have hw := fun G => weights_read (F := F) Variants.none c none i T0 (hT _) T1 (hT _) T2 (hT _) T3 (hT _) T4 (hT _) arg6 harg6 arg7 harg7 arg8 harg8 arg9 harg9 arg10 harg10 x1 G
  isplitl [HO]
  · iexists _; isplitr; swap; · iexact HO
    ipureintro
    unfold run_load.sl.HO_1
    rw [View.read_writes_full, View.readAt_full, View.readAt_full, hf0, hf2]
    unfold run_load.sl.v11
    try rw [View.readAt_full]
    exact congrArg (fun w => k0_pay2 x0 w x2) (hw _)
  · iexists _; isplitr; swap; · iexact HW
    ipureintro; exact hw _

end Cert.Kernel7Ideal.Step

end
-- ==== Proof.Blocks7.lean ====
module

public import proofs.«01_k».proof.Proof.Step7
public import proofs.«01_k».proof.Proof.Tables
public import Idealize.ShloMosaic.Lib.PairWhole

@[expose] public section

set_option maxRecDepth 16384

noncomputable section

/-! ## The blocks each step of the second matmul is given, as functions of the schedule's words -/

namespace Cert.Kernel7Ideal.Step

open Cert.Kernel7Ideal Cert.Kernel7Ideal.Gen
open Idealize.ShloMosaic Idealize.ShloMosaic.TcCoe Idealize.ShloMosaic.Tactic

variable {F : FTy → Type} [FloatOps F]
variable (m : (ℓ : Loc nD τ sig) → Buf (Elt F) ℓ)

/-- The tables as the program finds them. -/
def tbl : pre0.Contents (Elt F) := fun j => m (((0 : Dev nD) : Thread nD τ).loc (pre0.ref j))

abbrev sj : IVec S896 32 := tbl m 1
abbrev se : IVec S896 32 := tbl m 0
abbrev sb : IVec S896 32 := tbl m 2
abbrev sf : IVec S896 32 := tbl m 3
abbrev sv : IVec S896 32 := tbl m 4

/-- The tables are a schedule. -/
abbrev Sched : Prop := Schedule.Good (se m) (sj m) (sb m) (sf m) (sv m)

/-- The word of a table at step `n`. -/
def word (x : IVec S896 32) (n : ℕ) : BitVec 32 := x (ix1 (Fin.ofNat 896 n))

theorem word_eq_at (x : IVec S896 32) (n : ℕ) (h : n < 896) : word x n = x (ix1 ⟨n, h⟩) :=
  congrArg (fun a => x (ix1 a)) (Fin.ext (Nat.mod_eq_of_lt h))

theorem coords_val : ∀ t : Fin grid0.N, (grid0.coords t 0).val = t.val := by decide +kernel

theorem offs1 : ∀ i : grid0.Coords, k0_off1 i 0 = (i 0).val ∧ k0_off2 i 0 = (i 0).val := by decide +kernel

/-- What an index map reads of a table at step `t`. -/
theorem read_at (k : Fin 5) (x : IVec S896 32) (t : Fin grid0.N) (h : ∀ a, k0_off1 (grid0.coords t) a + S1.size a ≤ S896.size a)
    (j : (Rect.unit (s := S896) (k0_off1 (grid0.coords t)) S1.size h).shape.Idx) :
    x ((Rect.unit (s := S896) (k0_off1 (grid0.coords t)) S1.size h).emb j) = word x t.val := by
  refine congrArg x (funext fun a => Fin.ext ?_)
  obtain rfl : a = 0 := Subsingleton.elim _ _
  have hx : (j 0).val < 1 := (j 0).isLt
  have e0 := (offs1 (grid0.coords t)).1
  have e1 := coords_val t
  have ht : t.val < 896 := t.isLt
  show k0_off1 (grid0.coords t) 0 + 1 * (j 0).val = t.val % 896
  omega

theorem map0 (t : Fin grid0.N) : cc0_transform_0 (F := F) k0_off1_inb numel1_S1 (tbl m) (grid0.coords t)
    = ![(word (sb m) t.val).toNat, 0] := by
  rw [← read_at 2 (sb m) t (k0_off1_inb _) (Shape.Idx.first (numel1_S1.symm ▸ Nat.one_pos))]; rfl

theorem map1 (t : Fin grid0.N) : cc0_transform_1 (F := F) k0_off1_inb numel1_S1 (tbl m) (grid0.coords t)
    = ![0, (word (se m) t.val).toNat, 0, (word (sj m) t.val).toNat] := by
  rw [← read_at 0 (se m) t (k0_off1_inb _) (Shape.Idx.first (numel1_S1.symm ▸ Nat.one_pos)),
    ← read_at 1 (sj m) t (k0_off1_inb _) (Shape.Idx.first (numel1_S1.symm ▸ Nat.one_pos))]; rfl

theorem map2 (t : Fin grid0.N) : cc0_transform_2 (F := F) k0_off1_inb numel1_S1 (tbl m) (grid0.coords t)
    = ![0, (word (se m) t.val).toNat, 0, (word (sj m) t.val).toNat] := by
  rw [← read_at 0 (se m) t (k0_off1_inb _) (Shape.Idx.first (numel1_S1.symm ▸ Nat.one_pos)),
    ← read_at 1 (sj m) t (k0_off1_inb _) (Shape.Idx.first (numel1_S1.symm ▸ Nat.one_pos))]; rfl

theorem map3 (t : Fin grid0.N) : cc0_transform_3 (F := F) k0_off1_inb numel1_S1 (tbl m) (grid0.coords t)
    = ![(word (sb m) t.val).toNat, (word (sj m) t.val).toNat] := by
  rw [← read_at 2 (sb m) t (k0_off1_inb _) (Shape.Idx.first (numel1_S1.symm ▸ Nat.one_pos)),
    ← read_at 1 (sj m) t (k0_off1_inb _) (Shape.Idx.first (numel1_S1.symm ▸ Nat.one_pos))]; rfl

/-- Whether a step is skipped, as the pipeline reads it. -/
theorem idle_eq (t : Fin grid0.N) : idle0 (F := F) (tbl m) 3 (grid0.coords t) = !(k0_cond1 (word (sv m) t.val) == 1#1) := by
  have e0 := (offs1 (grid0.coords t)).1
  have e1 := coords_val t
  have ht : t.val < 896 := t.isLt
  have h : ∀ a : Fin 1, k0_off1 (grid0.coords t) a + 1 ≤ S896.size a := fun a => by
    obtain rfl : a = 0 := Subsingleton.elim _ _
    show k0_off1 (grid0.coords t) 0 + 1 ≤ 896; omega
  have : (tbl m).atD 4 (k0_off1 (grid0.coords t)) = word (sv m) t.val := by
    refine (dif_pos h).trans (congrArg (sv m) (funext fun (a : Fin 1) => Fin.ext ?_))
    obtain rfl : a = 0 := Subsingleton.elim _ _
    show k0_off1 (grid0.coords t) 0 = t.val % 896
    omega
  exact congrArg (fun b => !(k0_cond1 b == 1#1)) this

theorem cond_iff (b : BitVec 32) : k0_cond1 b = 1#1 ↔ b = 1#32 := by
  unfold k0_cond1
  simp only [Scalar.cmpi, Scalar.extui]
  rw [← Schedule.cmp_eq b 1#32]
  generalize IntOp.cmpi .eq b 1#32 = x
  revert x; decide

theorem loads_iff (b : BitVec 32) : Scalar.cmpi .ne (Scalar.extui (Scalar.cmpi .eq b 1#32) : BitVec 32) 0#32 = 1#1 ↔ b = 1#32 :=
  cond_iff b

/-- Each step's blocks lie inside their arrays. -/
theorem ok_of (h : Sched m) : ok0 (F := F) (tbl m) := by
  have hN : ∀ i : grid0.Coords, ∃ t : Fin grid0.N, i = grid0.coords t := fun i =>
    ⟨⟨(i 0).val, (i 0).isLt⟩, funext fun a => Fin.ext (by
      obtain rfl : a = (0 : Fin 1) := Subsingleton.elim _ _
      exact (coords_val ⟨(i 0).val, (i 0).isLt⟩).symm)⟩
  refine ⟨fun i => ?_, fun i => ?_, fun i => ?_, fun i => ?_⟩ <;> obtain ⟨t, rfl⟩ := hN i
  · have hb := h.block (ix1 (Fin.ofNat 896 t.val))
    have e := map0 m t
    refine ⟨fun a => ?_, .inr (Rect.PackedRows.wholeWords ?_)⟩
    · rw [e]
      match a with
      | 0 => show ((word (sb m) t.val).toNat + 1) * 256 ≤ 57344; unfold word; omega
      | 1 => show (0 + 1) * 2048 ≤ 2048; omega
    · refine Rect.packedRows_of_rowAxis (s := S57344x2048) _ _ (by decide) ?_ ?_ rfl
      · show 2 ∣ cc0_transform_0 (F := F) k0_off1_inb numel1_S1 (tbl m) (grid0.coords t) 0 * 256
        exact Dvd.dvd.mul_left (by decide) _
      · show 2 ∣ 256
        decide
  · have he := h.expert (ix1 (Fin.ofNat 896 t.val))
    have hj := h.column (ix1 (Fin.ofNat 896 t.val))
    refine ⟨fun a => ?_, .inl rfl⟩
    rw [map1 m t]
    match a with
    | 0 => show (0 + 1) * 1 ≤ 2; omega
    | 1 => show ((word (se m) t.val).toNat + 1) * 1 ≤ 32; unfold word; omega
    | 2 => show (0 + 1) * 2048 ≤ 2048; omega
    | 3 => show ((word (sj m) t.val).toNat + 1) * 1024 ≤ 4096; unfold word; omega
  · have he := h.expert (ix1 (Fin.ofNat 896 t.val))
    have hj := h.column (ix1 (Fin.ofNat 896 t.val))
    refine ⟨fun a => ?_, .inl rfl⟩
    rw [map2 m t]
    match a with
    | 0 => show (0 + 1) * 1 ≤ 2; omega
    | 1 => show ((word (se m) t.val).toNat + 1) * 1 ≤ 32; unfold word; omega
    | 2 => show (0 + 1) * 1 ≤ 1; omega
    | 3 => show ((word (sj m) t.val).toNat + 1) * 1024 ≤ 4096; unfold word; omega
  · have hb := h.block (ix1 (Fin.ofNat 896 t.val))
    have hj := h.column (ix1 (Fin.ofNat 896 t.val))
    refine ⟨fun a => ?_, .inl rfl⟩
    rw [map3 m t]
    match a with
    | 0 => show ((word (sb m) t.val).toNat + 1) * 256 ≤ 57344; unfold word; omega
    | 1 => show ((word (sj m) t.val).toNat + 1) * 1024 ≤ 4096; unfold word; omega

/-- Block `b` of the rows, expert `e`'s columns `j` of the weights and of the bias. -/
def rows (b : ℕ) : Vec F S256x2048 .bf16 := fun y =>
  (m (((0 : Dev nD) : Thread nD τ).loc main_arg5) : Vec F S57344x2048 .bf16) (ix2 (Fin.ofNat 57344 (b * 256 + (y 0).val)) (y 1))
def wblk (e j : ℕ) : Vec F S1x1x2048x1024 .f32 := fun y =>
  (m (((0 : Dev nD) : Thread nD τ).loc main_arg6) : Vec F S2x32x2048x4096 .f32) (ix4 0 (Fin.ofNat 32 e) (y 2) (Fin.ofNat 4096 (j * 1024 + (y 3).val)))
def bblk (e j : ℕ) : Vec F S1x1x1x1024 .f32 := fun y =>
  (m (((0 : Dev nD) : Thread nD τ).loc main_arg7) : Vec F S2x32x1x4096 .f32) (ix4 0 (Fin.ofNat 32 e) 0 (Fin.ofNat 4096 (j * 1024 + (y 3).val)))

/-- The weights and the tile step `n` works with. -/
def held_weights (n : ℕ) : Vec F S2048x1024 .bf16 := weights (wblk m (word (se m) n).toNat (word (sj m) n).toNat)
def tile (b e j : ℕ) : Vec F S256x1024 .f32 := k0_pay2 (rows m b) (weights (wblk m e j)) (bblk m e j)
def made (n : ℕ) : Vec F S256x1024 .f32 := tile m (word (sb m) n).toNat (word (se m) n).toNat (word (sj m) n).toNat

variable {m} in
theorem keeps_weights (h : Sched m) (n : ℕ) (hn : n < 896) (hv : word (sv m) n = 1#32) (hf : word (sf m) n ≠ 1#32) :
    n ≠ 0 ∧ held_weights m n = held_weights m (n - 1) := by
  rw [word_eq_at _ n hn] at hv hf
  obtain ⟨r, hr, h1, h2⟩ := h.keeps ⟨n, hn⟩ hv hf
  have hr' : n - 1 = r.val := by have : r.val + 1 = n := hr; omega
  refine ⟨by have : r.val + 1 = n := hr; omega, ?_⟩
  unfold held_weights
  rw [hr', word_eq_at _ n hn, word_eq_at _ n hn, word_eq_at _ r.val r.isLt, word_eq_at _ r.val r.isLt, h1, h2]

variable {m} in
theorem skips_words (h : Sched m) (n : ℕ) (hn : n < 896) (hv : word (sv m) n ≠ 1#32) :
    n ≠ 0 ∧ word (sj m) n = word (sj m) (n - 1) ∧ word (sb m) n = word (sb m) (n - 1) ∧ word (se m) n = word (se m) (n - 1) := by
  rw [word_eq_at _ n hn] at hv
  obtain ⟨r, hr, h1, h2⟩ := h.skips ⟨n, hn⟩ hv
  have h3 := h.owner _ _ h2
  have hr' : n - 1 = r.val := by have : r.val + 1 = n := hr; omega
  refine ⟨by have : r.val + 1 = n := hr; omega, ?_⟩
  rw [hr']
  simp only [word_eq_at _ n hn, word_eq_at _ r.val r.isLt]
  exact ⟨h1, h2, h3⟩

end Cert.Kernel7Ideal.Step

end
-- ==== Proof.Frame7.lean ====
module

public import proofs.«01_k».proof.Proof.Blocks7
public import Idealize.ShloMosaic.Lib.Pipeline.TableIdle
public import Idealize.ShloMosaic.Lib.Claim

@[expose] public section

set_option maxRecDepth 16384

noncomputable section

/-! ## The run of the second matmul over a whole schedule

The scratch holds, after each step, the weights of that step's expert and column, cast; the output's buffer holds that
step's tile, whether the step computed it or skipped. -/

namespace Cert.Kernel7Ideal.Step

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the buffers hold when the pipeline starts: what they were launched with. -/
abbrev entry (c : Dev nD) (b : Ref sig .tc) : Buf (Elt F) ((c : Thread nD τ).loc b) := m ((c : Thread nD τ).loc b)

theorem main_run (𝒱₀ : Variants) : Pipeline.HMainP (Ix := Unit) (Name := ℕ) (U := UR sig nD τ) (Lvl := ℕ) pcfgs 0 defs₀ 𝒱₀ m (main (F := F)) (entry m) :=
  Pipeline.hmainP_region pcfgs 0 defs₀ 𝒱₀ m main fun c => (main_chain c).trans rfl

theorem entry_tables (c : Dev nD) (j : Fin 5) : entry m c (pre0.ref j) = tbl m j := by
  obtain rfl : c = 0 := Subsingleton.elim _ _; rfl

abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tables_eq (c : Dev nD) : (Pipeline.ΦT pre0 (tbl m) c : sProp 𝕄)
    = iprop(held c T0 (tbl m 0) ∗ held c T1 (tbl m 1) ∗ held c T2 (tbl m 2) ∗ held c T3 (tbl m 3) ∗ held c T4 (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

abbrev scratch : Memref sig .tc .vmem S2048x1024 .bf16 := Memref.whole cc0_scratch0

theorem rest_eq (c : Dev nD) :
    (Pipeline.ΦA spec0 c : sProp 𝕄) = iprop((∃ d, owns (c : Thread nD τ) scratch fullShare d) ∗ (∃ r, prngReg c r)) := by
  unfold Pipeline.ΦA; rw [scopedRest0_eq]; simp only [scratch, owns_whole]; rfl

/-- A window's block at a step, read off its array. -/
def blockOf (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (entry m c (Pipeline.arrRef spec0 w))

variable {m} in
theorem block0 (h : Sched m) (hO : Ok m) (c : Dev nD) (t : Fin (cfgM m hO).N) :
    blockOf m hO c 0 t = rows m (word (sb m) t.val).toNat := by
  obtain rfl : c = 0 := Subsingleton.elim _ _
  have hb := h.block (ix1 (Fin.ofNat 896 t.val))
  refine funext fun (y : S256x2048.Idx) => ?_
  refine congrArg (m (((0 : Dev nD) : Thread nD τ).loc main_arg5) : Vec F S57344x2048 .bf16) (funext fun (a : Fin 2) => Fin.ext ?_)
  have e := map0 m t
  have y0 : (y 0).val < 256 := (y 0).isLt
  match a with
  | 0 =>
    show cc0_transform_0 (F := F) k0_off1_inb numel1_S1 (tbl m) (grid0.coords t) 0 * 256 + 1 * (y 0).val = ((word (sb m) t.val).toNat * 256 + (y 0).val) % 57344
    rw [e]
    show (word (sb m) t.val).toNat * 256 + 1 * (y 0).val = _
    unfold word at hb ⊢
    omega
  | 1 =>
    show cc0_transform_0 (F := F) k0_off1_inb numel1_S1 (tbl m) (grid0.coords t) 1 * 2048 + 1 * (y 1).val = (y 1).val
    rw [e]
    show 0 * 2048 + 1 * (y 1).val = _
    omega

variable {m} in
theorem block1 (h : Sched m) (hO : Ok m) (c : Dev nD) (t : Fin (cfgM m hO).N) :
    blockOf m hO c 1 t = wblk m (word (se m) t.val).toNat (word (sj m) t.val).toNat := by
  obtain rfl : c = 0 := Subsingleton.elim _ _
  have he := h.expert (ix1 (Fin.ofNat 896 t.val))
  have hj := h.column (ix1 (Fin.ofNat 896 t.val))
  refine funext fun (y : S1x1x2048x1024.Idx) => ?_
  refine congrArg (m (((0 : Dev nD) : Thread nD τ).loc main_arg6) : Vec F S2x32x2048x4096 .f32) (funext fun (a : Fin 4) => Fin.ext ?_)
  have e := map1 m t
  have y0 : (y 0).val < 1 := (y 0).isLt
  have y1 : (y 1).val < 1 := (y 1).isLt
  have y3 : (y 3).val < 1024 := (y 3).isLt
  unfold word at e
  match a with
  | 0 =>
    show cc0_transform_1 (F := F) k0_off1_inb numel1_S1 (tbl m) (grid0.coords t) 0 * 1 + 1 * (y 0).val = 0
    rw [e]
    show 0 * 1 + 1 * (y 0).val = 0
    omega
  | 1 =>
    show cc0_transform_1 (F := F) k0_off1_inb numel1_S1 (tbl m) (grid0.coords t) 1 * 1 + 1 * (y 1).val = (word (se m) t.val).toNat % 32
    rw [e]
    show (word (se m) t.val).toNat * 1 + 1 * (y 1).val = _
    unfold word
    omega
  | 2 =>
    show cc0_transform_1 (F := F) k0_off1_inb numel1_S1 (tbl m) (grid0.coords t) 2 * 2048 + 1 * (y 2).val = (y 2).val
    rw [e]
    show 0 * 2048 + 1 * (y 2).val = _
    omega
  | 3 =>
    show cc0_transform_1 (F := F) k0_off1_inb numel1_S1 (tbl m) (grid0.coords t) 3 * 1024 + 1 * (y 3).val = ((word (sj m) t.val).toNat * 1024 + (y 3).val) % 4096
    rw [e]
    show (word (sj m) t.val).toNat * 1024 + 1 * (y 3).val = _
    unfold word
    omega

variable {m} in
theorem block2 (h : Sched m) (hO : Ok m) (c : Dev nD) (t : Fin (cfgM m hO).N) :
    blockOf m hO c 2 t = bblk m (word (se m) t.val).toNat (word (sj m) t.val).toNat := by
  obtain rfl : c = 0 := Subsingleton.elim _ _
  have he := h.expert (ix1 (Fin.ofNat 896 t.val))
  have hj := h.column (ix1 (Fin.ofNat 896 t.val))
  refine funext fun (y : S1x1x1x1024.Idx) => ?_
  refine congrArg (m (((0 : Dev nD) : Thread nD τ).loc main_arg7) : Vec F S2x32x1x4096 .f32) (funext fun (a : Fin 4) => Fin.ext ?_)
  have e := map2 m t
  have y0 : (y 0).val < 1 := (y 0).isLt
  have y1 : (y 1).val < 1 := (y 1).isLt
  have y2 : (y 2).val < 1 := (y 2).isLt
  have y3 : (y 3).val < 1024 := (y 3).isLt
  unfold word at e
  match a with
  | 0 =>
    show cc0_transform_2 (F := F) k0_off1_inb numel1_S1 (tbl m) (grid0.coords t) 0 * 1 + 1 * (y 0).val = 0
    rw [e]
    show 0 * 1 + 1 * (y 0).val = 0
    omega
  | 1 =>
    show cc0_transform_2 (F := F) k0_off1_inb numel1_S1 (tbl m) (grid0.coords t) 1 * 1 + 1 * (y 1).val = (word (se m) t.val).toNat % 32
    rw [e]
    show (word (se m) t.val).toNat * 1 + 1 * (y 1).val = _
    unfold word
    omega
  | 2 =>
    show cc0_transform_2 (F := F) k0_off1_inb numel1_S1 (tbl m) (grid0.coords t) 2 * 1 + 1 * (y 2).val = 0
    rw [e]
    show 0 * 1 + 1 * (y 2).val = _
    omega
  | 3 =>
    show cc0_transform_2 (F := F) k0_off1_inb numel1_S1 (tbl m) (grid0.coords t) 3 * 1024 + 1 * (y 3).val = ((word (sj m) t.val).toNat * 1024 + (y 3).val) % 4096
    rw [e]
    show (word (sj m) t.val).toNat * 1024 + 1 * (y 3).val = _
    unfold word
    omega

/-- What the scratch holds before step `n`: anything at first, then the weights of the step before. -/
def carried (c : Dev nD) (n : ℕ) : sProp 𝕄 :=
  if n = 0 then iprop(∃ d, owns (c : Thread nD τ) scratch fullShare d) else owns (c : Thread nD τ) scratch fullShare (held_weights m (n - 1))

/-- The run's data: the inputs' buffers at their blocks, the output's at the step's tile, the scratch as above. -/
def dats (hO : Ok m) (_ : Fin 1) (c : Dev nD) : Dat τ (Elt F) Unit ℕ (UR sig nD τ) ℕ (cfgM m hO) c where
  A w := entry m c (Pipeline.arrRef spec0 w)
  after w t := match w with
    | ⟨0, _⟩ => blockOf m hO c 0 t
    | ⟨1, _⟩ => blockOf m hO c 1 t
    | ⟨2, _⟩ => blockOf m hO c 2 t
    | ⟨3, _⟩ => made m t.val
  Φ k := iprop((carried m c k.val ∗ (∃ r, prngReg c r)) ∗ Pipeline.ΦT pre0 (tbl m) c)
  q _ := fullShare
  owed _ := 0

theorem A_eq (hO : Ok m) (c : Dev nD) (w : Fin (cfgM m hO).W) : (dats m hO 0 c).A w = entry m c (Pipeline.arrRef spec0 w) := by
  dsimp only [dats]

theorem after0 (hO : Ok m) (c : Dev nD) (t : Fin (cfgM m hO).N) : (dats m hO 0 c).after 0 t = blockOf m hO c 0 t := by dsimp only [dats]; try rfl
theorem after1 (hO : Ok m) (c : Dev nD) (t : Fin (cfgM m hO).N) : (dats m hO 0 c).after 1 t = blockOf m hO c 1 t := by dsimp only [dats]; try rfl
theorem after2 (hO : Ok m) (c : Dev nD) (t : Fin (cfgM m hO).N) : (dats m hO 0 c).after 2 t = blockOf m hO c 2 t := by dsimp only [dats]; try rfl
theorem after3 (hO : Ok m) (c : Dev nD) (t : Fin (cfgM m hO).N) : (dats m hO 0 c).after 3 t = made m t.val := by dsimp only [dats]; try rfl

theorem before0 (hO : Ok m) (c : Dev nD) (t : Fin (cfgM m hO).N) (d) : (dats m hO 0 c).before 0 t d = blockOf m hO c 0 t :=
  ((dats m hO 0 c).before_in_eq_fetched 0 rfl (fun _ => rfl) (fun _ _ _ => rfl)
    (fun t => by rw [after0]; unfold Dat.blockOf blockOf; rw [A_eq]; try rfl) t d).trans
    (by unfold Dat.fetched Dat.blockOf blockOf; rw [A_eq]; try rfl)
theorem before1 (hO : Ok m) (c : Dev nD) (t : Fin (cfgM m hO).N) (d) : (dats m hO 0 c).before 1 t d = blockOf m hO c 1 t :=
  ((dats m hO 0 c).before_in_eq_fetched 1 rfl (fun _ => rfl) (fun _ _ _ => rfl)
    (fun t => by rw [after1]; unfold Dat.blockOf blockOf; rw [A_eq]; try rfl) t d).trans
    (by unfold Dat.fetched Dat.blockOf blockOf; rw [A_eq]; try rfl)
theorem before2 (hO : Ok m) (c : Dev nD) (t : Fin (cfgM m hO).N) (d) : (dats m hO 0 c).before 2 t d = blockOf m hO c 2 t :=
  ((dats m hO 0 c).before_in_eq_fetched 2 rfl (fun _ => rfl) (fun _ _ _ => rfl)
    (fun t => by rw [after2]; unfold Dat.blockOf blockOf; rw [A_eq]; try rfl) t d).trans
    (by unfold Dat.fetched Dat.blockOf blockOf; rw [A_eq]; try rfl)

theorem idle3 (hO : Ok m) (t : Fin (cfgM m hO).N) :
    (cfgM m hO).idle 3 ((cfgM m hO).grid.coords t) = !(k0_cond1 (word (sv m) t.val) == 1#1) := idle_eq m t

variable {m} in
theorem idle3_iff (hO : Ok m) (t : Fin (cfgM m hO).N) :
    (cfgM m hO).idle 3 ((cfgM m hO).grid.coords t) = true ↔ word (sv m) t.val ≠ 1#32 := by
  rw [idle3, Bool.not_eq_true', ← Bool.not_eq_true, beq_iff_eq, cond_iff]

variable {m} in
/-- A skipped step's buffer still holds the tile of the step before. -/
theorem made_skip (h : Sched m) (n : ℕ) (hn : n < 896) (hv : word (sv m) n ≠ 1#32) : made m n = made m (n - 1) := by
  obtain ⟨_, h1, h2, h3⟩ := skips_words h n hn hv
  unfold made; rw [h1, h2, h3]

variable {m} in
/-- No write-back happens just before a skipped step. -/
theorem not_fresh (h : Sched m) (hO : Ok m) : ∀ (n : ℕ) (hn : n < 896), word (sv m) n ≠ 1#32 → (cfgM m hO).fresh 3 n = false
  | 0, hn, hv => absurd rfl (skips_words h 0 hn hv).1
  | n + 1, hn, hv => by
    obtain ⟨_, h1, h2, h3⟩ := skips_words h (n + 1) hn hv
    rw [(cfgM m hO).fresh_succ 3 n (show n < 896 by omega)]
    have hf : ((cfgM m hO).win 3).flush ⟨n, (show n < 896 by omega)⟩ = false := by
      rw [Bool.eq_false_iff]
      intro hh
      unfold Window.flush at hh
      rw [Bool.and_eq_true, Bool.or_eq_true, decide_eq_true_eq, decide_eq_true_eq] at hh
      rcases hh.2 with h' | ⟨h', h''⟩
      · have : n + 1 = 896 := h'; omega
      · refine h'' ?_
        show cc0_transform_3 (F := F) k0_off1_inb numel1_S1 (tbl m) (grid0.coords ⟨n + 1, _⟩) = cc0_transform_3 (F := F) k0_off1_inb numel1_S1 (tbl m) (grid0.coords ⟨n, _⟩)
        rw [map3, map3]
        show ![(word (sb m) (n + 1)).toNat, (word (sj m) (n + 1)).toNat] = ![(word (sb m) n).toNat, (word (sj m) n).toNat]
        rw [h1, h2]; rfl
    rw [hf, Bool.false_or]
    cases hi : (cfgM m hO).idle 3 ((cfgM m hO).grid.coords ⟨n, (show n < 896 by omega)⟩)
    · rfl
    · rw [Bool.true_and]
      exact not_fresh h hO n (by omega) ((idle3_iff hO ⟨n, _⟩).mp hi)

variable {m} in
/-- What a skipped step finds in the output's buffer: its own tile. -/
theorem before3_skip (h : Sched m) (hO : Ok m) (c : Dev nD) (t : Fin (cfgM m hO).N) (hv : word (sv m) t.val ≠ 1#32) (d) :
    (dats m hO 0 c).before 3 t d = made m t.val := by
  have ht : t.val < 896 := t.isLt
  rw [(dats m hO 0 c).before_out_traj 3 rfl (fun _ _ => rfl) (fun s hs hi hfr => by
    rw [after3, after3]; exact made_skip h s.val s.isLt ((idle3_iff hO s).mp hi)) t.val t rfl d,
    not_fresh h hO t.val ht hv, if_neg Bool.false_ne_true, after3]
  exact (made_skip h t.val ht hv).symm

abbrev st0 (hO : Ok m) (t : Fin (cfgM m hO).N) : Memref sig .tc .vmem S256x2048 .bf16 := spec0_0.stage ((cfgM m hO).slots t 0)
abbrev st1 (hO : Ok m) (t : Fin (cfgM m hO).N) : Memref sig .tc .vmem S1x1x2048x1024 .f32 := spec0_1.stage ((cfgM m hO).slots t 1)
abbrev st2 (hO : Ok m) (t : Fin (cfgM m hO).N) : Memref sig .tc .vmem S1x1x1x1024 .f32 := spec0_2.stage ((cfgM m hO).slots t 2)
abbrev st3 (hO : Ok m) (t : Fin (cfgM m hO).N) : Memref sig .tc .vmem S256x1024 .f32 := spec0_3.stage ((cfgM m hO).slots t 3)

/-- The body at a step, on the buffers the pipeline gives it. -/
abbrev bodyAt (hO : Ok m) (t : Fin (cfgM m hO).N) : Prog (TpuEff nD τ sig (Elt F) Λ₀ .tc) PUnit :=
  cc0_moe_w2 (grid0.coords t) T0 (hT _) T1 (hT _) T2 (hT _) T3 (hT _) T4 (hT _) (st0 m hO t) (hstage0_0 (((cfgM m hO).slots t 0).cast nbuf0_0))
    (st1 m hO t) (hstage0_1 (((cfgM m hO).slots t 1).cast nbuf0_1)) (st2 m hO t) (hstage0_2 (((cfgM m hO).slots t 2).cast nbuf0_2))
    (st3 m hO t) (hstage0_3 (((cfgM m hO).slots t 3).cast nbuf0_3)) scratch (Memref.isWhole_whole _)

/-- What the body reads of a table at step `t`. -/
theorem read_word (c : Dev nD) (t : Fin grid0.N) (M : Memref sig .tc .smem S896 .i32) (f : Buf (Elt F) (M.view.loc (c : Thread nD τ))) (h) (x) :
    View.readAt (Elt F) M.view (Rect.unit (s := S896) (k0_off1 (grid0.coords t)) S1.size h).toLoadRect f x
      = word (M.view.read (Elt F) f) t.val := by
  rw [word_eq, word_eq_at _ t.val t.isLt]
  exact congrArg (fun a : Fin 896 => M.view.read (Elt F) f (ix1 a)) (Fin.ext (coords_val t))

theorem sound_body (h : Sched m) (hO : Ok m) (c : Dev nD) (t : Fin (cfgM m hO).N) :
    iprop((dats m hO 0 c).Φ t.castSucc ∗ (dats m hO 0 c).owesAt () t.castSucc
      ∗ (∃ d, owns (c : Thread nD τ) (st0 m hO t) fullShare ((dats m hO 0 c).before 0 t d))
      ∗ (∃ d, owns (c : Thread nD τ) (st1 m hO t) fullShare ((dats m hO 0 c).before 1 t d))
      ∗ (∃ d, owns (c : Thread nD τ) (st2 m hO t) fullShare ((dats m hO 0 c).before 2 t d))
      ∗ (∃ d, owns (c : Thread nD τ) (st3 m hO t) fullShare ((dats m hO 0 c).before 3 t d)))
    ⊢ wp frame (wpE (defs₀ (F := F)) Variants.none c none) Set.univ (bodyAt m hO t) (fun _ =>
      iprop((dats m hO 0 c).Φ t.succ ∗ (dats m hO 0 c).owesAt () t.succ
        ∗ owns (c : Thread nD τ) (st0 m hO t) fullShare ((dats m hO 0 c).after 0 t)
        ∗ owns (c : Thread nD τ) (st1 m hO t) fullShare ((dats m hO 0 c).after 1 t)
        ∗ owns (c : Thread nD τ) (st2 m hO t) fullShare ((dats m hO 0 c).after 2 t)
        ∗ owns (c : Thread nD τ) (st3 m hO t) fullShare (made m t.val))) := by
  have ht : t.val < 896 := t.isLt
  simp only [before0, before1, before2]
  rw [show (dats m hO 0 c).owesAt () t.succ = (dats m hO 0 c).owesAt () t.castSucc from rfl, after0, after1, after2,
    block0 h, block1 h, block2 h]
  rw [show (dats m hO 0 c).Φ t.castSucc = iprop((carried m c t.val ∗ (∃ r, prngReg c r)) ∗ Pipeline.ΦT pre0 (tbl m) c) from rfl,
    show (dats m hO 0 c).Φ t.succ = iprop((carried m c (t.val + 1) ∗ (∃ r, prngReg c r)) ∗ Pipeline.ΦT pre0 (tbl m) c) from rfl,
    tables_eq, show carried m c (t.val + 1) = owns (c : Thread nD τ) scratch fullShare (held_weights m t.val) from if_neg (Nat.succ_ne_zero _)]
  by_cases hv : word (sv m) t.val = 1#32
  · have hv' := (cond_iff _).mpr hv
    rw [show word (sv m) t.val = _ from (read_word c t T4 (tbl m 4) (k0_off1_inb _) (Shape.Idx.first (numel1_S1.symm ▸ Nat.one_pos))).symm] at hv'
    have hw3 := read_word c t T3 (tbl m 3) (k0_off1_inb _) (Shape.Idx.first (numel1_S1.symm ▸ Nat.one_pos))
    by_cases hf : word (sf m) t.val = 1#32
    · have hf' := (loads_iff _).mpr hf
      rw [show word (sf m) t.val = _ from hw3.symm] at hf'
      iintro ⟨⟨⟨HS, Hg⟩, ⟨HT0, HT1, HT2, HT3, HT4⟩⟩, Ho, ⟨%d0, H0⟩, ⟨%d1, H1⟩, ⟨%d2, H2⟩, ⟨%d3, H3⟩⟩
      iapply (run_load c (grid0.coords t) (st0 m hO t) _ (st1 m hO t) _ (st2 m hO t) _ (st3 m hO t) _ scratch _ (tbl m 3) (tbl m 4) _ _ _ hv' hf' Set.univ _)
      isplitl [HT3]; · iexact HT3
      isplitl [HT4]; · iexact HT4
      isplitl [H0]; · iexact H0
      isplitl [H1]; · iexact H1
      isplitl [H2]; · iexact H2
      isplitl [H3]; · iexists _; iexact H3
      isplitl [HS]
      · unfold carried
        split
        · iexact HS
        · iexists _; iexact HS
      iintro ⟨HT3, HT4, H0, H1, H2, H3, HS⟩
      isplitl [HS Hg HT0 HT1 HT2 HT3 HT4]
      · isplitl [HS Hg]
        · isplitl [HS]
          · iexact HS
          iexact Hg
        isplitl [HT0]; · iexact HT0
        isplitl [HT1]; · iexact HT1
        isplitl [HT2]; · iexact HT2
        isplitl [HT3]; · iexact HT3
        iexact HT4
      isplitl [Ho]; · iexact Ho
      isplitl [H0]; · iexact H0
      isplitl [H1]; · iexact H1
      isplitl [H2]; · iexact H2
      iexact H3
    · have hf' := (not_congr (loads_iff _)).mpr hf
      rw [show word (sf m) t.val = _ from hw3.symm] at hf'
      obtain ⟨h0, hk⟩ := keeps_weights h t.val ht hv hf
      rw [show carried m c t.val = owns (c : Thread nD τ) scratch fullShare (held_weights m t.val) from
        (if_neg h0).trans (by rw [hk])]
      iintro ⟨⟨⟨HS, Hg⟩, ⟨HT0, HT1, HT2, HT3, HT4⟩⟩, Ho, ⟨%d0, H0⟩, ⟨%d1, H1⟩, ⟨%d2, H2⟩, ⟨%d3, H3⟩⟩
      iapply (run_keep c (grid0.coords t) (st0 m hO t) _ (st1 m hO t) _ (st2 m hO t) _ (st3 m hO t) _ scratch _ (tbl m 3) (tbl m 4) _ _ _ hv' hf' Set.univ _)
      isplitl [HT3]; · iexact HT3
      isplitl [HT4]; · iexact HT4
      isplitl [H0]; · iexact H0
      isplitl [H2]; · iexact H2
      isplitl [H3]; · iexists _; iexact H3
      isplitl [HS]; · iexact HS
      iintro ⟨HT3, HT4, H0, H2, H3, HS⟩
      isplitl [HS Hg HT0 HT1 HT2 HT3 HT4]
      · isplitl [HS Hg]
        · isplitl [HS]
          · iexact HS
          iexact Hg
        isplitl [HT0]; · iexact HT0
        isplitl [HT1]; · iexact HT1
        isplitl [HT2]; · iexact HT2
        isplitl [HT3]; · iexact HT3
        iexact HT4
      isplitl [Ho]; · iexact Ho
      isplitl [H0]; · iexact H0
      isplitl [H1]; · iexact H1
      isplitl [H2]; · iexact H2
      iexact H3
  · have hv' := (not_congr (cond_iff _)).mpr hv
    rw [show word (sv m) t.val = _ from (read_word c t T4 (tbl m 4) (k0_off1_inb _) (Shape.Idx.first (numel1_S1.symm ▸ Nat.one_pos))).symm] at hv'
    obtain ⟨h0, h1, h2, h3⟩ := skips_words h t.val ht hv
    rw [show carried m c t.val = owns (c : Thread nD τ) scratch fullShare (held_weights m t.val) from
      (if_neg h0).trans (by unfold held_weights; rw [h1, h3])]
    simp only [before3_skip h hO c t hv]
    iintro ⟨⟨⟨HS, Hg⟩, ⟨HT0, HT1, HT2, HT3, HT4⟩⟩, Ho, ⟨%d0, H0⟩, ⟨%d1, H1⟩, ⟨%d2, H2⟩, ⟨%d3, H3⟩⟩
    iapply (run_skip c (grid0.coords t) (st0 m hO t) _ (st1 m hO t) _ (st2 m hO t) _ (st3 m hO t) _ scratch _ (tbl m 4) hv' Set.univ _)
    isplitl [HT4]; · iexact HT4
    iintro HT4
    isplitl [HS Hg HT0 HT1 HT2 HT3 HT4]
    · isplitl [HS Hg]
      · isplitl [HS]
        · iexact HS
        iexact Hg
      isplitl [HT0]; · iexact HT0
      isplitl [HT1]; · iexact HT1
      isplitl [HT2]; · iexact HT2
      isplitl [HT3]; · iexact HT3
      iexact HT4
    isplitl [Ho]; · iexact Ho
    isplitl [H0]; · iexact H0
    isplitl [H1]; · iexact H1
    isplitl [H2]; · iexact H2
    iexact H3

theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

variable {m} in
/-- The output's buffer at its tile is what the pipeline asks for, at a skipped step or not. -/
theorem hand_back (h : Sched m) (hO : Ok m) (c : Dev nD) (t : Fin (cfgM m hO).N) :
    owns (c : Thread nD τ) (st3 m hO t) fullShare (made m t.val) ⊢
      (match (cfgM m hO).idle 3 ((cfgM m hO).grid.coords t) with
        | true =>
          match ((cfgM m hO).win 3).flush t with
          | false => iprop(∃ d, owns (c : Thread nD τ) (st3 m hO t) fullShare ((dats m hO 0 c).before 3 t d))
          | true => owns (c : Thread nD τ) (st3 m hO t) fullShare ((dats m hO 0 c).after 3 t)
        | false => owns (c : Thread nD τ) (st3 m hO t) fullShare ((dats m hO 0 c).after 3 t) : sProp 𝕄) := by
  split
  · rename_i hi
    split
    · simp only [before3_skip h hO c t ((idle3_iff hO t).mp hi)]
      iintro H; iexists (made m t.val); iexact H
    · rw [after3]
  · rw [after3]

theorem body_obligation (h : Sched m) (hO : Ok m) (c : Dev nD) :
    BodyObligation (dats (F := F) m hO 0 c) (defs₀ (F := F)) Variants.none () Set.univ := fun t => by
  rw [bigSep_W0, bigSep_W0, body_row m hO]
  refine triple_restated (sound_body m h hO c t) rfl .rfl fun _ => ?_
  exact sep_mono .rfl (sep_mono .rfl (sep_mono .rfl (sep_mono .rfl (sep_mono .rfl (hand_back h hO c t)))))

-- the implicit arguments of the launch theorem are found by unifying its conclusion with this one
set_option backward.isDefEq.respectTransparency.types false in
/-- The program runs to its end from any launch on a schedule: the arrays end as the data say, no counter is left. -/
theorem run_main (h : Sched m) (hO : Ok m) : θ_run defs (onTc (τ := τ) (main (F := F))) (s₀ m ρ) (fun r =>
    Pipeline.FramePost (Pipeline.pin pcfgs fun _ => adm m hO) (dats m hO) 0 (entry m) r ∧ r.2.sem = fun _ => 0) :=
  Pipeline.θ_run_frameP_track (Q' := _) pcfgs (fun _ => adm m hO) (dats m hO) (0 : Fin 1) launch0 defs₀ Variants.none m ρ main
    (hbody := fun c => (body_obligation m h hO c).loose) (hshare := fun c => (dats m hO 0 c).share_full fun _ => rfl)
    (howed := fun _ _ => rfl) (V := entry m) (hmain := main_run m Variants.none) (hA := A_eq m hO) (hpf := entry_tables m)
    (hin := fun c => by
      rw [show (dats m hO 0 c).Φ 0 = iprop((carried m c 0 ∗ (∃ r, prngReg c r)) ∗ Pipeline.ΦT pre0 (tbl m) c) from rfl,
        show carried m c 0 = iprop(∃ d, owns (c : Thread nD τ) scratch fullShare d) from if_pos rfl]
      show iprop(Pipeline.ΦA spec0 c ∗ Pipeline.ΦT pre0 (tbl m) c) ⊢ _
      rw [rest_eq])
    (hout := fun c => by
      rw [show (dats m hO 0 c).Φ (Fin.last (cfgM m hO).N) = iprop((carried m c 896 ∗ (∃ r, prngReg c r)) ∗ Pipeline.ΦT pre0 (tbl m) c) from rfl,
        show carried m c 896 = owns (c : Thread nD τ) scratch fullShare (held_weights m 895) from if_neg (by decide)]
      show _ ⊢ (Pipeline.ΦA spec0 c : sProp 𝕄)
      rw [rest_eq]
      iintro ⟨⟨HS, Hg⟩, -⟩
      isplitl [HS]
      · iexists _; iexact HS
      iexact Hg)

variable {m} in
/-- What a final state of the run holds: the output array the data's, the arguments as they were. -/
theorem post_args (hO : Ok m) (r : PUnit × MemSt nD τ sig (Elt F))
    (hr : Pipeline.FramePost (Pipeline.pin pcfgs fun _ => adm m hO) (dats m hO) 0 (entry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  have ha := (hr c).1
  have hb := (hr c).2
  refine ⟨hb main_arg0 (by decide : main_arg0 ∈ Pipeline.restRefs sig spec0), hb main_arg1 (by decide : main_arg1 ∈ Pipeline.restRefs sig spec0),
    hb main_arg2 (by decide : main_arg2 ∈ Pipeline.restRefs sig spec0), hb main_arg3 (by decide : main_arg3 ∈ Pipeline.restRefs sig spec0),
    hb main_arg4 (by decide : main_arg4 ∈ Pipeline.restRefs sig spec0), ?_, ?_, ?_⟩
  · exact (ha 0).trans (((dats m hO 0 c).arrAt_in 0 rfl _).trans (A_eq m hO c 0))
  · exact (ha 1).trans (((dats m hO 0 c).arrAt_in 1 rfl _).trans (A_eq m hO c 1))
  · exact (ha 2).trans (((dats m hO 0 c).arrAt_in 2 rfl _).trans (A_eq m hO c 2))

/-- The program runs to its end from any launch on a schedule, its arguments unchanged and no counter left. -/
theorem frame (h : Sched m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r hr => ⟨post_args (ok_of m h) r hr.1, hr.2⟩) (run_main m ρ h (ok_of m h))

end Cert.Kernel7Ideal.Step

end
-- ==== Proof.Value7.lean ====
module

public import proofs.«01_k».proof.Proof.Frame7
public import Idealize.ShloMosaic.Lib.Pipeline.Value

@[expose] public section

set_option maxRecDepth 16384

noncomputable section

/-! ## What the second matmul leaves in its output array -/

namespace Cert.Kernel7Ideal.Step

open Cert.Kernel7Ideal Cert.Kernel7Ideal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ)

/-- From any step on, the tile in the output's buffer is written back before the buffer moves to another. -/
theorem flush_exists (hO : Ok m) : ∀ (k n : ℕ), k + n = 895 → ∃ t : Fin (cfgM m hO).N,
    ((cfgM m hO).win 3).flush t = true ∧ word (sb m) t.val = word (sb m) n ∧ word (sj m) t.val = word (sj m) n
  | 0, n, hk => ⟨⟨n, show n < 896 by omega⟩, by
      unfold Window.flush
      rw [Bool.and_eq_true, Bool.or_eq_true, decide_eq_true_eq, decide_eq_true_eq]
      exact ⟨rfl, .inl (show n + 1 = 896 by omega)⟩, rfl, rfl⟩
  | k + 1, n, hk => by
    have hn : n < 896 := by omega
    have hn' : n + 1 < 896 := by omega
    by_cases hf : ((cfgM m hO).win 3).flush ⟨n, hn⟩ = true
    · exact ⟨⟨n, hn⟩, hf, rfl, rfl⟩
    · obtain ⟨t, ht, h1, h2⟩ := flush_exists hO k (n + 1) (by omega)
      unfold Window.flush at hf
      rw [Bool.and_eq_true, Bool.or_eq_true, decide_eq_true_eq, decide_eq_true_eq] at hf
      have he : ((cfgM m hO).win 3).index ⟨n + 1, hn'⟩ = ((cfgM m hO).win 3).index ⟨n, hn⟩ := by
        by_contra hne
        exact hf ⟨rfl, .inr ⟨hn', hne⟩⟩
      have he' : cc0_transform_3 (F := F) k0_off1_inb numel1_S1 (tbl m) (grid0.coords ⟨n + 1, hn'⟩) = cc0_transform_3 (F := F) k0_off1_inb numel1_S1 (tbl m) (grid0.coords ⟨n, hn⟩) := he
      rw [map3, map3] at he'
      have e0 : (word (sb m) (n + 1)).toNat = (word (sb m) n).toNat := congrFun he' 0
      have e1 : (word (sj m) (n + 1)).toNat = (word (sj m) n).toNat := congrFun he' 1
      exact ⟨t, ht, h1.trans (BitVec.eq_of_toNat_eq e0), h2.trans (BitVec.eq_of_toNat_eq e1)⟩

/-- The expert of a block of rows, by any step that visits the block. -/
def expertOf (b : ℕ) : ℕ := by
  classical
  exact if h : ∃ s : Fin 896, (sb m (ix1 s)).toNat = b then (se m (ix1 h.choose)).toNat else 0

variable {m} in
theorem expertOf_eq (h : Sched m) (s : Fin 896) : expertOf m (sb m (ix1 s)).toNat = (se m (ix1 s)).toNat := by
  have hx : ∃ r : Fin 896, (sb m (ix1 r)).toNat = (sb m (ix1 s)).toNat := ⟨s, rfl⟩
  unfold expertOf
  rw [dif_pos hx]
  exact congrArg BitVec.toNat (h.owner _ _ (BitVec.eq_of_toNat_eq hx.choose_spec))

/-- The array the visited tiles agree with: at each index its block's and its column's tile. -/
def whole : Vec F S57344x4096 .f32 := fun i =>
  tile m ((i 0).val / 256) (expertOf m ((i 0).val / 256)) ((i 1).val / 1024)
    (ix2 ⟨(i 0).val % 256, Nat.mod_lt _ (by decide)⟩ ⟨(i 1).val % 1024, Nat.mod_lt _ (by decide)⟩)

/-- Where element `y` of step `t`'s tile lies in the output array. -/
abbrev place (hO : Ok m) (t : Fin (cfgM m hO).N) (y : S256x1024.Idx) : S57344x4096.Idx := (((cfgM m hO).win 3).blk t).view.emb y

variable {m} in
theorem flushed_eq (h : Sched m) (hO : Ok m) (c : Dev nD) (t : Fin (cfgM m hO).N) :
    (dats m hO 0 c).flushed 3 t = (((cfgM m hO).win 3).blk t).view.read (Elt F) (whole m) := by
  have ht : t.val < 896 := t.isLt
  have hb := h.block (ix1 (Fin.ofNat 896 t.val))
  have hj := h.column (ix1 (Fin.ofNat 896 t.val))
  have hE := expertOf_eq h (Fin.ofNat 896 t.val)
  have e := map3 m t
  unfold word at e
  refine funext fun (y : S256x1024.Idx) => ?_
  have y0 : (y 0).val < 256 := (y 0).isLt
  have y1 : (y 1).val < 1024 := (y 1).isLt
  show (dats m hO 0 c).after 3 t y = whole m (place m hO t y)
  rw [after3]
  have e0 : (place m hO t y 0).val = (sb m (ix1 (Fin.ofNat 896 t.val))).toNat * 256 + (y 0).val := by
    show cc0_transform_3 (F := F) k0_off1_inb numel1_S1 (tbl m) (grid0.coords t) 0 * 256 + 1 * (y 0).val = _
    rw [e, Nat.one_mul]; rfl
  have e1 : (place m hO t y 1).val = (sj m (ix1 (Fin.ofNat 896 t.val))).toNat * 1024 + (y 1).val := by
    show cc0_transform_3 (F := F) k0_off1_inb numel1_S1 (tbl m) (grid0.coords t) 1 * 1024 + 1 * (y 1).val = _
    rw [e, Nat.one_mul]; rfl
  have q0 : (place m hO t y 0).val / 256 = (sb m (ix1 (Fin.ofNat 896 t.val))).toNat := by omega
  have q1 : (place m hO t y 1).val / 1024 = (sj m (ix1 (Fin.ofNat 896 t.val))).toNat := by omega
  unfold whole made word
  rw [q0, q1, hE]
  refine congrArg _ (funext fun (a : Fin 2) => Fin.ext ?_)
  match a with
  | 0 => show (y 0).val = (place m hO t y 0).val % 256; omega
  | 1 => show (y 1).val = (place m hO t y 1).val % 1024; omega

variable {m} in
/-- An index in a tile some step visits ends holding that tile's value. -/
theorem out_at (h : Sched m) (hO : Ok m) (c : Dev nD) (s : Fin 896) (i : S57344x4096.Idx)
    (h0 : (sb m (ix1 s)).toNat = (i 0).val / 256) (h1 : (sj m (ix1 s)).toNat = (i 1).val / 1024) :
    ((dats m hO 0 c).arrAt 3 (cfgM m hO).N : Vec F S57344x4096 .f32) i
      = tile m ((i 0).val / 256) (se m (ix1 s)).toNat ((i 1).val / 1024)
        (ix2 ⟨(i 0).val % 256, Nat.mod_lt _ (by decide)⟩ ⟨(i 1).val % 1024, Nat.mod_lt _ (by decide)⟩) := by
  have hs : s.val < 896 := s.isLt
  obtain ⟨t, hf, e0, e1⟩ := flush_exists m hO (895 - s.val) s.val (by omega)
  rw [word_eq_at _ s.val hs] at e0 e1
  have e := map3 m t
  rw [e0, e1] at e
  have hm : i ∈ (((cfgM m hO).win 3).blk t).view.set := by
    refine (((cfgM m hO).win 3).emb_mem_blk_iff t i rfl).mpr fun (a : Fin 2) => ?_
    match a with
    | 0 =>
      show cc0_transform_3 (F := F) k0_off1_inb numel1_S1 (tbl m) (grid0.coords t) 0 * 256 ≤ (i 0).val ∧ (i 0).val < cc0_transform_3 (F := F) k0_off1_inb numel1_S1 (tbl m) (grid0.coords t) 0 * 256 + 256
      rw [e]
      show (sb m (ix1 s)).toNat * 256 ≤ (i 0).val ∧ (i 0).val < (sb m (ix1 s)).toNat * 256 + 256
      omega
    | 1 =>
      show cc0_transform_3 (F := F) k0_off1_inb numel1_S1 (tbl m) (grid0.coords t) 1 * 1024 ≤ (i 1).val ∧ (i 1).val < cc0_transform_3 (F := F) k0_off1_inb numel1_S1 (tbl m) (grid0.coords t) 1 * 1024 + 1024
      rw [e]
      show (sj m (ix1 s)).toNat * 1024 ≤ (i 1).val ∧ (i 1).val < (sj m (ix1 s)).toNat * 1024 + 1024
      omega
  refine ((dats m hO 0 c).arrAt_apply_of_mem 3 (whole m) (fun t _ => flushed_eq h hO c t) _ t i t.isLt hf hm).trans ?_
  unfold whole
  rw [← h0, expertOf_eq h s]

end Cert.Kernel7Ideal.Step

end
-- ==== Proof.Same7.lean ====
module

public import proofs.«01_k».proof.Proof.Frame7
public import proofs.«01_k».proof.Proof.Gen.Kernel7
public import proofs.«01_k».proof.Defs

@[expose] public section

set_option maxRecDepth 16384

noncomputable section

/-! ## The program as compiled is the program as idealized: no operation was replaced -/

namespace Cert.Kernel7Ideal.Step

open Idealize.ShloMosaic Idealize.ShloMosaic.TcCoe
open Idealize.SL Idealize.SL.Sem

theorem sched_bits (m : (ℓ : Loc Cert.Kernel7.nD Cert.Kernel7.τ Cert.Kernel7.sig) → Buf (Elt Bits) ℓ)
    (h : Cert.Pre_Kernel7 m) : Sched (F := Bits) m := Schedule.good_of_pre _ _ _ _ _ _ _ _ (h 0)

theorem sched_ideal (m : (ℓ : Loc Cert.Kernel7Ideal.nD Cert.Kernel7Ideal.τ Cert.Kernel7Ideal.sig) → Buf (Elt Ideal) ℓ)
    (h : Cert.Pre_Kernel7Ideal m) : Sched (F := Ideal) m := Schedule.good_of_pre _ _ _ _ _ _ _ _ (h 0)

variable {F : FTy → Type} [FloatOps F]

theorem same_body : @Kernel7.cc0_moe_w2 F _ _ = @Kernel7Ideal.cc0_moe_w2 F _ _ := rfl

set_option maxHeartbeats 4000000 in
theorem same_table : @Kernel7.defs₀ F _ _ = @Kernel7Ideal.defs₀ F _ _ := by
  unfold Kernel7.defs₀ Kernel7Ideal.defs₀
  refine congrArg Defs.onTc (funext fun l => funext fun x => ?_)
  match l, x with
  | ⟨0, _⟩, (t, s) => exact congrFun (congrFun (congrFun (congrFun (congrFun (congrFun (congrFun (congrFun (congrFun (congrFun (congrFun (congrFun (congrFun (congrFun (congrFun (congrFun (congrFun (congrFun (congrFun (congrFun (congrFun same_body _) _) _) _) _) _) _) _) _) _) _) _) _) _) _) _) _) _) _) _) _

theorem same_defs : @Kernel7.defs F _ _ = @Kernel7Ideal.defs F _ _ :=
  congrArg (Pipeline.defs (Kernel7Ideal.pcfgs (F := F))) same_table

theorem frame_bits : Cert.quiescent_Kernel7 := fun m ρ h => by
  rw [same_defs]
  exact frame (F := Bits) m ρ (sched_bits m h)

theorem frame_ideal : Cert.quiescent_Kernel7Ideal := fun m ρ h => frame (F := Ideal) m ρ (sched_ideal m h)

end Cert.Kernel7Ideal.Step

end
-- ==== Proof.Visited7.lean ====
module

public import proofs.«01_k».proof.Proof.Gen.On_visited7
public import proofs.«01_k».proof.Proof.Tables
public import proofs.«01_k».proof.Proof.Pages

@[expose] public section

set_option maxRecDepth 16384

noncomputable section

/-! ## The tiles the schedule visits, decoded -/

namespace Cert.Schedule

open Idealize.ShloMosaic Cert.On_visited7

/-- An element the mask names lies in a tile that some step visits. -/
theorem visited7 {F : FTy → Type} [FloatOps F] (se sj sb sf sv : IVec S896 32) (a : FVec F S57344x2048 .bf16)
    (w : FVec F S2x32x2048x4096 .f32) (b : FVec F S2x32x1x4096 .f32) (i0 : Fin 57344) (i1 : Fin 4096)
    (h : Cert.On_visited7.fn (F := F) se sj sb sf sv a w b (ix2 i0 i1) = 1#1) :
    ∃ s : Fin 896, (sb (ix1 s)).toNat = i0.val / 256 ∧ (sj (ix1 s)).toNat = i1.val / 1024 := by
  unfold fn at h
  dsimp only at h
  generalize hx : (andi _ _ : IVec S224x4x896 1) = x at h
  simp only [pointwise, Nat.reduceEqDiff, OfNat.ofNat_ne_one, reduceDIte] at h
  obtain ⟨s, hs⟩ := Pages.fold_or _ h
  subst hx
  simp only [pointwise, Nat.reduceEqDiff, OfNat.ofNat_ne_one, reduceDIte] at hs
  obtain ⟨h0, h1⟩ := (andi_one _ _).mp hs
  have h0 := (cmp_eq _ _).mp h0
  have h1 := (cmp_eq _ _).mp h1
  have l0 := i0.isLt
  have l1 := i1.isLt
  exact ⟨s, by rw [h0, BitVec.toNat_ofNat]; omega, by rw [h1, BitVec.toNat_ofNat]; omega⟩

end Cert.Schedule

end
-- ==== Proof.Down.lean ====
module

public import proofs.«01_k».proof.Defs
public import proofs.«01_k».proof.Proof.Value7
public import proofs.«01_k».proof.Proof.Same7
public import proofs.«01_k».proof.Proof.Visited7
public import proofs.«01_k».proof.Proof.Gen.Reference7Ideal.Read
public import proofs.«01_k».proof.Proof.Gen.Pre_schedule7
public import Idealize.ShloMosaic.Lib.Pointwise
public import Idealize.ShloMosaic.Lib.Quiescent

@[expose] public section

set_option maxRecDepth 16384

noncomputable section

open Idealize.ShloMosaic Idealize.ShloMosaic.TcCoe Idealize.SL.Sem

/-! ## The experts' second matmul: a row times its expert's weights, plus the bias -/

namespace Cert.Down

/-- Row `r` times column `n` of expert `e`'s weights, plus the bias. -/
def entry (x : FVec Ideal ⟨2, ![57344, 2048]⟩ .bf16) (w : FVec Ideal ⟨4, ![2, 32, 2048, 4096]⟩ .f32) (b : FVec Ideal ⟨4, ![2, 32, 1, 4096]⟩ .f32)
    (e : Fin 32) (r : Fin 57344) (n : Fin 4096) : EReal :=
  (∑ k : Fin 2048, x (ix2 r k) * w (ix4 0 e k n)) + b (ix4 0 e 0 n)

end Cert.Down

namespace Cert.Kernel7Ideal.Step

open Cert.Kernel7Ideal Cert.Kernel7Ideal.Gen

theorem weights_at (x : Vec Ideal S1x1x2048x1024 .f32) (k : Fin 2048) (q : Fin 1024) : weights x (ix2 k q) = x (ix4 0 0 k q) := by
  unfold weights
  pointwise [k0_pay1]
  refine congrArg x (funext fun (a : Fin 4) => Fin.ext ?_)
  match a with
  | 0 => rfl
  | 1 => rfl
  | 2 => show k.val / 256 * 256 + k.val % 256 = k.val; omega
  | 3 => rfl

variable (m : (ℓ : Loc nD τ sig) → Buf (Elt Ideal) ℓ)

/-- A tile's entry, from the arrays. -/
theorem tile_entry (e : Fin 32) (r : Fin 57344) (n : Fin 4096) :
    tile m (r.val / 256) e.val (n.val / 1024) (ix2 ⟨r.val % 256, Nat.mod_lt _ (by decide)⟩ ⟨n.val % 1024, Nat.mod_lt _ (by decide)⟩)
      = Down.entry (m (((0 : Dev nD) : Thread nD τ).loc main_arg5)) (m (((0 : Dev nD) : Thread nD τ).loc main_arg6))
        (m (((0 : Dev nD) : Thread nD τ).loc main_arg7)) e r n := by
  have hr := r.isLt
  have hn := n.isLt
  unfold tile
  generalize hw : weights (wblk m e.val (n.val / 1024)) = W
  pointwise [k0_pay2]
  subst hw
  unfold Down.entry
  refine congrArg₂ (fun a c : EReal => a + c) (Finset.sum_congr rfl fun k _ => ?_) ?_
  · rw [weights_at]
    refine congrArg₂ (fun a c : EReal => a * c) ?_ ?_
    · exact congrArg (fun a => (m (((0 : Dev nD) : Thread nD τ).loc main_arg5) : Vec Ideal S57344x2048 .bf16) (ix2 a k))
        (Fin.ext (show (r.val / 256 * 256 + r.val % 256) % 57344 = r.val by omega))
    · exact congrArg₂ (fun a c => (m (((0 : Dev nD) : Thread nD τ).loc main_arg6) : Vec Ideal S2x32x2048x4096 .f32) (ix4 0 a k c))
        (Fin.ext (Nat.mod_eq_of_lt e.isLt)) (Fin.ext (show (n.val / 1024 * 1024 + n.val % 1024) % 4096 = n.val by omega))
  · exact congrArg₂ (fun a c => (m (((0 : Dev nD) : Thread nD τ).loc main_arg7) : Vec Ideal S2x32x1x4096 .f32) (ix4 0 a 0 c))
      (Fin.ext (Nat.mod_eq_of_lt e.isLt)) (Fin.ext (show (n.val / 1024 * 1024 + n.val % 1024) % 4096 = n.val by omega))

end Cert.Kernel7Ideal.Step

namespace Cert.Reference7Ideal.Meaning

open Cert.Reference7Ideal Cert.Reference7Ideal.Gen Cert.Reference7Ideal.Read

variable (se sj sb sf sv : IVec S896 32)

theorem first_word {k : ℕ} (hk : k < 2 ^ 31) : IntOp.cmpi .slt (BitVec.ofNat 32 k) 0#32 = 0#1 := by
  refine Schedule.zero_of_ne _ fun h => ?_
  rw [WordCmp.cmpi_slt_eq, WordCmp.ofBool_decide_eq_one_iff, WordCmp.toInt_ofNat_of_lt hk] at h
  exact absurd h (by simp)

/-- The expert of a block that step `s` works on. -/
theorem expert_of_block (h : Schedule.Good se sj sb sf sv) (s : Fin 896) (b : Fin 224) (hb : (sb (ix1 s)).toNat = b.val) :
    val_main_v8 (F := Ideal) se sb (ix1 b) = se (ix1 s) := by
  have ew : ∀ r : Fin 896, val_main_v7 (F := Ideal) se sb (ix2 b r)
      = Scalar.select (IntOp.cmpi .eq (sb (ix1 r)) (BitVec.ofNat 32 b.val)) (se (ix1 r)) 0#32 := fun r => by
    unfold val_main_v7 val_main_v5 val_main_v4 val_main_v3 val_main_v2 val_main_v1 val_main_v0 val_main_call0_v1 val_main_v6
      val_main_call0_v2 val_main_call0_v0 val_main_c
    pointwise []
    rfl
  unfold val_main_v8
  have e : Host.reduce IntOp.maxsi (val_main_v7 (F := Ideal) se sb) (val_main_c_0 (F := Ideal)) reducesTo_S224x896_S224_d1 h_S_ (ix1 b) = _ :=
    Host.reduce_eq_fold_single _ (val_main_v7 (F := Ideal) se sb) _ _ (by decide) _ _
  refine e.trans ((Finset.fold_congr (g := fun r : Fin 896 => val_main_v7 (F := Ideal) se sb (ix2 b r)) fun r _ => ?_).trans
    (Pages.fold_max _ (se (ix1 s)) (h.expert _) (fun r => ?_) s ?_))
  · refine congrArg (val_main_v7 (F := Ideal) se sb) (funext fun a => Fin.ext ?_)
    match a with | ⟨0, _⟩ => rfl | ⟨1, _⟩ => rfl
  · rw [ew]
    by_cases hr : IntOp.cmpi .eq (sb (ix1 r)) (BitVec.ofNat 32 b.val) = 1#1
    · left
      rw [hr]
      have hr := (Schedule.cmp_eq _ _).mp hr
      exact h.owner _ _ (by rw [hr]; exact BitVec.eq_of_toNat_eq (by rw [hb, BitVec.toNat_ofNat]; have := b.isLt; omega))
    · right
      rw [Schedule.zero_of_ne _ hr]
      rfl
  · rw [ew, (Schedule.cmp_eq _ _).mpr (BitVec.eq_of_toNat_eq (by rw [hb, BitVec.toNat_ofNat]; have := b.isLt; omega))]
    rfl

/-- The page number the reference takes a block's weights by: the block's expert, which is not below zero. -/
theorem page (h : Schedule.Good se sj sb sf sv) (s : Fin 896) (b : Fin 224) (hb : (sb (ix1 s)).toNat = b.val) :
    val_main_v18 (F := Ideal) se sb (ix2 b 0) = se (ix1 s) ∧ val_main_v28 (F := Ideal) se sb (ix2 b 0) = se (ix1 s) := by
  have e := expert_of_block se sj sb sf sv h s b hb
  have hs : IntOp.cmpi .slt (se (ix1 s)) 0#32 = 0#1 := by
    have h := first_word (k := (se (ix1 s)).toNat) (by have := h.expert (ix1 s); omega)
    rwa [BitVec.ofNat_toNat, BitVec.setWidth_eq] at h
  have i0 : idx_main_v18 (ix2 b 0) = ix1 b := funext fun a => by match a with | ⟨0, _⟩ => rfl
  have i1 : idx_main_v28 (ix2 b 0) = ix1 b := funext fun a => by match a with | ⟨0, _⟩ => rfl
  constructor
  · rw [val_main_v18_apply, i0, val_main_v17_apply, val_main_v14_apply, val_main_v13_apply, val_main_c_1_apply, e, hs]
    rfl
  · rw [val_main_v28_apply, i1, val_main_v27_apply, val_main_v24_apply, val_main_v23_apply, val_main_c_3_apply, e, hs]
    rfl

/-- The reference at an index of a block that step `s` works on. -/
theorem result (h : Schedule.Good se sj sb sf sv) (x : FVec Ideal S57344x2048 .bf16) (w : FVec Ideal S2x32x2048x4096 .f32)
    (b : FVec Ideal S2x32x1x4096 .f32) (s : Fin 896) (r : Fin 57344) (n : Fin 4096) (hb : (sb (ix1 s)).toNat = r.val / 256) :
    val_main_v32 (F := Ideal) se sb x w b (ix2 r n) = Down.entry x w b ⟨(se (ix1 s)).toNat, h.expert _⟩ r n := by
  have hr := r.isLt
  have hn := n.isLt
  have he := h.expert (ix1 s)
  obtain ⟨p0, p1⟩ := page se sj sb sf sv h s ⟨r.val / 256, by omega⟩ hb
  have hw : (se (ix1 s)).toInt.toNat = (se (ix1 s)).toNat := by
    rw [WordCmp.toInt_eq_toNat_of_lt_half (by omega)]; rfl
  have i : idx_main_v32 (ix2 r n) = ix3 ⟨r.val / 256, by omega⟩ ⟨r.val % 256, by omega⟩ n := funext fun a => Fin.ext (by
    match a with
    | ⟨0, _⟩ => show (r.val * 4096 + n.val) / 1048576 = r.val / 256; omega
    | ⟨1, _⟩ => show (r.val * 4096 + n.val) / 4096 % 256 = r.val % 256; omega
    | ⟨2, _⟩ => show (r.val * 4096 + n.val) % 4096 = n.val; omega)
  rw [val_main_v32_apply, i, val_main_v31_apply, val_main_v20_apply, val_main_v30_apply]
  refine congrArg₂ (fun a c : EReal => a + c) (Finset.sum_congr rfl fun k _ => congrArg₂ (fun a c : EReal => a * c) ?_ ?_) ?_
  · rw [val_main_v10_apply, val_main_v9_apply]
    have hk := k.isLt
    refine congrArg x (funext fun a => Fin.ext ?_)
    match a with
    | ⟨0, _⟩ => show ((r.val / 256 * 256 + r.val % 256) * 2048 + k.val) / 2048 = r.val; omega
    | ⟨1, _⟩ => show ((r.val / 256 * 256 + r.val % 256) * 2048 + k.val) % 2048 = k.val; omega
  · have hk := k.isLt
    rw [show ridx_main_v20 (ix3 ⟨r.val / 256, by omega⟩ ⟨r.val % 256, by omega⟩ n) k = ix3 ⟨r.val / 256, by omega⟩ k n from
      funext fun a => by match a with | ⟨0, _⟩ => rfl | ⟨1, _⟩ => rfl | ⟨2, _⟩ => rfl]
    unfold val_main_v19
    refine (Pages.take _ _ _ _ k n ⟨(se (ix1 s)).toNat, he⟩ (by rw [p0]; exact hw)).trans ?_
    rw [val_main_v12_apply, val_main_v11_apply]
    refine congrArg w (funext fun a => Fin.ext ?_)
    match a with
    | ⟨0, _⟩ => rfl
    | ⟨1, _⟩ => show (((se (ix1 s)).toNat * 2048 + k.val) * 4096 + n.val) / 8388608 % 32 = (se (ix1 s)).toNat; omega
    | ⟨2, _⟩ => show (((se (ix1 s)).toNat * 2048 + k.val) * 4096 + n.val) / 4096 % 2048 = k.val; omega
    | ⟨3, _⟩ => show (((se (ix1 s)).toNat * 2048 + k.val) * 4096 + n.val) % 4096 = n.val; omega
  · rw [show idx_main_v30 (ix3 ⟨r.val / 256, by omega⟩ ⟨r.val % 256, by omega⟩ n) = ix3 ⟨r.val / 256, by omega⟩ 0 n from
      funext fun a => by match a with | ⟨0, _⟩ => rfl | ⟨1, _⟩ => rfl | ⟨2, _⟩ => rfl]
    unfold val_main_v29
    refine (Pages.take _ _ _ _ 0 n ⟨(se (ix1 s)).toNat, he⟩ (by rw [p1]; exact hw)).trans ?_
    rw [val_main_v22_apply, val_main_v21_apply]
    refine congrArg b (funext fun a => Fin.ext ?_)
    match a with
    | ⟨0, _⟩ => rfl
    | ⟨1, _⟩ => show (((se (ix1 s)).toNat * 1 + 0) * 4096 + n.val) / 4096 % 32 = (se (ix1 s)).toNat; omega
    | ⟨2, _⟩ => rfl
    | ⟨3, _⟩ => show (((se (ix1 s)).toNat * 1 + 0) * 4096 + n.val) % 4096 = n.val; omega

end Cert.Reference7Ideal.Meaning

namespace Cert.Proof.Down

open Cert.Kernel7Ideal.Step

theorem reference_frame : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

theorem reference_frame_schedule7 : Cert.quiescent_Reference7Ideal_pre_schedule7 := fun m ρ _ =>
  reference_frame m ρ trivial

theorem algebraic : Cert.algebraic_Kernel7Ideal_Reference7Ideal_on_visited7 := fun m ρ m' ρ' hpre hag =>
  have h := sched_ideal m hpre
  ⟨fun c => Cert.Reference7Ideal.Read.val_main_v32 (F := Ideal) (se m) (sb m) (m ((c.tc : Thread Cert.Kernel7Ideal.nD Cert.Kernel7Ideal.τ).loc Cert.Kernel7Ideal.main_arg5))
      (m ((c.tc : Thread Cert.Kernel7Ideal.nD Cert.Kernel7Ideal.τ).loc Cert.Kernel7Ideal.main_arg6))
      (m ((c.tc : Thread Cert.Kernel7Ideal.nD Cert.Kernel7Ideal.τ).loc Cert.Kernel7Ideal.main_arg7)),
    (θ_run Cert.Kernel7Ideal.defs _ _).mono (fun r hr c => by
      obtain rfl : c = 0 := Subsingleton.elim _ _
      refine ⟨fun i hi => ?_, post_args (ok_of m h) r hr.1 0⟩
      obtain ⟨i0, i1, rfl⟩ : ∃ (i0 : Fin 57344) (i1 : Fin 4096), i = ix2 i0 i1 := ⟨i 0, i 1, eq_ix2 i⟩
      obtain ⟨s, h0, h1⟩ := Schedule.visited7 _ _ _ _ _ _ _ _ i0 i1 hi
      refine (congrFun ((hr.1 0).1 3) (ix2 i0 i1)).trans ((out_at h (ok_of m h) 0 s (ix2 i0 i1) h0 h1).trans ?_)
      exact (tile_entry m ⟨(se m (ix1 s)).toNat, h.expert _⟩ i0 i1).trans
        (Cert.Reference7Ideal.Meaning.result _ _ _ _ _ h _ _ _ s i0 i1 h0).symm) (run_main m ρ h (ok_of m h)),
    (θ_run Cert.Reference7Ideal.defs _ _).mono (fun r hr c => by
      obtain rfl : c = 0 := Subsingleton.elim _ _
      obtain ⟨a0, a1, a2, a3, a4, a5, a6, a7⟩ := hag 0
      refine ⟨fun i _ => ?_, (hr 0).2⟩
      refine (congrFun ((hr 0).1.trans (Cert.Reference7Ideal.Read.val_main_v32_eq m' 0)) i).trans ?_
      rw [a0, a2, a5, a6, a7]
      rfl) (Cert.Reference7Ideal.Value.run (F := Ideal) m' ρ')⟩

end Cert.Proof.Down

end
-- ==== Proof.Decay.lean ====
module

public import Idealize.ShloMosaic.PureOps.Ideal.Laws
public import Idealize.ShloMosaic.Lib.Pointwise

@[expose] public section

noncomputable section

open Idealize.ShloMosaic

/-! ## Exponential decay in one direction and in both -/

namespace Cert.Decay

/-- The number an integer is. -/
def num (z : ℤ) : EReal := ((z : ℝ) : EReal)

theorem num_neg (z : ℤ) : -num z = num (-z) := by
  unfold num
  rw [← EReal.coe_neg]
  norm_cast

theorem num_sub (z w : ℤ) : num z - num w = num (z - w) := by
  unfold num
  rw [← EReal.coe_sub]
  norm_cast

theorem num_zero : num 0 = 0 := by
  unfold num
  norm_cast

theorem num_nonneg (z : ℤ) : 0 ≤ num z ↔ 0 ≤ z := by
  unfold num
  rw [← EReal.coe_zero, EReal.coe_le_coe_iff]
  norm_cast

theorem num_pos (z : ℤ) : 0 < num z ↔ 0 < z := by
  unfold num
  rw [← EReal.coe_zero, EReal.coe_lt_coe_iff]
  norm_cast

theorem num_eq_zero (z : ℤ) : num z = 0 ↔ z = 0 := by
  unfold num
  rw [← EReal.coe_zero, EReal.coe_eq_coe_iff]
  norm_cast

theorem exp_nonneg (x : EReal) : 0 ≤ Ideal.exp x := by
  induction x with
  | bot => exact le_of_eq rfl
  | coe r => rw [Ideal.exp_coe]; exact EReal.coe_nonneg.mpr (Real.exp_pos r).le
  | top => rw [Ideal.exp_top]; exact le_top

theorem exp_zero : Ideal.exp 0 = 1 := by
  rw [← EReal.coe_zero, Ideal.exp_coe, Real.exp_zero, EReal.coe_one]

/-- The decay at rate `a` over `z` steps; nothing is left of what is still to come. -/
def one (a : EReal) (z : ℤ) : EReal := if 0 ≤ z then Ideal.exp (num z * a) else 0

theorem one_nonneg (a : EReal) (z : ℤ) : 0 ≤ one a z := by
  unfold one
  split
  · exact exp_nonneg _
  · exact le_rfl

/-- The decays of both directions together, `a` forward and `b` backward. -/
def both (a b : EReal) (z : ℤ) : EReal := one a z + one b (-z)

/-- The same as one exponential, with two on the diagonal. -/
theorem both_eq (a b : EReal) (z : ℤ) :
    (if num z = 0 then 2 else Ideal.exp ((if 0 < num z then a else 0 - b) * num z)) = both a b z := by
  unfold both one
  simp only [num_eq_zero, num_pos]
  rcases lt_trichotomy z 0 with h | h | h
  · rw [if_neg (by omega), if_neg (by omega), if_neg (by omega), if_pos (by omega), zero_add, zero_sub, ← num_neg,
      EReal.neg_mul, EReal.neg_mul, EReal.mul_comm]
  · subst h
    rw [if_pos rfl, if_pos le_rfl, if_pos (by omega), neg_zero, num_zero, zero_mul, zero_mul, exp_zero]
    norm_num
  · rw [if_neg (by omega), if_pos h, if_pos (by omega), if_neg (by omega), add_zero, EReal.mul_comm]

/-- A sum weighted by both decays is the sum of the two weighted sums. -/
theorem sum_both {ι : Type*} (S : Finset ι) (a b : EReal) (s v : ι → EReal) (z : ι → ℤ) :
    ∑ i ∈ S, s i * both a b (z i) * v i
      = ∑ i ∈ S, s i * one a (z i) * v i + ∑ i ∈ S, s i * one b (-(z i)) * v i := by
  rw [← Finset.sum_add_distrib]
  refine Finset.sum_congr rfl fun i _ => ?_
  unfold both
  rw [mul_right_comm, EReal.left_distrib_of_nonneg (one_nonneg _ _) (one_nonneg _ _), mul_right_comm (s i) (v i),
    mul_right_comm (s i) (v i)]

end Cert.Decay

end
-- ==== Proof.RetentionBlocks.lean ====
module

public import proofs.«01_k».proof.Defs
public import proofs.«01_k».proof.Proof.Decay
public import proofs.«01_k».proof.Proof.Rms
public import proofs.«01_k».proof.Proof.Gen.Kernel8Ideal.Value
public import proofs.«01_k».proof.Proof.Gen.Reference8Ideal.Read
public import Idealize.ShloMosaic.Lib.Pointwise
public import Idealize.ShloMosaic.Lib.Pipeline.ValueKit
public import Idealize.ShloMosaic.Lib.Pipeline.ValueKit.Point
public import Idealize.ShloMosaic.Lib.Quiescent

@[expose] public section

set_option maxRecDepth 16384

noncomputable section

open Idealize.ShloMosaic Idealize.ShloMosaic.TcCoe Idealize.SL.Sem

/-! ## Retention of the context tokens in both directions, and the states it leaves -/

namespace Cert.Kernel8Ideal.Meaning

open Cert.Kernel8Ideal Cert.Kernel8Ideal.Gen

/-- One head's scores against every token of the same request, decayed in both directions, times the values. -/
def mix (q k v : Vec Ideal S256x128 .f32) (a b : EReal) (t : Fin 256) (e : Fin 128) : EReal :=
  ∑ s : Fin 256, (∑ d : Fin 128, q (ix2 t d) * (k (ix2 s d) * Ideal.ofBits FTy.f32 0x3DB504F3#32))
    * Decay.both a b ((t.val : ℤ) - s.val) * v (ix2 s e)

/-- The head's output: normalised, scaled by the gain `n` and gated. -/
def gated (q k v g : Vec Ideal S256x128 .f32) (n : Fin 128 → EReal) (a b : EReal) (t : Fin 256) (e : Fin 128) : EReal :=
  Rms.unit (Ideal.ofBits FTy.f32 0x43000000#32) (Ideal.ofBits FTy.f32 0x358637BD#32) (mix q k v a b t) e * n e
    * (g (ix2 t e) * Ideal.logistic (g (ix2 t e)))

/-- The head's state: keys times values over the request's tokens, token `s` weighted by `w s`. -/
def state (k v : Vec Ideal S256x128 .f32) (w : Fin 256 → EReal) (d e : Fin 128) : EReal :=
  ∑ s : Fin 256, k (ix2 s d) * Ideal.ofBits FTy.f32 0x3DB504F3#32 * w s * v (ix2 s e)

/-- What is left of token `s` at the request's end, and at its start. -/
def last (a : EReal) (s : Fin 256) : EReal := Ideal.exp ((Ideal.ofBits FTy.f32 0x437F0000#32 - Decay.num s.val) * a)
def first (a : EReal) (s : Fin 256) : EReal := Ideal.exp (Decay.num s.val * a)

theorem place_num (s : Fin 256) : FloatOps.sitofp (F := Ideal) FTy.f32 (BitVec.ofNat 32 s.val) = Decay.num s.val := by
  refine congrArg Decay.num ?_
  have := s.isLt
  rw [BitVec.toInt_ofNat', Int.bmod_eq_of_le] <;> omega

theorem apart_num (t s : Fin 256) :
    FloatOps.sitofp (F := Ideal) FTy.f32 (IntOp.subi (IntOp.addi (BitVec.ofNat 32 t.val) (Scalar.muli 0#32 256#32)) (BitVec.ofNat 32 s.val))
      = Decay.num ((t.val : ℤ) - s.val) := by
  refine congrArg Decay.num ?_
  have := s.isLt
  have := t.isLt
  show (BitVec.ofNat 32 t.val + 0#32 - BitVec.ofNat 32 s.val).toInt = _
  rw [BitVec.add_zero, BitVec.toInt_sub, BitVec.toInt_ofNat', BitVec.toInt_ofNat', Int.bmod_eq_of_le (n := (t.val : ℤ)),
    Int.bmod_eq_of_le (n := (s.val : ℤ)), Int.bmod_eq_of_le] <;> omega

theorem two : Ideal.ofBits FTy.f32 1073741824#32 = 2 := by
  simp [Ideal.ofBits, Ideal.ieee]
  rw [← EReal.coe_mul]
  norm_num
  rfl

theorem mix_read (i : grid0.Coords) (q k v : Vec Ideal S256x128 .f32) (a b : EReal) (t : Fin 256) (e : Fin 128) :
    k0_pay6 (F := Ideal) i a b q k v (ix2 t e) = mix q k v a b t e := by
  unfold mix
  pointwise [k0_pay6, k0_pay2, k0_pay4, k0_pay5]
  refine Finset.sum_congr rfl fun s _ => ?_
  rw [apart_num, two, Decay.both_eq]

theorem out_read (i : grid0.Coords) (q k v g : Vec Ideal S256x128 .f32) (n : Vec Ideal S1x128 .f32) (a b : EReal) (t : Fin 256) (e : Fin 128) :
    k0_pay8 (F := Ideal) (k0_pay6 i a b q k v) (k0_pay7 i a b q k v) (Scalar.ofBits .f32 0x43000000#32) n g (ix2 t e)
      = gated q k v g (fun e => n (ix2 0 e)) a b t e := by
  unfold gated Rms.unit
  simp only [← mix_read i]
  pointwise [k0_pay8, k0_pay7]

theorem last_read (k v : Vec Ideal S256x128 .f32) (a : EReal) (x : S1x1x1x128x128.Idx) :
    k0_pay9 (F := Ideal) k0_pay3 a (k0_pay4 k) (k0_pay5 v) x = state k v (last a) (x 3) (x 4) := by
  idx_vars x
  unfold state last
  pointwise [k0_pay9, k0_pay3, k0_pay4, k0_pay5]
  refine Finset.sum_congr rfl fun s _ => ?_
  rw [place_num, EReal.mul_comm a]

theorem first_read (k v : Vec Ideal S256x128 .f32) (a : EReal) (x : S1x1x1x128x128.Idx) :
    k0_pay11 (F := Ideal) (k0_pay10 k0_pay3 a (k0_pay4 k) (k0_pay5 v)) x = state k v (first a) (x 3) (x 4) := by
  idx_vars x
  unfold state first
  pointwise [k0_pay11, k0_pay10, k0_pay3, k0_pay4, k0_pay5]
  refine Finset.sum_congr rfl fun s _ => ?_
  rw [place_num, EReal.mul_comm a]

/-- Request `b`'s columns of head `h`, from column `o` of the projection on. -/
def part (o : ℕ) (ho : o + 1024 ≤ 11776) (x : Vec Ideal S12288x11776 .f32) (b : Fin 32) (h : Fin 8) : Vec Ideal S256x128 .f32 := fun i =>
  x (ix2 ⟨b.val * 256 + (i 0).val, by have := (i 0).isLt; change (i 0).val < 256 at this; omega⟩
    ⟨o + (h.val * 128 + (i 1).val), by have := (i 1).isLt; change (i 1).val < 128 at this; omega⟩)

section
variable (lg : Vec Ideal S2x8 .f32) (x : Vec Ideal S12288x11776 .f32) (gn : Vec Ideal S1024 .f32)

/-- Request `b`'s retention in head `h`. -/
def head (b : Fin 32) (h : Fin 8) (r : Fin 256) (l : Fin 128) : EReal :=
  gated (part 6144 (by decide) x b h) (part 7168 (by decide) x b h) (part 8192 (by decide) x b h) (part 9216 (by decide) x b h)
    (fun e => gn (ix1 ⟨h.val * 128 + e.val, by omega⟩)) (lg (ix2 0 h)) (lg (ix2 1 h)) r l

/-- The retention of the context tokens: token `i 0` of request `i 0 / 256`, head `i 1 / 128`. -/
def retention : Vec Ideal S8192x1024 .bf16 := fun i =>
  head lg x gn ⟨(i 0).val / 256, by have := (i 0).isLt; change (i 0).val < 8192 at this; omega⟩
    ⟨(i 1).val / 128, by have := (i 1).isLt; change (i 1).val < 1024 at this; omega⟩
    ⟨(i 0).val % 256, Nat.mod_lt _ (by decide)⟩ ⟨(i 1).val % 128, Nat.mod_lt _ (by decide)⟩

/-- The states the requests leave, forward and backward. -/
def states : Vec Ideal S32x2x8x128x128 .f32 := fun i =>
  state (part 7168 (by decide) x (i 0) (i 2)) (part 8192 (by decide) x (i 0) (i 2))
    (if (i 1).val = 0 then last (lg (ix2 0 (i 2))) else first (lg (ix2 1 (i 2)))) (i 3) (i 4)

theorem retention_at (i : S8192x1024.Idx) (b : Fin 32) (h : Fin 8) (r : Fin 256) (l : Fin 128)
    (h0 : (i 0).val = b.val * 256 + r.val) (h1 : (i 1).val = h.val * 128 + l.val) :
    retention lg x gn i = head lg x gn b h r l := by
  unfold retention
  congr 1 <;> refine Fin.ext ?_ <;> dsimp only <;> omega

end

variable (m : (ℓ : Loc nD τ sig) → Buf (Elt Ideal) ℓ)

theorem index_all : ∀ t : Fin cfg0.N, win0_1.index t = ![t.val, 6] ∧ win0_2.index t = ![t.val, 7]
    ∧ win0_3.index t = ![t.val, 8] ∧ win0_4.index t = ![t.val, 9] ∧ win0_0.index t = ![0, 0] ∧ win0_5.index t = ![0, 0]
    ∧ win0_6.index t = ![t.val, 0] ∧ win0_7.index t = ![t.val, 0, 0, 0, 0] :=
  (by decide +kernel : ∀ t : Fin grid0.N, _)

theorem ld_at (X : Vec Ideal S256x1024 .f32) (o : ℕ) (hi : ∀ a, (![0, o] : Fin 2 → ℕ) a + (![256, 128] : Fin 2 → ℕ) a ≤ S256x1024.size a)
    (ho : o + 128 ≤ 1024) (r : Fin 256) (l : Fin 128) :
    View.ld X (Rect.unit ![0, o] ![256, 128] hi) (ix2 r l) = X (ix2 r ⟨o + l.val, by omega⟩) := by
  refine congrArg X (funext fun a => Fin.ext ?_)
  match a with
  | ⟨0, _⟩ => show 0 + 1 * r.val = r.val; omega
  | ⟨1, _⟩ => show o + 1 * l.val = o + l.val; omega

/-- The request of a point. -/
def req (t : Fin cfg0.N) : Fin 32 := ⟨t.val, t.isLt⟩

theorem block_q (c : Dev nD) (t : Fin cfg0.N) (h : Fin 8) (o : ℕ) (ho : o = h.val * 128) (hi : ∀ a, (![0, o] : Fin 2 → ℕ) a + (![256, 128] : Fin 2 → ℕ) a ≤ S256x1024.size a) :
    View.ld (X0_1 m c t) (Rect.unit ![0, o] ![256, 128] hi) = part 6144 (by decide) (m ((c : Thread nD τ).loc main_arg1)) (req t) h := by
  subst ho
  funext i
  idx_vars i
  rw [ld_at _ _ _ (by omega)]
  unfold X0_1 Pipeline.Window.fill part req
  rw [dif_pos (moved0_1 t _)]
  have i0 := (index_all t).1
  blk_ext [iblk, V, i0]

theorem block_k (c : Dev nD) (t : Fin cfg0.N) (h : Fin 8) (o : ℕ) (ho : o = h.val * 128) (hi : ∀ a, (![0, o] : Fin 2 → ℕ) a + (![256, 128] : Fin 2 → ℕ) a ≤ S256x1024.size a) :
    View.ld (X0_2 m c t) (Rect.unit ![0, o] ![256, 128] hi) = part 7168 (by decide) (m ((c : Thread nD τ).loc main_arg1)) (req t) h := by
  subst ho
  funext i
  idx_vars i
  rw [ld_at _ _ _ (by omega)]
  unfold X0_2 Pipeline.Window.fill part req
  rw [dif_pos (moved0_2 t _)]
  have i0 := (index_all t).2.1
  blk_ext [iblk, V, i0]

theorem block_v (c : Dev nD) (t : Fin cfg0.N) (h : Fin 8) (o : ℕ) (ho : o = h.val * 128) (hi : ∀ a, (![0, o] : Fin 2 → ℕ) a + (![256, 128] : Fin 2 → ℕ) a ≤ S256x1024.size a) :
    View.ld (X0_3 m c t) (Rect.unit ![0, o] ![256, 128] hi) = part 8192 (by decide) (m ((c : Thread nD τ).loc main_arg1)) (req t) h := by
  subst ho
  funext i
  idx_vars i
  rw [ld_at _ _ _ (by omega)]
  unfold X0_3 Pipeline.Window.fill part req
  rw [dif_pos (moved0_3 t _)]
  have i0 := (index_all t).2.2.1
  blk_ext [iblk, V, i0]

theorem block_g (c : Dev nD) (t : Fin cfg0.N) (h : Fin 8) (o : ℕ) (ho : o = h.val * 128) (hi : ∀ a, (![0, o] : Fin 2 → ℕ) a + (![256, 128] : Fin 2 → ℕ) a ≤ S256x1024.size a) :
    View.ld (X0_4 m c t) (Rect.unit ![0, o] ![256, 128] hi) = part 9216 (by decide) (m ((c : Thread nD τ).loc main_arg1)) (req t) h := by
  subst ho
  funext i
  idx_vars i
  rw [ld_at _ _ _ (by omega)]
  unfold X0_4 Pipeline.Window.fill part req
  rw [dif_pos (moved0_4 t _)]
  have i0 := (index_all t).2.2.2.1
  blk_ext [iblk, V, i0]

/-- The decay rate a head reads. -/
theorem rate_eq (c : Dev nD) (t : Fin cfg0.N) (j : Fin 2) (h : Fin 8) (hi : ∀ a, (![j.val, h.val] : Fin 2 → ℕ) a + (![1, 1] : Fin 2 → ℕ) a ≤ S2x8.size a)
    (z : (⟨2, ![1, 1]⟩ : Shape).Idx) :
    View.ld (iblk m c 0 t : Vec Ideal S2x8 .f32) (Rect.unit ![j.val, h.val] ![1, 1] hi) z
      = (m ((c : Thread nD τ).loc main_arg0) : Vec Ideal S2x8 .f32) (ix2 j h) := by
  have i0 := (index_all t).2.2.2.2.1
  have e0 : View.ld (iblk m c 0 t : Vec Ideal S2x8 .f32) (Rect.unit ![j.val, h.val] ![1, 1] hi) z
      = (iblk m c 0 t : Vec Ideal S2x8 .f32) (ix2 j h) := by
    refine congrArg (iblk m c 0 t : Vec Ideal S2x8 .f32) (funext fun a => Fin.ext ?_)
    match a with
    | ⟨0, _⟩ =>
      have := (z 0).isLt
      change (z 0).val < 1 at this
      show j.val + 1 * (z 0).val = j.val
      omega
    | ⟨1, _⟩ =>
      have := (z 1).isLt
      change (z 1).val < 1 at this
      show h.val + 1 * (z 1).val = h.val
      omega
  rw [e0]
  blk_ext [iblk, V, i0]

/-- The gain a head reads. -/
theorem gain_eq (c : Dev nD) (t : Fin cfg0.N) (h : Fin 8) (o : ℕ) (ho : o = h.val * 128) (hi : ∀ a, (![0, o] : Fin 2 → ℕ) a + (![1, 128] : Fin 2 → ℕ) a ≤ S1x1024.size a)
    (e : Fin 128) :
    View.ld (iblk m c 5 t : Vec Ideal S1x1024 .f32) (Rect.unit ![0, o] ![1, 128] hi) (ix2 0 e)
      = (m ((c : Thread nD τ).loc main_arg2) : Vec Ideal S1024 .f32) (ix1 ⟨h.val * 128 + e.val, by omega⟩) := by
  subst ho
  have i0 := (index_all t).2.2.2.2.2.1
  have e0 : View.ld (iblk m c 5 t : Vec Ideal S1x1024 .f32) (Rect.unit ![0, h.val * 128] ![1, 128] hi) (ix2 0 e)
      = (iblk m c 5 t : Vec Ideal S1x1024 .f32) (ix2 0 ⟨h.val * 128 + e.val, by omega⟩) := by
    refine congrArg (iblk m c 5 t : Vec Ideal S1x1024 .f32) (funext fun a => Fin.ext ?_)
    match a with
    | ⟨0, _⟩ => rfl
    | ⟨1, _⟩ => show h.val * 128 + 1 * e.val = h.val * 128 + e.val; omega
  rw [e0]
  blk_point [iblk, V, i0]

theorem pair_eq (w : S256x128.Idx) (r : Fin 256) (l : Fin 128) (h0 : w 0 = r) (h1 : w 1 = l) : w = ix2 r l := funext fun a => by
  match a with
  | ⟨0, _⟩ => exact h0
  | ⟨1, _⟩ => exact h1

theorem head_eq (c : Dev nD) (t : Fin cfg0.N) (h : Fin 8) (o : ℕ) (ho : o = h.val * 128)
    (hi : ∀ a, (![0, o] : Fin 2 → ℕ) a + (![256, 128] : Fin 2 → ℕ) a ≤ S256x1024.size a)
    (hg : ∀ a, (![0, o] : Fin 2 → ℕ) a + (![1, 128] : Fin 2 → ℕ) a ≤ S1x1024.size a)
    (ha : ∀ a, (![(0 : Fin 2).val, h.val] : Fin 2 → ℕ) a + (![1, 1] : Fin 2 → ℕ) a ≤ S2x8.size a)
    (hb : ∀ a, (![(1 : Fin 2).val, h.val] : Fin 2 → ℕ) a + (![1, 1] : Fin 2 → ℕ) a ≤ S2x8.size a)
    (i : grid0.Coords) (z : (⟨2, ![1, 1]⟩ : Shape).Idx) (r : Fin 256) (l : Fin 128) (w : S256x128.Idx) (hw : w = ix2 r l) :
    k0_pay8 (F := Ideal)
      (k0_pay6 i (View.ld (iblk m c 0 t : Vec Ideal S2x8 .f32) (Rect.unit ![(0 : Fin 2).val, h.val] ![1, 1] ha) z)
        (View.ld (iblk m c 0 t : Vec Ideal S2x8 .f32) (Rect.unit ![(1 : Fin 2).val, h.val] ![1, 1] hb) z)
        (View.ld (X0_1 m c t) (Rect.unit ![0, o] ![256, 128] hi)) (View.ld (X0_2 m c t) (Rect.unit ![0, o] ![256, 128] hi))
        (View.ld (X0_3 m c t) (Rect.unit ![0, o] ![256, 128] hi)))
      (k0_pay7 i (View.ld (iblk m c 0 t : Vec Ideal S2x8 .f32) (Rect.unit ![(0 : Fin 2).val, h.val] ![1, 1] ha) z)
        (View.ld (iblk m c 0 t : Vec Ideal S2x8 .f32) (Rect.unit ![(1 : Fin 2).val, h.val] ![1, 1] hb) z)
        (View.ld (X0_1 m c t) (Rect.unit ![0, o] ![256, 128] hi)) (View.ld (X0_2 m c t) (Rect.unit ![0, o] ![256, 128] hi))
        (View.ld (X0_3 m c t) (Rect.unit ![0, o] ![256, 128] hi)))
      (Scalar.ofBits .f32 0x43000000#32) (View.ld (iblk m c 5 t : Vec Ideal S1x1024 .f32) (Rect.unit ![0, o] ![1, 128] hg))
      (View.ld (X0_4 m c t) (Rect.unit ![0, o] ![256, 128] hi)) w
      = head (m ((c : Thread nD τ).loc main_arg0)) (m ((c : Thread nD τ).loc main_arg1)) (m ((c : Thread nD τ).loc main_arg2)) (req t) h r l := by
  rw [hw, out_read, block_q m c t h o ho, block_k m c t h o ho, block_v m c t h o ho, block_g m c t h o ho, rate_eq, rate_eq]
  unfold head
  congr 1
  funext e
  exact gain_eq m c t h o ho hg e

theorem last_eq (c : Dev nD) (t : Fin cfg0.N) (h : Fin 8) (o : ℕ) (ho : o = h.val * 128)
    (hi : ∀ a, (![0, o] : Fin 2 → ℕ) a + (![256, 128] : Fin 2 → ℕ) a ≤ S256x1024.size a)
    (ha : ∀ a, (![(0 : Fin 2).val, h.val] : Fin 2 → ℕ) a + (![1, 1] : Fin 2 → ℕ) a ≤ S2x8.size a)
    (z : (⟨2, ![1, 1]⟩ : Shape).Idx) (x : S1x1x1x128x128.Idx) (i : S32x2x8x128x128.Idx)
    (h0 : (i 0).val = t.val) (h1 : (i 1).val = 0) (h2 : (i 2).val = h.val) (h3 : (i 3).val = (x 3).val) (h4 : (i 4).val = (x 4).val) :
    k0_pay9 (F := Ideal) k0_pay3 (View.ld (iblk m c 0 t : Vec Ideal S2x8 .f32) (Rect.unit ![(0 : Fin 2).val, h.val] ![1, 1] ha) z)
        (k0_pay4 (View.ld (X0_2 m c t) (Rect.unit ![0, o] ![256, 128] hi)))
        (k0_pay5 (View.ld (X0_3 m c t) (Rect.unit ![0, o] ![256, 128] hi))) x
      = states (m ((c : Thread nD τ).loc main_arg0)) (m ((c : Thread nD τ).loc main_arg1)) i := by
  rw [last_read, block_k m c t h o ho, block_v m c t h o ho, rate_eq]
  unfold states
  rw [if_pos h1, (Fin.ext h0 : i 0 = req t), (Fin.ext h2 : i 2 = h), (Fin.ext h3 : i 3 = x 3), (Fin.ext h4 : i 4 = x 4)]

theorem first_eq (c : Dev nD) (t : Fin cfg0.N) (h : Fin 8) (o : ℕ) (ho : o = h.val * 128)
    (hi : ∀ a, (![0, o] : Fin 2 → ℕ) a + (![256, 128] : Fin 2 → ℕ) a ≤ S256x1024.size a)
    (ha : ∀ a, (![(1 : Fin 2).val, h.val] : Fin 2 → ℕ) a + (![1, 1] : Fin 2 → ℕ) a ≤ S2x8.size a)
    (z : (⟨2, ![1, 1]⟩ : Shape).Idx) (x : S1x1x1x128x128.Idx) (i : S32x2x8x128x128.Idx)
    (h0 : (i 0).val = t.val) (h1 : (i 1).val = 1) (h2 : (i 2).val = h.val) (h3 : (i 3).val = (x 3).val) (h4 : (i 4).val = (x 4).val) :
    k0_pay11 (F := Ideal) (k0_pay10 k0_pay3 (View.ld (iblk m c 0 t : Vec Ideal S2x8 .f32) (Rect.unit ![(1 : Fin 2).val, h.val] ![1, 1] ha) z)
        (k0_pay4 (View.ld (X0_2 m c t) (Rect.unit ![0, o] ![256, 128] hi)))
        (k0_pay5 (View.ld (X0_3 m c t) (Rect.unit ![0, o] ![256, 128] hi)))) x
      = states (m ((c : Thread nD τ).loc main_arg0)) (m ((c : Thread nD τ).loc main_arg1)) i := by
  rw [first_read, block_k m c t h o ho, block_v m c t h o ho, rate_eq]
  unfold states
  rw [if_neg (by omega), (Fin.ext h0 : i 0 = req t), (Fin.ext h2 : i 2 = h), (Fin.ext h3 : i 3 = x 3), (Fin.ext h4 : i 4 = x 4)]

set_option maxHeartbeats 4000000 in
/-- The first result is the retention of the context tokens. -/
theorem out_eq (c : Dev nD) : (dats m 0 c).arrAt 6 cfg0.N
    = retention (m ((c : Thread nD τ).loc main_arg0)) (m ((c : Thread nD τ).loc main_arg1)) (m ((c : Thread nD τ).loc main_arg2)) := by
  refine (dats m 0 c).arrAt_eq_of_covers 6 _ (by decide +kernel) fun t hf y => ?_
  have iw := (index_all t).2.2.2.2.2.2.1
  have e0 : (((View.whole main_v1_0).slice (win0_6.rect t)).emb y 0 : ℕ) = t.val * 256 + (y 0).val := by
    blk_simp [iw]
  have e1 : (((View.whole main_v1_0).slice (win0_6.rect t)).emb y 1 : ℕ) = (y 1).val := by
    blk_simp [iw]
  blk_simp
  rw [after0_6]
  unfold outsAt0
  dsimp only
  frame_out
  canon_tiles x h
  · rw [retention_at _ _ _ _ (req t) 7 (x 0) (x 1) (by rw [e0, h0]; rfl) (by rw [e1, h1]; rfl)]
    exact head_eq m c t 7 896 rfl inb_S256x1024_S256x128_0_896 inb_S1x1024_S1x128_0_896 inb_S2x8_S1x1_0_7 inb_S2x8_S1x1_1_7 _ _ (x 0) (x 1) x (pair_eq x _ _ rfl rfl)
  · rw [retention_at _ _ _ _ (req t) 6 (x 0) (x 1) (by rw [e0, h0]; rfl) (by rw [e1, h1]; rfl)]
    exact head_eq m c t 6 768 rfl inb_S256x1024_S256x128_0_768 inb_S1x1024_S1x128_0_768 inb_S2x8_S1x1_0_6 inb_S2x8_S1x1_1_6 _ _ (x 0) (x 1) x (pair_eq x _ _ rfl rfl)
  · rw [retention_at _ _ _ _ (req t) 5 (x 0) (x 1) (by rw [e0, h0]; rfl) (by rw [e1, h1]; rfl)]
    exact head_eq m c t 5 640 rfl inb_S256x1024_S256x128_0_640 inb_S1x1024_S1x128_0_640 inb_S2x8_S1x1_0_5 inb_S2x8_S1x1_1_5 _ _ (x 0) (x 1) x (pair_eq x _ _ rfl rfl)
  · rw [retention_at _ _ _ _ (req t) 4 (x 0) (x 1) (by rw [e0, h0]; rfl) (by rw [e1, h1]; rfl)]
    exact head_eq m c t 4 512 rfl inb_S256x1024_S256x128_0_512 inb_S1x1024_S1x128_0_512 inb_S2x8_S1x1_0_4 inb_S2x8_S1x1_1_4 _ _ (x 0) (x 1) x (pair_eq x _ _ rfl rfl)
  · rw [retention_at _ _ _ _ (req t) 3 (x 0) (x 1) (by rw [e0, h0]; rfl) (by rw [e1, h1]; rfl)]
    exact head_eq m c t 3 384 rfl inb_S256x1024_S256x128_0_384 inb_S1x1024_S1x128_0_384 inb_S2x8_S1x1_0_3 inb_S2x8_S1x1_1_3 _ _ (x 0) (x 1) x (pair_eq x _ _ rfl rfl)
  · rw [retention_at _ _ _ _ (req t) 2 (x 0) (x 1) (by rw [e0, h0]; rfl) (by rw [e1, h1]; rfl)]
    exact head_eq m c t 2 256 rfl inb_S256x1024_S256x128_0_256 inb_S1x1024_S1x128_0_256 inb_S2x8_S1x1_0_2 inb_S2x8_S1x1_1_2 _ _ (x 0) (x 1) x (pair_eq x _ _ rfl rfl)
  · rw [retention_at _ _ _ _ (req t) 1 (x 0) (x 1) (by rw [e0, h0]; rfl) (by rw [e1, h1]; rfl)]
    exact head_eq m c t 1 128 rfl inb_S256x1024_S256x128_0_128 inb_S1x1024_S1x128_0_128 inb_S2x8_S1x1_0_1 inb_S2x8_S1x1_1_1 _ _ (x 0) (x 1) x (pair_eq x _ _ rfl rfl)
  · rw [retention_at _ _ _ _ (req t) 0 (x 0) (x 1) (by rw [e0, h0]; rfl) (by rw [e1, h1]; exact (Nat.zero_add _).symm)]
    exact head_eq m c t 0 0 rfl inb_S256x1024_S256x128_0_0 inb_S1x1024_S1x128_0_0 inb_S2x8_S1x1_0_0 inb_S2x8_S1x1_1_0 _ _ (x 0) (x 1) x (pair_eq x _ _ rfl rfl)

set_option maxHeartbeats 4000000 in
/-- The second result is the states the requests leave. -/
theorem state_eq (c : Dev nD) : (dats m 0 c).arrAt 7 cfg0.N
    = states (m ((c : Thread nD τ).loc main_arg0)) (m ((c : Thread nD τ).loc main_arg1)) := by
  refine (dats m 0 c).arrAt_eq_of_covers 7 _ (by decide +kernel) fun t hf y => ?_
  have iw := (index_all t).2.2.2.2.2.2.2
  have e0 : (((View.whole main_v1_1).slice (win0_7.rect t)).emb y 0 : ℕ) = t.val + (y 0).val := by
    blk_simp [iw]
  have e1 : (((View.whole main_v1_1).slice (win0_7.rect t)).emb y 1 : ℕ) = (y 1).val := by
    blk_simp [iw]
  have e2 : (((View.whole main_v1_1).slice (win0_7.rect t)).emb y 2 : ℕ) = (y 2).val := by
    blk_simp [iw]
  have e3 : (((View.whole main_v1_1).slice (win0_7.rect t)).emb y 3 : ℕ) = (y 3).val := by
    blk_simp [iw]
  have e4 : (((View.whole main_v1_1).slice (win0_7.rect t)).emb y 4 : ℕ) = (y 4).val := by
    blk_simp [iw]
  blk_simp
  rw [after0_7]
  unfold outsAt0
  dsimp only
  frame_out
  canon_tiles x h
  · exact first_eq m c t 7 896 rfl inb_S256x1024_S256x128_0_896 inb_S2x8_S1x1_1_7 _ _ _ (by omega) (by omega) (by rw [e2, h2]; omega) (e3.trans h3) (e4.trans h4)
  · exact last_eq m c t 7 896 rfl inb_S256x1024_S256x128_0_896 inb_S2x8_S1x1_0_7 _ _ _ (by omega) (by omega) (by rw [e2, h2]; omega) (e3.trans h3) (e4.trans h4)
  · exact first_eq m c t 6 768 rfl inb_S256x1024_S256x128_0_768 inb_S2x8_S1x1_1_6 _ _ _ (by omega) (by omega) (by rw [e2, h2]; omega) (e3.trans h3) (e4.trans h4)
  · exact last_eq m c t 6 768 rfl inb_S256x1024_S256x128_0_768 inb_S2x8_S1x1_0_6 _ _ _ (by omega) (by omega) (by rw [e2, h2]; omega) (e3.trans h3) (e4.trans h4)
  · exact first_eq m c t 5 640 rfl inb_S256x1024_S256x128_0_640 inb_S2x8_S1x1_1_5 _ _ _ (by omega) (by omega) (by rw [e2, h2]; omega) (e3.trans h3) (e4.trans h4)
  · exact last_eq m c t 5 640 rfl inb_S256x1024_S256x128_0_640 inb_S2x8_S1x1_0_5 _ _ _ (by omega) (by omega) (by rw [e2, h2]; omega) (e3.trans h3) (e4.trans h4)
  · exact first_eq m c t 4 512 rfl inb_S256x1024_S256x128_0_512 inb_S2x8_S1x1_1_4 _ _ _ (by omega) (by omega) (by rw [e2, h2]; omega) (e3.trans h3) (e4.trans h4)
  · exact last_eq m c t 4 512 rfl inb_S256x1024_S256x128_0_512 inb_S2x8_S1x1_0_4 _ _ _ (by omega) (by omega) (by rw [e2, h2]; omega) (e3.trans h3) (e4.trans h4)
  · exact first_eq m c t 3 384 rfl inb_S256x1024_S256x128_0_384 inb_S2x8_S1x1_1_3 _ _ _ (by omega) (by omega) (by rw [e2, h2]; omega) (e3.trans h3) (e4.trans h4)
  · exact last_eq m c t 3 384 rfl inb_S256x1024_S256x128_0_384 inb_S2x8_S1x1_0_3 _ _ _ (by omega) (by omega) (by rw [e2, h2]; omega) (e3.trans h3) (e4.trans h4)
  · exact first_eq m c t 2 256 rfl inb_S256x1024_S256x128_0_256 inb_S2x8_S1x1_1_2 _ _ _ (by omega) (by omega) (by rw [e2, h2]; omega) (e3.trans h3) (e4.trans h4)
  · exact last_eq m c t 2 256 rfl inb_S256x1024_S256x128_0_256 inb_S2x8_S1x1_0_2 _ _ _ (by omega) (by omega) (by rw [e2, h2]; omega) (e3.trans h3) (e4.trans h4)
  · exact first_eq m c t 1 128 rfl inb_S256x1024_S256x128_0_128 inb_S2x8_S1x1_1_1 _ _ _ (by omega) (by omega) (by rw [e2, h2]; omega) (e3.trans h3) (e4.trans h4)
  · exact last_eq m c t 1 128 rfl inb_S256x1024_S256x128_0_128 inb_S2x8_S1x1_0_1 _ _ _ (by omega) (by omega) (by rw [e2, h2]; omega) (e3.trans h3) (e4.trans h4)
  · exact first_eq m c t 0 0 rfl inb_S256x1024_S256x128_0_0 inb_S2x8_S1x1_1_0 _ _ _ (by omega) (by omega) (by rw [e2, h2]; omega) (e3.trans h3) (e4.trans h4)
  · exact last_eq m c t 0 0 rfl inb_S256x1024_S256x128_0_0 inb_S2x8_S1x1_0_0 _ _ _ (by omega) (by omega) (by rw [e2, h2]; omega) (e3.trans h3) (e4.trans h4)

end Cert.Kernel8Ideal.Meaning

end
-- ==== Proof.Retention.lean ====
module

public import proofs.«01_k».proof.Proof.RetentionBlocks

@[expose] public section

set_option maxRecDepth 16384

noncomputable section

open Idealize.ShloMosaic Idealize.ShloMosaic.TcCoe Idealize.SL.Sem

/-! ## The retention of the reference, read at an index -/

namespace Cert.Reference8Ideal.Meaning

open Cert.Reference8Ideal Cert.Reference8Ideal.Read Cert.Kernel8Ideal.Meaning

variable (lg : Vec Ideal S2x8 .f32) (x : Vec Ideal S12288x11776 .f32) (gn : Vec Ideal S1024 .f32)

theorem entry_eq (a a' : Fin 12288) (b b' : Fin 11776) (ha : a.val = a'.val) (hb : b.val = b'.val) : x (ix2 a b) = x (ix2 a' b') := by
  rw [Fin.ext ha, Fin.ext hb]

theorem query_eq (b : Fin 32) (h : Fin 8) (s : Fin 256) (d : Fin 128) :
    val_main_v4 (F := Ideal) x (ix4 b h s d) = part 6144 (by decide) x b h (ix2 s d) := by
  pointwise [val_main_v4, val_main_v3, val_main_v2, val_main_v1, val_main_v0]
  unfold part
  exact entry_eq x _ _ _ _ rfl rfl

theorem key_eq (b : Fin 32) (h : Fin 8) (s : Fin 256) (d : Fin 128) :
    val_main_v13 (F := Ideal) x (ix4 b h s d) = part 7168 (by decide) x b h (ix2 s d) * Ideal.ofBits FTy.f32 0x3DB504F3#32 := by
  pointwise [val_main_v13, val_main_v12, val_main_cst, val_main_v7, val_main_v6, val_main_v5, val_main_v1, val_main_v0]
  unfold part
  refine congrArg (· * _) (entry_eq x _ _ _ _ rfl ?_)
  show 6144 + (1024 + (h.val * 128 + d.val)) = 7168 + (h.val * 128 + d.val)
  omega

theorem value_eq (b : Fin 32) (h : Fin 8) (s : Fin 256) (d : Fin 128) :
    val_main_v10 (F := Ideal) x (ix4 b h s d) = part 8192 (by decide) x b h (ix2 s d) := by
  pointwise [val_main_v10, val_main_v9, val_main_v8, val_main_v1, val_main_v0]
  unfold part
  refine entry_eq x _ _ _ _ rfl ?_
  show 6144 + (2048 + (h.val * 128 + d.val)) = 8192 + (h.val * 128 + d.val)
  omega

/-- The gate, at column `l` of head `h`. -/
theorem gate_eq (b : Fin 32) (s : Fin 256) (n : Fin 1024) (h : Fin 8) (l : Fin 128) (hn : n.val = h.val * 128 + l.val) :
    val_main_v80 (F := Ideal) x (ix3 b s n)
      = part 9216 (by decide) x b h (ix2 s l) * Ideal.logistic (part 9216 (by decide) x b h (ix2 s l)) := by
  pointwise [val_main_v80, val_main_v79, val_main_v78, val_main_cst_12, val_main_v77, val_main_v76, val_main_cst_11,
    val_main_v75, val_main_v74, val_main_v11, val_main_v1, val_main_v0]
  unfold part Ideal.logistic
  rw [entry_eq x ⟨b.val * 256 + s.val, by omega⟩ ⟨b.val * 256 + s.val, by omega⟩ ⟨6144 + (3072 + n.val), by omega⟩
    ⟨9216 + (h.val * 128 + l.val), by omega⟩ rfl (by show 6144 + (3072 + n.val) = 9216 + (h.val * 128 + l.val); omega)]
  rfl

/-- The decay written with a guarded exponent, as one head reads it. -/
theorem one_of (a o : EReal) (z : ℤ) (ho : o = 0) :
    (if 0 ≤ Decay.num z then Ideal.exp (if 0 ≤ Decay.num z then Decay.num z * a else o) else o) = Decay.one a z := by
  unfold Decay.one
  simp only [Decay.num_nonneg, ho]
  split <;> rfl

theorem zero_eq : id (constant (F := Ideal) S_ FTy.f32 0#32) ix0 = 0 := by
  show Ideal.ofBits FTy.f32 0#32 = 0
  simp [Ideal.ofBits, Ideal.ieee]

theorem forward_eq (b : Fin 32) (h : Fin 8) (t s : Fin 256) :
    val_main_v36 (F := Ideal) lg (ix4 b h t s) = Decay.one (lg (ix2 0 h)) ((t.val : ℤ) - s.val) := by
  pointwise [val_main_v36, val_main_v35, val_main_v34, val_main_call1_v2, val_main_call1_v1, val_main_call1_v0, val_main_cst_3,
    val_main_v33, val_main_v32, val_main_call0_v2, val_main_call0_v1, val_main_call0_v0, val_main_cst_2, val_main_v31, val_main_v30,
    val_main_v29, val_main_v28, val_main_v27, val_main_v26, val_main_v25, val_main_cst_1, val_main_v24, val_main_v23, val_main_cst_0,
    val_main_v22, val_main_v21, val_main_v19, val_main_v18, val_main_v17, val_main_v16, val_main_v15, val_main_v14]
  rw [place_num, place_num, Decay.num_sub]
  exact one_of _ _ _ zero_eq

theorem backward_eq (b : Fin 32) (h : Fin 8) (t s : Fin 256) :
    val_main_v55 (F := Ideal) lg (ix4 b h t s) = Decay.one (lg (ix2 1 h)) (-((t.val : ℤ) - s.val)) := by
  pointwise [val_main_v55, val_main_v54, val_main_v53, val_main_call3_v2, val_main_call3_v1, val_main_call3_v0, val_main_cst_7,
    val_main_v52, val_main_v51, val_main_call2_v2, val_main_call2_v1, val_main_call2_v0, val_main_cst_6, val_main_v50, val_main_v49,
    val_main_v48, val_main_v47, val_main_v46, val_main_v45, val_main_v44, val_main_cst_5, val_main_v43, val_main_v42, val_main_cst_4,
    val_main_v41, val_main_v40, val_main_v39, val_main_v19, val_main_v18, val_main_v17, val_main_v16, val_main_v15, val_main_v14]
  rw [place_num, place_num, Decay.num_sub, Decay.num_neg]
  exact one_of _ _ _ zero_eq

theorem last_eq (b : Fin 32) (h : Fin 8) (s : Fin 256) (d : Fin 128) :
    val_main_v95 (F := Ideal) lg (ix4 b h s d) = last (lg (ix2 0 h)) s := by
  pointwise [val_main_v95, val_main_v94, val_main_v93, val_main_v92, val_main_v91, val_main_v90, val_main_v89, val_main_v88,
    val_main_v87, val_main_v86, val_main_v85, val_main_v84, val_main_cst_13, val_main_v14]
  rw [place_num]
  rfl

theorem first_eq (b : Fin 32) (h : Fin 8) (s : Fin 256) (d : Fin 128) :
    val_main_v107 (F := Ideal) lg (ix4 b h s d) = first (lg (ix2 1 h)) s := by
  pointwise [val_main_v107, val_main_v106, val_main_v105, val_main_v104, val_main_v103, val_main_v102, val_main_v101, val_main_v100,
    val_main_v99, val_main_v98, val_main_v14]
  rw [place_num]
  rfl

theorem score_eq (b : Fin 32) (h : Fin 8) (t s : Fin 256) : val_main_v20 (F := Ideal) x (ix4 b h t s)
    = ∑ d : Fin 128, part 6144 (by decide) x b h (ix2 t d) * (part 7168 (by decide) x b h (ix2 s d) * Ideal.ofBits FTy.f32 0x3DB504F3#32) := by
  rw [val_main_v20_apply]
  refine Finset.sum_congr rfl fun d _ => ?_
  rw [← query_eq, ← key_eq,
    show lidx_main_v20 (ix4 b h t s) d = ix4 b h t d from funext fun a => by
      match a with | ⟨0, _⟩ => rfl | ⟨1, _⟩ => rfl | ⟨2, _⟩ => rfl | ⟨3, _⟩ => rfl,
    show ridx_main_v20 (ix4 b h t s) d = ix4 b h s d from funext fun a => by
      match a with | ⟨0, _⟩ => rfl | ⟨1, _⟩ => rfl | ⟨2, _⟩ => rfl | ⟨3, _⟩ => rfl]

/-- The two directions' products, summed. -/
theorem mix_eq (b : Fin 32) (h : Fin 8) (t : Fin 256) (e : Fin 128) : val_main_v58 (F := Ideal) lg x (ix4 b h t e)
    = mix (part 6144 (by decide) x b h) (part 7168 (by decide) x b h) (part 8192 (by decide) x b h) (lg (ix2 0 h)) (lg (ix2 1 h)) t e := by
  unfold mix
  rw [Decay.sum_both]
  show val_main_v38 (F := Ideal) lg x (ix4 b h t e) + val_main_v57 (F := Ideal) lg x (ix4 b h t e) = _
  rw [val_main_v38_apply, val_main_v57_apply]
  refine congrArg₂ (· + ·) (Finset.sum_congr rfl fun s _ => ?_) (Finset.sum_congr rfl fun s _ => ?_)
  · rw [show lidx_main_v38 (ix4 b h t e) s = ix4 b h t s from funext fun a => by
        match a with | ⟨0, _⟩ => rfl | ⟨1, _⟩ => rfl | ⟨2, _⟩ => rfl | ⟨3, _⟩ => rfl,
      show ridx_main_v38 (ix4 b h t e) s = ix4 b h s e from funext fun a => by
        match a with | ⟨0, _⟩ => rfl | ⟨1, _⟩ => rfl | ⟨2, _⟩ => rfl | ⟨3, _⟩ => rfl,
      ← value_eq, ← forward_eq lg b, ← score_eq]
    rfl
  · rw [show lidx_main_v57 (ix4 b h t e) s = ix4 b h t s from funext fun a => by
        match a with | ⟨0, _⟩ => rfl | ⟨1, _⟩ => rfl | ⟨2, _⟩ => rfl | ⟨3, _⟩ => rfl,
      show ridx_main_v57 (ix4 b h t e) s = ix4 b h s e from funext fun a => by
        match a with | ⟨0, _⟩ => rfl | ⟨1, _⟩ => rfl | ⟨2, _⟩ => rfl | ⟨3, _⟩ => rfl,
      ← value_eq, ← backward_eq lg b, ← score_eq]
    rfl

theorem unit_eq (b : Fin 32) (h : Fin 8) (t : Fin 256) (e : Fin 128) : val_main_v68 (F := Ideal) lg x (ix4 b h t e)
    = Rms.unit (Ideal.ofBits FTy.f32 0x43000000#32) (Ideal.ofBits FTy.f32 0x358637BD#32)
        (fun e => val_main_v58 (F := Ideal) lg x (ix4 b h t e)) e := by
  unfold Rms.unit
  pointwise [val_main_v68, val_main_v67, val_main_v66, val_main_v65, val_main_v64, val_main_cst_10, val_main_v63, val_main_v62,
    val_main_cst_9, val_main_v61, val_main_v60, val_main_cst_8, val_main_v59]

theorem result_eq : val_main_v83 (F := Ideal) lg x gn = retention lg x gn := by
  funext i
  idx_vars i
  rw [retention_at lg x gn (ix2 i0 i1) ⟨i0.val / 256, by omega⟩ ⟨i1.val / 128, by omega⟩ ⟨i0.val % 256, Nat.mod_lt _ (by decide)⟩
    ⟨i1.val % 128, Nat.mod_lt _ (by decide)⟩ (by show i0.val = i0.val / 256 * 256 + i0.val % 256; omega)
    (by show i1.val = i1.val / 128 * 128 + i1.val % 128; omega)]
  unfold head gated
  rw [← gate_eq x _ _ i1 _ _ (by show i1.val = i1.val / 128 * 128 + i1.val % 128; omega)]
  pointwise [val_main_v83, val_main_v82, val_main_v81, val_main_v73, val_main_v72, val_main_v71, val_main_v70, val_main_v69, unit_eq]
  refine congrArg (· * _) (congrArg₂ (· * ·) (congrArg (Rms.unit _ _ · _) (funext fun e => mix_eq lg x _ _ _ e)) (congrArg (fun j => gn (ix1 j)) (Fin.ext ?_)))
  show i1.val = i1.val / 128 * 128 + i1.val % 128
  omega

theorem left_eq (b : Fin 32) (h : Fin 8) (d e : Fin 128) : val_main_v97 (F := Ideal) lg x (ix4 b h d e)
    = state (part 7168 (by decide) x b h) (part 8192 (by decide) x b h) (last (lg (ix2 0 h))) d e := by
  unfold state
  rw [val_main_v97_apply]
  refine Finset.sum_congr rfl fun s _ => ?_
  rw [show lidx_main_v97 (ix4 b h d e) s = ix4 b h s d from funext fun a => by
        match a with | ⟨0, _⟩ => rfl | ⟨1, _⟩ => rfl | ⟨2, _⟩ => rfl | ⟨3, _⟩ => rfl,
      show ridx_main_v97 (ix4 b h d e) s = ix4 b h s e from funext fun a => by
        match a with | ⟨0, _⟩ => rfl | ⟨1, _⟩ => rfl | ⟨2, _⟩ => rfl | ⟨3, _⟩ => rfl,
      ← value_eq, ← last_eq lg b h s d, ← key_eq]
  rfl

theorem right_eq (b : Fin 32) (h : Fin 8) (d e : Fin 128) : val_main_v109 (F := Ideal) lg x (ix4 b h d e)
    = state (part 7168 (by decide) x b h) (part 8192 (by decide) x b h) (first (lg (ix2 1 h))) d e := by
  unfold state
  rw [val_main_v109_apply]
  refine Finset.sum_congr rfl fun s _ => ?_
  rw [show lidx_main_v109 (ix4 b h d e) s = ix4 b h s d from funext fun a => by
        match a with | ⟨0, _⟩ => rfl | ⟨1, _⟩ => rfl | ⟨2, _⟩ => rfl | ⟨3, _⟩ => rfl,
      show ridx_main_v109 (ix4 b h d e) s = ix4 b h s e from funext fun a => by
        match a with | ⟨0, _⟩ => rfl | ⟨1, _⟩ => rfl | ⟨2, _⟩ => rfl | ⟨3, _⟩ => rfl,
      ← value_eq, ← first_eq lg b h s d, ← key_eq]
  rfl

theorem states_eq : val_main_v112 (F := Ideal) lg x = states lg x := by
  funext i
  idx_vars i
  unfold states
  match i1 with
  | ⟨0, _⟩ =>
    refine Eq.trans ?_ (left_eq lg x i0 i2 i3 i4)
    pointwise [val_main_v112, val_main_v110]
  | ⟨1, _⟩ =>
    refine Eq.trans ?_ (right_eq lg x i0 i2 i3 i4)
    pointwise [val_main_v112, val_main_v111]

end Cert.Reference8Ideal.Meaning

namespace Cert.Proof.Retention

open Cert.Kernel8Ideal.Meaning

theorem reference_frame : Cert.quiescent_Reference8Ideal := fun m ρ _ =>
  (θ_run Cert.Reference8Ideal.defs _ _).mono (fun r h => ⟨fun c => (h c).2.2,
      Idealize.ShloMosaic.sem_eq_zero_of_no_sems (by decide) r.2⟩)
    (Cert.Reference8Ideal.Value.run (F := Ideal) m ρ)

theorem algebraic : Cert.algebraic_Kernel8Ideal_Reference8Ideal := fun m ρ m' ρ' _ hag =>
  ⟨fun c => _, fun c => _,
    (θ_run Cert.Kernel8Ideal.defs _ _).mono (fun _ h c => ⟨(h c).1.trans (out_eq m c), (h c).2.1.trans (state_eq m c), (h c).2.2⟩)
      (Cert.Kernel8Ideal.Value.run_blocks m ρ),
    (θ_run Cert.Reference8Ideal.defs _ _).mono (fun _ h c => by
        obtain ⟨e0, e1, e2⟩ := hag c
        refine ⟨(h c).1.trans ((Cert.Reference8Ideal.Read.val_main_v83_eq m' c).trans
            ((Cert.Reference8Ideal.Meaning.result_eq _ _ _).trans ?_)),
          (h c).2.1.trans ((Cert.Reference8Ideal.Read.val_main_v112_eq _ _).trans
            ((Cert.Reference8Ideal.Meaning.states_eq _ _).trans ?_)), (h c).2.2⟩
        · rw [e0, e1, e2]
        · rw [e0, e1])
      (Cert.Reference8Ideal.Value.run (F := Ideal) m' ρ')⟩

end Cert.Proof.Retention

end
-- ==== Proof.Mixed.lean ====
module

public import proofs.«01_k».proof.Defs
public import proofs.«01_k».proof.Proof.Rms
public import proofs.«01_k».proof.Proof.Gen.Kernel9Ideal.Frame
public import proofs.«01_k».proof.Proof.Gen.Reference9Ideal.Read
public import Idealize.ShloMosaic.Lib.Pointwise
public import Idealize.ShloMosaic.Lib.Pipeline.Value
public import Idealize.ShloMosaic.Lib.Pipeline.ValueKit
public import Idealize.ShloMosaic.Lib.Pipeline.ValueKit.Point
public import Idealize.ShloMosaic.Lib.Pipeline.ReadBack
public import Idealize.ShloMosaic.Lib.StableHlo.ReadAt
public import Idealize.ShloMosaic.Lib.Quiescent

@[expose] public section

set_option maxRecDepth 16384

noncomputable section

open Idealize.ShloMosaic Idealize.ShloMosaic.TcCoe Idealize.SL.Sem

/-! ## The tokens after the experts: their four outputs mixed, normalised, gated and added -/

namespace Cert.Kernel9Ideal.Meaning

open Cert.Kernel9Ideal Cert.Kernel9Ideal.Gen

/-- The gate row of token `R`: row 0 for the context tokens, then one row per latent frame of 2048 tokens. -/
def group (R : Fin 12288) : Fin 8 :=
  ⟨if R.val < 8192 then 0 else 1 + (R.val - 8192) / 2048, by have := R.isLt; split <;> omega⟩

section Meaning

variable (y0 y1 y2 y3 : Vec Ideal S12288x4096 .f32) (w : Vec Ideal S12288x128 .f32) (x : Vec Ideal S12288x4096 .f32)
  (g : Vec Ideal S4096 .f32) (a : Vec Ideal S8x1x4096 .f32)

/-- Token `R`'s four expert outputs, each weighted by its router weight. -/
def mixed (R : Fin 12288) (k : Fin 4096) : EReal :=
  y0 (ix2 R k) * w (ix2 R 0) + y1 (ix2 R k) * w (ix2 R 1) + y2 (ix2 R k) * w (ix2 R 2) + y3 (ix2 R k) * w (ix2 R 3)

/-- The mixture normalised and scaled by the gain. -/
def scaled (R : Fin 12288) (l : Fin 4096) : EReal :=
  Rms.unit (Ideal.ofBits FTy.f32 0x45800000#32) (Ideal.ofBits FTy.f32 0x358637BD#32) (mixed y0 y1 y2 y3 w R) l * g (ix1 l)

/-- The new tokens. -/
def tokens : Vec Ideal S12288x4096 .f32 := fun i =>
  x (ix2 (i 0) (i 1)) + a (ix3 (group (i 0)) 0 (i 1)) * scaled y0 y1 y2 y3 w g (i 0) (i 1)

end Meaning

variable (m : (ℓ : Loc nD τ sig) → Buf (Elt Ideal) ℓ)

theorem index_rows : ∀ t : Fin cfg0.N, win0_0.index t = ![t.val, 0] ∧ win0_1.index t = ![t.val, 0]
    ∧ win0_2.index t = ![t.val, 0] ∧ win0_3.index t = ![t.val, 0] :=
  (by decide +kernel : ∀ t : Fin grid0.N, _)
theorem index_rest : ∀ t : Fin cfg0.N, win0_4.index t = ![t.val, 0] ∧ win0_5.index t = ![t.val, 0]
    ∧ win0_6.index t = ![0, 0] ∧ win0_7.index t = ![if t.val < 64 then 0 else (t.val - 48) / 16, 0, 0]
    ∧ win0_8.index t = ![t.val, 0] :=
  (by decide +kernel : ∀ t : Fin grid0.N, _)

theorem block_y0 (c : Dev nD) (t : Fin cfg0.N) (r : Fin 128) (l : Fin 4096) (R : Fin 12288) (hR : R.val = t.val * 128 + r.val) :
    (iblk m c 0 t : Vec Ideal S128x4096 .f32) (ix2 r l)
      = (m ((c : Thread nD τ).loc main_arg0) : Vec Ideal S12288x4096 .f32) (ix2 R l) := by
  have e := (index_rows t).1
  blk_ext [iblk, V, e]

theorem block_y1 (c : Dev nD) (t : Fin cfg0.N) (r : Fin 128) (l : Fin 4096) (R : Fin 12288) (hR : R.val = t.val * 128 + r.val) :
    (iblk m c 1 t : Vec Ideal S128x4096 .f32) (ix2 r l)
      = (m ((c : Thread nD τ).loc main_arg1) : Vec Ideal S12288x4096 .f32) (ix2 R l) := by
  have e := (index_rows t).2.1
  blk_ext [iblk, V, e]

theorem block_y2 (c : Dev nD) (t : Fin cfg0.N) (r : Fin 128) (l : Fin 4096) (R : Fin 12288) (hR : R.val = t.val * 128 + r.val) :
    (iblk m c 2 t : Vec Ideal S128x4096 .f32) (ix2 r l)
      = (m ((c : Thread nD τ).loc main_arg2) : Vec Ideal S12288x4096 .f32) (ix2 R l) := by
  have e := (index_rows t).2.2.1
  blk_ext [iblk, V, e]

theorem block_y3 (c : Dev nD) (t : Fin cfg0.N) (r : Fin 128) (l : Fin 4096) (R : Fin 12288) (hR : R.val = t.val * 128 + r.val) :
    (iblk m c 3 t : Vec Ideal S128x4096 .f32) (ix2 r l)
      = (m ((c : Thread nD τ).loc main_arg3) : Vec Ideal S12288x4096 .f32) (ix2 R l) := by
  have e := (index_rows t).2.2.2
  blk_ext [iblk, V, e]

theorem block_w (c : Dev nD) (t : Fin cfg0.N) (r : Fin 128) (l : Fin 128) (R : Fin 12288) (hR : R.val = t.val * 128 + r.val) :
    (iblk m c 4 t : Vec Ideal S128x128 .f32) (ix2 r l)
      = (m ((c : Thread nD τ).loc main_arg4) : Vec Ideal S12288x128 .f32) (ix2 R l) := by
  have e := (index_rest t).1
  blk_ext [iblk, V, e]

theorem block_x (c : Dev nD) (t : Fin cfg0.N) (r : Fin 128) (l : Fin 4096) (R : Fin 12288) (hR : R.val = t.val * 128 + r.val) :
    (iblk m c 5 t : Vec Ideal S128x4096 .f32) (ix2 r l)
      = (m ((c : Thread nD τ).loc main_arg5) : Vec Ideal S12288x4096 .f32) (ix2 R l) := by
  have e := (index_rest t).2.1
  blk_ext [iblk, V, e]

theorem block_gain (c : Dev nD) (t : Fin cfg0.N) (l : Fin 4096) :
    (iblk m c 6 t : Vec Ideal S1x4096 .f32) (ix2 0 l)
      = (m ((c : Thread nD τ).loc main_arg6) : Vec Ideal S4096 .f32) (ix1 l) := by
  unfold iblk
  rw [View.read_apply]
  show V m c main_v0 _ = m (c.tc.loc main_arg6) _
  have i6 := (index_rest t).2.2.1
  have e : ((cfg0.win 6).blk t).view.emb (ix2 (0 : Fin 1) l) = (ix2 (0 : Fin 1) l : S1x4096.Idx) := by
    blk_ext [i6]
  rw [e]
  unfold V
  after_reads_at

theorem block_gate (c : Dev nD) (t : Fin cfg0.N) (r : Fin 128) (l : Fin 4096) (R : Fin 12288) (hR : R.val = t.val * 128 + r.val) :
    (iblk m c 7 t : Vec Ideal S1x1x4096 .f32) (ix3 0 0 l)
      = (m ((c : Thread nD τ).loc main_arg7) : Vec Ideal S8x1x4096 .f32) (ix3 (group R) 0 l) := by
  unfold iblk
  rw [View.read_apply]
  show V m c main_arg7 _ = m (c.tc.loc main_arg7) _
  rw [V_main_arg7]
  congr 1
  funext a
  apply Fin.ext
  have := r.isLt
  have i7 := (index_rest t).2.2.2.1
  match a with
  | ⟨0, _⟩ =>
    show win0_7.index t 0 * 1 + 1 * 0 = (if R.val < 8192 then 0 else 1 + (R.val - 8192) / 2048)
    rw [i7]
    show (if t.val < 64 then 0 else (t.val - 48) / 16) * 1 + 1 * 0 = _
    split <;> split <;> omega
  | ⟨1, _⟩ => show win0_7.index t 1 * 1 + 1 * 0 = 0; rw [i7]; rfl
  | ⟨2, _⟩ => show win0_7.index t 2 * 4096 + 1 * l.val = l.val; rw [i7]; show 0 * 4096 + 1 * l.val = l.val; omega

/-- What the body stores, from the blocks it reads. -/
theorem stored_read (y0 y1 y2 y3 x : Vec Ideal S128x4096 .f32) (w : Vec Ideal S128x128 .f32) (g : Vec Ideal S1x4096 .f32)
    (a : Vec Ideal S1x1x4096 .f32) (r : Fin 128) (l : Fin 4096) :
    k0_pay1 (F := Ideal) x (k0_pay2 w y0 y1 y2 y3 a g) (ix2 r l)
      = x (ix2 r l) + a (ix3 0 0 l) * (Rms.unit (Ideal.ofBits FTy.f32 0x45800000#32) (Ideal.ofBits FTy.f32 0x358637BD#32)
          (fun k => y0 (ix2 r k) * w (ix2 r 0) + y1 (ix2 r k) * w (ix2 r 1)
            + (y2 (ix2 r k) * w (ix2 r 2) + y3 (ix2 r k) * w (ix2 r 3))) l * g (ix2 0 l)) := by
  unfold Rms.unit
  pointwise [k0_pay1, k0_pay2]

/-- The body's row `r` of tile `t` is row `R` of the new tokens. -/
theorem point_eq (c : Dev nD) (t : Fin cfg0.N) (r : Fin 128) (l : Fin 4096) (R : Fin 12288) (hR : R.val = t.val * 128 + r.val) :
    k0_pay1 (F := Ideal) (iblk m c 5 t) (k0_pay2 (iblk m c 4 t) (iblk m c 0 t) (iblk m c 1 t) (iblk m c 2 t) (iblk m c 3 t)
        (iblk m c 7 t) (iblk m c 6 t)) (ix2 r l)
      = tokens (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (ix2 R l) := by
  rw [stored_read]
  simp only [block_y0 m c t r _ R hR, block_y1 m c t r _ R hR, block_y2 m c t r _ R hR, block_y3 m c t r _ R hR,
    block_w m c t r _ R hR, block_x m c t r _ R hR, block_gain m c t, block_gate m c t r _ R hR, ← add_assoc]
  rfl

theorem array_eq (c : Dev nD) : (dats m 0 c).arrAt 8 cfg0.N
    = tokens (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  frame_out
  have i8 := (index_rest t).2.2.2.2
  obtain ⟨r, l, rfl⟩ : ∃ (r : Fin 128) (l : Fin 4096), y = ix2 r l := ⟨y 0, y 1, eq_ix2 y⟩
  refine (point_eq m c t r l (((win0_8.blk t).view.emb (ix2 r l)) 0) ?_).trans (congrArg (tokens _ _ _ _ _ _ _ _) ?_)
  · blk_simp [i8]
  · blk_ext [i8]

/-- The run: the new tokens, and the arguments as they were. -/
theorem run_tokens (ρ : Dev nD → PrngReg) :
    θ_run defs (onTc (τ := τ) (main (F := Ideal))) ⟨m, fun _ => 0, ρ⟩ fun r => ∀ c : Dev nD,
      r.2.mem ((c : Thread nD τ).loc main_v1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h.1 c).1 8, h.2.1 c⟩) (θ_run_and (run_main m ρ) (frame m ρ))

end Cert.Kernel9Ideal.Meaning

namespace Cert.Reference9Ideal.Meaning

open Cert.Reference9Ideal Cert.Reference9Ideal.Read Cert.Kernel9Ideal.Meaning

variable (y0 y1 y2 y3 : Vec Ideal S12288x4096 .f32) (w : Vec Ideal S12288x128 .f32) (x : Vec Ideal S12288x4096 .f32)
  (g : Vec Ideal S4096 .f32) (a : Vec Ideal S8x1x4096 .f32)

/-- The mixture as the reference computes it. -/
theorem scaled_eq (R : Fin 12288) (l : Fin 4096) :
    val_main_v27 (F := Ideal) y0 y1 y2 y3 w g (ix2 R l) = scaled y0 y1 y2 y3 w g R l := by
  unfold scaled mixed Rms.unit
  pointwise [val_main_v0, val_main_v1, val_main_v2, val_main_v3, val_main_v4, val_main_v5, val_main_v6, val_main_v7,
    val_main_v8, val_main_v9, val_main_v10, val_main_v11, val_main_v12, val_main_v13, val_main_v14, val_main_v15,
    val_main_cst, val_main_v16, val_main_v17, val_main_cst_0, val_main_v18, val_main_v19, val_main_cst_1,
    val_main_v20, val_main_v21, val_main_v22, val_main_v23, val_main_v24, val_main_v25, val_main_v26, val_main_v27]

/-- The context tokens: one gate row for all of them. -/
theorem context_entry (c : Fin 32) (d : Fin 256) (l : Fin 4096) (R : Fin 12288) (hR : R.val = c.val * 256 + d.val) :
    val_main_v35 (F := Ideal) y0 y1 y2 y3 w x g a (ix3 c d l) = tokens y0 y1 y2 y3 w x g a (ix2 R l) := by
  show _ = x (ix2 R l) + a (ix3 (group R) 0 l) * scaled y0 y1 y2 y3 w g R l
  rw [← scaled_eq y0 y1 y2 y3 w g]
  unfold val_main_v35 val_main_v34 val_main_v32 val_main_v31
  generalize val_main_v27 (F := Ideal) y0 y1 y2 y3 w g = s
  pointwise [val_main_v28, val_main_v29, val_main_v30, val_main_v33]
  have eR : (⟨c.val * 256 + d.val, by have := R.isLt; omega⟩ : Fin 12288) = R := Fin.ext hR.symm
  have eg : (0 : Fin 8) = group R := Fin.ext (by
    show 0 = if R.val < 8192 then 0 else 1 + (R.val - 8192) / 2048
    have := c.isLt; have := d.isLt
    rw [if_pos (by omega)])
  rw [eR, ← eg]

/-- The latent tokens: a gate row per frame. -/
theorem latent_entry (c : Fin 2) (d : Fin 2048) (l : Fin 4096) (R : Fin 12288) (hR : R.val = 8192 + (c.val * 2048 + d.val)) :
    val_main_v43 (F := Ideal) y0 y1 y2 y3 w x g a (ix3 c d l) = tokens y0 y1 y2 y3 w x g a (ix2 R l) := by
  show _ = x (ix2 R l) + a (ix3 (group R) 0 l) * scaled y0 y1 y2 y3 w g R l
  rw [← scaled_eq y0 y1 y2 y3 w g]
  unfold val_main_v43 val_main_v42 val_main_v40 val_main_v39
  generalize val_main_v27 (F := Ideal) y0 y1 y2 y3 w g = s
  pointwise [val_main_v36, val_main_v37, val_main_v38, val_main_v41]
  have eR : (⟨8192 + (c.val * 2048 + d.val), by have := R.isLt; omega⟩ : Fin 12288) = R := Fin.ext hR.symm
  have eg : (⟨1 + c.val, by have := c.isLt; omega⟩ : Fin 8) = group R := Fin.ext (by
    show 1 + c.val = if R.val < 8192 then 0 else 1 + (R.val - 8192) / 2048
    have := d.isLt
    rw [if_neg (by omega)]; omega)
  rw [eR, eg]

theorem context_row (q : Fin 8192) (l : Fin 4096) (R : Fin 12288) (hR : R.val = q.val) :
    val_main_v44 (F := Ideal) y0 y1 y2 y3 w x g a (ix2 q l) = tokens y0 y1 y2 y3 w x g a (ix2 R l) := by
  unfold val_main_v44
  generalize h : val_main_v35 (F := Ideal) y0 y1 y2 y3 w x g a = z
  pointwise
  subst h
  exact context_entry y0 y1 y2 y3 w x g a _ _ l R (by dsimp only; omega)

theorem latent_row (q : Fin 4096) (l : Fin 4096) (R : Fin 12288) (hR : R.val = 8192 + q.val) :
    val_main_v45 (F := Ideal) y0 y1 y2 y3 w x g a (ix2 q l) = tokens y0 y1 y2 y3 w x g a (ix2 R l) := by
  unfold val_main_v45
  generalize h : val_main_v43 (F := Ideal) y0 y1 y2 y3 w x g a = z
  pointwise
  subst h
  exact latent_entry y0 y1 y2 y3 w x g a _ _ l R (by dsimp only; omega)

/-- The reference returns the new tokens. -/
theorem result_eq : val_main_v46 (F := Ideal) y0 y1 y2 y3 w x g a = tokens y0 y1 y2 y3 w x g a := by
  funext i
  obtain ⟨R, l, rfl⟩ : ∃ (R : Fin 12288) (l : Fin 4096), i = ix2 R l := ⟨i 0, i 1, eq_ix2 i⟩
  unfold val_main_v46
  generalize h4 : val_main_v44 (F := Ideal) y0 y1 y2 y3 w x g a = z4
  generalize h5 : val_main_v45 (F := Ideal) y0 y1 y2 y3 w x g a = z5
  generalize ht : tokens y0 y1 y2 y3 w x g a = z
  pointwise
  have hR := R.isLt
  split
  · subst h4 ht; exact context_row y0 y1 y2 y3 w x g a _ l R rfl
  · subst h5 ht; exact latent_row y0 y1 y2 y3 w x g a _ l R (by dsimp only; omega)

end Cert.Reference9Ideal.Meaning

namespace Cert.Proof.Residual

/-- The reference declares no semaphore, and its run leaves the arguments. -/
theorem reference_frame : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

/-- Both programs return the tokens with the gated mixture added. -/
theorem algebraic : Cert.algebraic_Kernel9Ideal_Reference9Ideal := fun m ρ m' ρ' _ hag =>
  ⟨fun c => _,
    (θ_run Cert.Kernel9Ideal.defs _ _).mono (fun _ h c => ⟨(h c).1.trans (Cert.Kernel9Ideal.Meaning.array_eq m c), (h c).2⟩)
      (Cert.Kernel9Ideal.Meaning.run_tokens m ρ),
    (θ_run Cert.Reference9Ideal.defs _ _).mono (fun _ h c => ⟨(h c).1.trans (by
        obtain ⟨e0, e1, e2, e3, e4, e5, e6, e7⟩ := hag c
        rw [Cert.Reference9Ideal.Read.val_main_v46_eq, Cert.Reference9Ideal.Meaning.result_eq, e0, e1, e2, e3, e4, e5, e6,
          e7]), (h c).2⟩)
      (Cert.Reference9Ideal.Value.run (F := Ideal) m' ρ')⟩

end Cert.Proof.Residual

end
-- ==== Proof.lean ====
/- The layer's calls, each a program of its own: every claim assembled from the modules that prove it. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Read
public import proofs.«01_k».proof.Proof.NaContext
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.Gen.Kernel2Ideal.Frame
public import proofs.«01_k».proof.Proof.Gen.Reference2Ideal.Read
public import proofs.«01_k».proof.Proof.ProjValue
public import proofs.«01_k».proof.Proof.Gen.Kernel3
public import proofs.«01_k».proof.Proof.Gen.Kernel3Ideal
public import proofs.«01_k».proof.Proof.Gen.Reference3Ideal
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Read
public import proofs.«01_k».proof.Proof.OutProj
public import proofs.«01_k».proof.Proof.Gen.Kernel4
public import proofs.«01_k».proof.Proof.Gen.Kernel4Ideal
public import proofs.«01_k».proof.Proof.Gen.Reference4Ideal
public import proofs.«01_k».proof.Proof.Gen.Reference4Ideal.Read
public import proofs.«01_k».proof.Proof.MlaKv
public import proofs.«01_k».proof.Proof.Gen.Kernel5
public import proofs.«01_k».proof.Proof.Gen.Kernel5Ideal
public import proofs.«01_k».proof.Proof.Gen.Reference5Ideal
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Read
public import proofs.«01_k».proof.Proof.MlaQ
public import proofs.«01_k».proof.Proof.Gen.Kernel6
public import proofs.«01_k».proof.Proof.Gen.Kernel6Ideal
public import proofs.«01_k».proof.Proof.Gen.Reference6Ideal
public import proofs.«01_k».proof.Proof.Gen.Reference6Ideal.Read
public import proofs.«01_k».proof.Proof.Gen.Pre_schedule6
public import proofs.«01_k».proof.Proof.Gen.On_visited6
public import proofs.«01_k».proof.Proof.Gen.Kernel6Ideal.Skeleton
public import proofs.«01_k».proof.Proof.Gen.Kernel6Ideal.Loops
public import proofs.«01_k».proof.Proof.Gen.Kernel6Ideal.Launch
public import proofs.«01_k».proof.Proof.Up
public import proofs.«01_k».proof.Proof.Gen.Kernel7
public import proofs.«01_k».proof.Proof.Gen.Kernel7Ideal
public import proofs.«01_k».proof.Proof.Gen.Reference7Ideal
public import proofs.«01_k».proof.Proof.Gen.Reference7Ideal.Read
public import proofs.«01_k».proof.Proof.Gen.Pre_schedule7
public import proofs.«01_k».proof.Proof.Gen.On_visited7
public import proofs.«01_k».proof.Proof.Gen.Kernel7Ideal.Skeleton
public import proofs.«01_k».proof.Proof.Gen.Kernel7Ideal.Loops
public import proofs.«01_k».proof.Proof.Gen.Kernel7Ideal.Launch
public import proofs.«01_k».proof.Proof.Down
public import proofs.«01_k».proof.Proof.Gen.Kernel8
public import proofs.«01_k».proof.Proof.Gen.Kernel8Ideal
public import proofs.«01_k».proof.Proof.Gen.Reference8Ideal
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Read
public import proofs.«01_k».proof.Proof.Retention
public import proofs.«01_k».proof.Proof.Gen.Kernel9
public import proofs.«01_k».proof.Proof.Gen.Kernel9Ideal
public import proofs.«01_k».proof.Proof.Gen.Reference9Ideal
public import proofs.«01_k».proof.Proof.Gen.Kernel9.Frame
public import proofs.«01_k».proof.Proof.Gen.Kernel9Ideal.Frame
public import proofs.«01_k».proof.Proof.Gen.Reference9Ideal.Read
public import proofs.«01_k».proof.Proof.Mixed
public import Idealize.ShloMosaic.Adequacy
public import Idealize.ShloMosaic.Init

@[expose] public section

noncomputable section

namespace Cert.Proof

open Idealize.ShloMosaic Idealize.SL.Sem

/-- Every claim about the calls taken. -/
theorem claim : Cert.Claim := ⟨
  Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Pre_finite.facts,
  Cert.Pre_schedule6.Gen.facts,
  Cert.Pre_schedule7.Gen.facts,
  Cert.On_visited6.Gen.facts,
  Cert.On_visited7.Gen.facts,
  fun m ρ _ => Cert.Kernel.Gen.frame m ρ,
  fun m ρ _ => Cert.KernelIdeal.Gen.frame m ρ,
  fun m ρ _ => Cert.KernelIdeal.Gen.frame m ρ,
  Cert.Proof.Context.reference_frame,
  Cert.Proof.Context.reference_frame_finite (hPre_finite := Cert.Pre_finite.facts),
  fun m ρ _ => Cert.Kernel2.Gen.frame m ρ,
  fun m ρ _ => Cert.Kernel2Ideal.Gen.frame m ρ,
  Cert.Proof.Projection.reference_frame,
  fun m ρ _ => Cert.Kernel3.Gen.frame m ρ,
  fun m ρ _ => Cert.Kernel3Ideal.Gen.frame m ρ,
  Cert.Proof.Combine.reference_frame,
  Cert.Proof.LatentKv.kernel_frame,
  Cert.Proof.LatentKv.kernel_ideal_frame,
  Cert.Proof.LatentKv.reference_frame,
  fun m ρ _ => Cert.Kernel5.Gen.frame m ρ,
  fun m ρ _ => Cert.Kernel5Ideal.Gen.frame m ρ,
  Cert.Proof.Queries.reference_frame,
  Cert.Kernel6Ideal.Step.frame_bits,
  Cert.Kernel6Ideal.Step.frame_ideal,
  Cert.Proof.Up.reference_frame,
  Cert.Proof.Up.reference_frame_schedule6,
  Cert.Kernel7Ideal.Step.frame_bits,
  Cert.Kernel7Ideal.Step.frame_ideal,
  Cert.Proof.Down.reference_frame,
  Cert.Proof.Down.reference_frame_schedule7,
  fun m ρ _ => Cert.Kernel8.Gen.frame m ρ,
  fun m ρ _ => Cert.Kernel8Ideal.Gen.frame m ρ,
  Cert.Proof.Retention.reference_frame,
  fun m ρ _ => Cert.Kernel9.Gen.frame m ρ,
  fun m ρ _ => Cert.Kernel9Ideal.Gen.frame m ρ,
  Cert.Proof.Residual.reference_frame,
  trivial,
  Cert.Proof.Context.algebraic (hPre_finite := Cert.Pre_finite.facts),
  trivial,
  Cert.Proof.Projection.algebraic,
  trivial,
  Cert.Proof.Combine.algebraic,
  trivial,
  Cert.Proof.LatentKv.algebraic,
  trivial,
  Cert.Proof.Queries.algebraic,
  trivial,
  Cert.Proof.Up.algebraic,
  trivial,
  Cert.Proof.Down.algebraic,
  trivial,
  Cert.Proof.Retention.algebraic,
  trivial,
  Cert.Proof.Residual.algebraic⟩

end Cert.Proof

end
